-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7)
      ∧ r.2.mem ((c.tc : Thread Cert.KernelOut.nD Cert.KernelOut.τ).loc Cert.KernelOut.main_arg8) = m ((c.tc : Thread Cert.KernelOut.nD Cert.KernelOut.τ).loc Cert.KernelOut.main_arg8)
      ∧ r.2.mem ((c.tc : Thread Cert.KernelOut.nD Cert.KernelOut.τ).loc Cert.KernelOut.main_arg9) = m ((c.tc : Thread Cert.KernelOut.nD Cert.KernelOut.τ).loc Cert.KernelOut.main_arg9)
      ∧ r.2.mem ((c.tc : Thread Cert.KernelOut.nD Cert.KernelOut.τ).loc Cert.KernelOut.main_arg10) = m ((c.tc : Thread Cert.KernelOut.nD Cert.KernelOut.τ).loc Cert.KernelOut.main_arg10)
      ∧ r.2.mem ((c.tc : Thread Cert.KernelOut.nD Cert.KernelOut.τ).loc Cert.KernelOut.main_arg11) = m ((c.tc : Thread Cert.KernelOut.nD Cert.KernelOut.τ).loc Cert.KernelOut.main_arg11)
      ∧ r.2.mem ((c.tc : Thread Cert.KernelOut.nD Cert.KernelOut.τ).loc Cert.KernelOut.main_arg12) = m ((c.tc : Thread Cert.KernelOut.nD Cert.KernelOut.τ).loc Cert.KernelOut.main_arg12)
      ∧ r.2.mem ((c.tc : Thread Cert.KernelOut.nD Cert.KernelOut.τ).loc Cert.KernelOut.main_arg13) = m ((c.tc : Thread Cert.KernelOut.nD Cert.KernelOut.τ).loc Cert.KernelOut.main_arg13)
      ∧ r.2.mem ((c.tc : Thread Cert.KernelOut.nD Cert.KernelOut.τ).loc Cert.KernelOut.main_arg14) = m ((c.tc : Thread Cert.KernelOut.nD Cert.KernelOut.τ).loc Cert.KernelOut.main_arg14)
      ∧ r.2.mem ((c.tc : Thread Cert.KernelOut.nD Cert.KernelOut.τ).loc Cert.KernelOut.main_arg15) = m ((c.tc : Thread Cert.KernelOut.nD Cert.KernelOut.τ).loc Cert.KernelOut.main_arg15)
      ∧ r.2.mem ((c.tc : Thread Cert.KernelOut.nD Cert.KernelOut.τ).loc Cert.KernelOut.main_arg16) = m ((c.tc : Thread Cert.KernelOut.nD Cert.KernelOut.τ).loc Cert.KernelOut.main_arg16))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
      ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9)
      ∧ r.2.mem ((c.tc : Thread Cert.KernelOutIdeal.nD Cert.KernelOutIdeal.τ).loc Cert.KernelOutIdeal.main_arg10) = m ((c.tc : Thread Cert.KernelOutIdeal.nD Cert.KernelOutIdeal.τ).loc Cert.KernelOutIdeal.main_arg10)
      ∧ r.2.mem ((c.tc : Thread Cert.KernelOutIdeal.nD Cert.KernelOutIdeal.τ).loc Cert.KernelOutIdeal.main_arg11) = m ((c.tc : Thread Cert.KernelOutIdeal.nD Cert.KernelOutIdeal.τ).loc Cert.KernelOutIdeal.main_arg11)
      ∧ r.2.mem ((c.tc : Thread Cert.KernelOutIdeal.nD Cert.KernelOutIdeal.τ).loc Cert.KernelOutIdeal.main_arg12) = m ((c.tc : Thread Cert.KernelOutIdeal.nD Cert.KernelOutIdeal.τ).loc Cert.KernelOutIdeal.main_arg12)
      ∧ r.2.mem ((c.tc : Thread Cert.KernelOutIdeal.nD Cert.KernelOutIdeal.τ).loc Cert.KernelOutIdeal.main_arg13) = m ((c.tc : Thread Cert.KernelOutIdeal.nD Cert.KernelOutIdeal.τ).loc Cert.KernelOutIdeal.main_arg13)
      ∧ r.2.mem ((c.tc : Thread Cert.KernelOutIdeal.nD Cert.KernelOutIdeal.τ).loc Cert.KernelOutIdeal.main_arg14) = m ((c.tc : Thread Cert.KernelOutIdeal.nD Cert.KernelOutIdeal.τ).loc Cert.KernelOutIdeal.main_arg14)
      ∧ r.2.mem ((c.tc : Thread Cert.KernelOutIdeal.nD Cert.KernelOutIdeal.τ).loc Cert.KernelOutIdeal.main_arg15) = m ((c.tc : Thread Cert.KernelOutIdeal.nD Cert.KernelOutIdeal.τ).loc Cert.KernelOutIdeal.main_arg15)
      ∧ r.2.mem ((c.tc : Thread Cert.KernelOutIdeal.nD Cert.KernelOutIdeal.τ).loc Cert.KernelOutIdeal.main_arg16) = m ((c.tc : Thread Cert.KernelOutIdeal.nD Cert.KernelOutIdeal.τ).loc Cert.KernelOutIdeal.main_arg16))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8)
      ∧ r.2.mem ((c.tc : Thread Cert.ReferenceOutIdeal.nD Cert.ReferenceOutIdeal.τ).loc Cert.ReferenceOutIdeal.main_arg9) = m ((c.tc : Thread Cert.ReferenceOutIdeal.nD Cert.ReferenceOutIdeal.τ).loc Cert.ReferenceOutIdeal.main_arg9)
      ∧ r.2.mem ((c.tc : Thread Cert.ReferenceOutIdeal.nD Cert.ReferenceOutIdeal.τ).loc Cert.ReferenceOutIdeal.main_arg10) = m ((c.tc : Thread Cert.ReferenceOutIdeal.nD Cert.ReferenceOutIdeal.τ).loc Cert.ReferenceOutIdeal.main_arg10)
      ∧ r.2.mem ((c.tc : Thread Cert.ReferenceOutIdeal.nD Cert.ReferenceOutIdeal.τ).loc Cert.ReferenceOutIdeal.main_arg11) = m ((c.tc : Thread Cert.ReferenceOutIdeal.nD Cert.ReferenceOutIdeal.τ).loc Cert.ReferenceOutIdeal.main_arg11)
      ∧ r.2.mem ((c.tc : Thread Cert.ReferenceOutIdeal.nD Cert.ReferenceOutIdeal.τ).loc Cert.ReferenceOutIdeal.main_arg12) = m ((c.tc : Thread Cert.ReferenceOutIdeal.nD Cert.ReferenceOutIdeal.τ).loc Cert.ReferenceOutIdeal.main_arg12)
      ∧ r.2.mem ((c.tc : Thread Cert.ReferenceOutIdeal.nD Cert.ReferenceOutIdeal.τ).loc Cert.ReferenceOutIdeal.main_arg13) = m ((c.tc : Thread Cert.ReferenceOutIdeal.nD Cert.ReferenceOutIdeal.τ).loc Cert.ReferenceOutIdeal.main_arg13)
      ∧ r.2.mem ((c.tc : Thread Cert.ReferenceOutIdeal.nD Cert.ReferenceOutIdeal.τ).loc Cert.ReferenceOutIdeal.main_arg14) = m ((c.tc : Thread Cert.ReferenceOutIdeal.nD Cert.ReferenceOutIdeal.τ).loc Cert.ReferenceOutIdeal.main_arg14)
      ∧ r.2.mem ((c.tc : Thread Cert.ReferenceOutIdeal.nD Cert.ReferenceOutIdeal.τ).loc Cert.ReferenceOutIdeal.main_arg15) = m ((c.tc : Thread Cert.ReferenceOutIdeal.nD Cert.ReferenceOutIdeal.τ).loc Cert.ReferenceOutIdeal.main_arg15)
      ∧ r.2.mem ((c.tc : Thread Cert.ReferenceOutIdeal.nD Cert.ReferenceOutIdeal.τ).loc Cert.ReferenceOutIdeal.main_arg16) = m ((c.tc : Thread Cert.ReferenceOutIdeal.nD Cert.ReferenceOutIdeal.τ).loc Cert.ReferenceOutIdeal.main_arg16))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)) →
    ∃ (v0 : (c : Dev Cert.KernelInIdeal.nD) → Buf (Elt Ideal) ((c.tc : Thread Cert.KernelInIdeal.nD Cert.KernelInIdeal.τ).loc Cert.KernelInIdeal.main_v16)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v16) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v241) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)
      ∧ m' ((c.tc : Thread Cert.ReferenceOutIdeal.nD Cert.ReferenceOutIdeal.τ).loc Cert.ReferenceOutIdeal.main_arg8) = m ((c.tc : Thread Cert.KernelOutIdeal.nD Cert.KernelOutIdeal.τ).loc Cert.KernelOutIdeal.main_arg8)
      ∧ m' ((c.tc : Thread Cert.ReferenceOutIdeal.nD Cert.ReferenceOutIdeal.τ).loc Cert.ReferenceOutIdeal.main_arg9) = m ((c.tc : Thread Cert.KernelOutIdeal.nD Cert.KernelOutIdeal.τ).loc Cert.KernelOutIdeal.main_arg9)
      ∧ m' ((c.tc : Thread Cert.ReferenceOutIdeal.nD Cert.ReferenceOutIdeal.τ).loc Cert.ReferenceOutIdeal.main_arg10) = m ((c.tc : Thread Cert.KernelOutIdeal.nD Cert.KernelOutIdeal.τ).loc Cert.KernelOutIdeal.main_arg10)
      ∧ m' ((c.tc : Thread Cert.ReferenceOutIdeal.nD Cert.ReferenceOutIdeal.τ).loc Cert.ReferenceOutIdeal.main_arg11) = m ((c.tc : Thread Cert.KernelOutIdeal.nD Cert.KernelOutIdeal.τ).loc Cert.KernelOutIdeal.main_arg11)
      ∧ m' ((c.tc : Thread Cert.ReferenceOutIdeal.nD Cert.ReferenceOutIdeal.τ).loc Cert.ReferenceOutIdeal.main_arg12) = m ((c.tc : Thread Cert.KernelOutIdeal.nD Cert.KernelOutIdeal.τ).loc Cert.KernelOutIdeal.main_arg12)
      ∧ m' ((c.tc : Thread Cert.ReferenceOutIdeal.nD Cert.ReferenceOutIdeal.τ).loc Cert.ReferenceOutIdeal.main_arg13) = m ((c.tc : Thread Cert.KernelOutIdeal.nD Cert.KernelOutIdeal.τ).loc Cert.KernelOutIdeal.main_arg13)
      ∧ m' ((c.tc : Thread Cert.ReferenceOutIdeal.nD Cert.ReferenceOutIdeal.τ).loc Cert.ReferenceOutIdeal.main_arg14) = m ((c.tc : Thread Cert.KernelOutIdeal.nD Cert.KernelOutIdeal.τ).loc Cert.KernelOutIdeal.main_arg14)
      ∧ m' ((c.tc : Thread Cert.ReferenceOutIdeal.nD Cert.ReferenceOutIdeal.τ).loc Cert.ReferenceOutIdeal.main_arg15) = m ((c.tc : Thread Cert.KernelOutIdeal.nD Cert.KernelOutIdeal.τ).loc Cert.KernelOutIdeal.main_arg15)
      ∧ m' ((c.tc : Thread Cert.ReferenceOutIdeal.nD Cert.ReferenceOutIdeal.τ).loc Cert.ReferenceOutIdeal.main_arg16) = m ((c.tc : Thread Cert.KernelOutIdeal.nD Cert.KernelOutIdeal.τ).loc Cert.KernelOutIdeal.main_arg16)) →
    ∃ (v0 : (c : Dev Cert.KernelOutIdeal.nD) → Buf (Elt Ideal) ((c.tc : Thread Cert.KernelOutIdeal.nD Cert.KernelOutIdeal.τ).loc Cert.KernelOutIdeal.main_v9_0)) (v1 : (c : Dev Cert.KernelOutIdeal.nD) → Buf (Elt Ideal) ((c.tc : Thread Cert.KernelOutIdeal.nD Cert.KernelOutIdeal.τ).loc Cert.KernelOutIdeal.main_v9_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v9_0) = v0 c
          ∧ r.2.mem ((c.tc : Thread Cert.KernelOutIdeal.nD Cert.KernelOutIdeal.τ).loc Cert.KernelOutIdeal.main_v9_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
          ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
          ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9)
          ∧ r.2.mem ((c.tc : Thread Cert.KernelOutIdeal.nD Cert.KernelOutIdeal.τ).loc Cert.KernelOutIdeal.main_arg10) = m ((c.tc : Thread Cert.KernelOutIdeal.nD Cert.KernelOutIdeal.τ).loc Cert.KernelOutIdeal.main_arg10)
          ∧ r.2.mem ((c.tc : Thread Cert.KernelOutIdeal.nD Cert.KernelOutIdeal.τ).loc Cert.KernelOutIdeal.main_arg11) = m ((c.tc : Thread Cert.KernelOutIdeal.nD Cert.KernelOutIdeal.τ).loc Cert.KernelOutIdeal.main_arg11)
          ∧ r.2.mem ((c.tc : Thread Cert.KernelOutIdeal.nD Cert.KernelOutIdeal.τ).loc Cert.KernelOutIdeal.main_arg12) = m ((c.tc : Thread Cert.KernelOutIdeal.nD Cert.KernelOutIdeal.τ).loc Cert.KernelOutIdeal.main_arg12)
          ∧ r.2.mem ((c.tc : Thread Cert.KernelOutIdeal.nD Cert.KernelOutIdeal.τ).loc Cert.KernelOutIdeal.main_arg13) = m ((c.tc : Thread Cert.KernelOutIdeal.nD Cert.KernelOutIdeal.τ).loc Cert.KernelOutIdeal.main_arg13)
          ∧ r.2.mem ((c.tc : Thread Cert.KernelOutIdeal.nD Cert.KernelOutIdeal.τ).loc Cert.KernelOutIdeal.main_arg14) = m ((c.tc : Thread Cert.KernelOutIdeal.nD Cert.KernelOutIdeal.τ).loc Cert.KernelOutIdeal.main_arg14)
          ∧ r.2.mem ((c.tc : Thread Cert.KernelOutIdeal.nD Cert.KernelOutIdeal.τ).loc Cert.KernelOutIdeal.main_arg15) = m ((c.tc : Thread Cert.KernelOutIdeal.nD Cert.KernelOutIdeal.τ).loc Cert.KernelOutIdeal.main_arg15)
          ∧ r.2.mem ((c.tc : Thread Cert.KernelOutIdeal.nD Cert.KernelOutIdeal.τ).loc Cert.KernelOutIdeal.main_arg16) = m ((c.tc : Thread Cert.KernelOutIdeal.nD Cert.KernelOutIdeal.τ).loc Cert.KernelOutIdeal.main_arg16))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v62) = v0 c
          ∧ r.2.mem ((c.tc : Thread Cert.ReferenceOutIdeal.nD Cert.ReferenceOutIdeal.τ).loc Cert.ReferenceOutIdeal.main_v75) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7)
          ∧ r.2.mem ((c.tc : Thread Cert.ReferenceOutIdeal.nD Cert.ReferenceOutIdeal.τ).loc Cert.ReferenceOutIdeal.main_arg8) = m' ((c.tc : Thread Cert.ReferenceOutIdeal.nD Cert.ReferenceOutIdeal.τ).loc Cert.ReferenceOutIdeal.main_arg8)
          ∧ r.2.mem ((c.tc : Thread Cert.ReferenceOutIdeal.nD Cert.ReferenceOutIdeal.τ).loc Cert.ReferenceOutIdeal.main_arg9) = m' ((c.tc : Thread Cert.ReferenceOutIdeal.nD Cert.ReferenceOutIdeal.τ).loc Cert.ReferenceOutIdeal.main_arg9)
          ∧ r.2.mem ((c.tc : Thread Cert.ReferenceOutIdeal.nD Cert.ReferenceOutIdeal.τ).loc Cert.ReferenceOutIdeal.main_arg10) = m' ((c.tc : Thread Cert.ReferenceOutIdeal.nD Cert.ReferenceOutIdeal.τ).loc Cert.ReferenceOutIdeal.main_arg10)
          ∧ r.2.mem ((c.tc : Thread Cert.ReferenceOutIdeal.nD Cert.ReferenceOutIdeal.τ).loc Cert.ReferenceOutIdeal.main_arg11) = m' ((c.tc : Thread Cert.ReferenceOutIdeal.nD Cert.ReferenceOutIdeal.τ).loc Cert.ReferenceOutIdeal.main_arg11)
          ∧ r.2.mem ((c.tc : Thread Cert.ReferenceOutIdeal.nD Cert.ReferenceOutIdeal.τ).loc Cert.ReferenceOutIdeal.main_arg12) = m' ((c.tc : Thread Cert.ReferenceOutIdeal.nD Cert.ReferenceOutIdeal.τ).loc Cert.ReferenceOutIdeal.main_arg12)
          ∧ r.2.mem ((c.tc : Thread Cert.ReferenceOutIdeal.nD Cert.ReferenceOutIdeal.τ).loc Cert.ReferenceOutIdeal.main_arg13) = m' ((c.tc : Thread Cert.ReferenceOutIdeal.nD Cert.ReferenceOutIdeal.τ).loc Cert.ReferenceOutIdeal.main_arg13)
          ∧ r.2.mem ((c.tc : Thread Cert.ReferenceOutIdeal.nD Cert.ReferenceOutIdeal.τ).loc Cert.ReferenceOutIdeal.main_arg14) = m' ((c.tc : Thread Cert.ReferenceOutIdeal.nD Cert.ReferenceOutIdeal.τ).loc Cert.ReferenceOutIdeal.main_arg14)
          ∧ r.2.mem ((c.tc : Thread Cert.ReferenceOutIdeal.nD Cert.ReferenceOutIdeal.τ).loc Cert.ReferenceOutIdeal.main_arg15) = m' ((c.tc : Thread Cert.ReferenceOutIdeal.nD Cert.ReferenceOutIdeal.τ).loc Cert.ReferenceOutIdeal.main_arg15)
          ∧ r.2.mem ((c.tc : Thread Cert.ReferenceOutIdeal.nD Cert.ReferenceOutIdeal.τ).loc Cert.ReferenceOutIdeal.main_arg16) = m' ((c.tc : Thread Cert.ReferenceOutIdeal.nD Cert.ReferenceOutIdeal.τ).loc Cert.ReferenceOutIdeal.main_arg16))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
-- ==== Pre_finite.lean ====
abbrev S8x4096x5376 : Shape := ⟨3, ![8, 4096, 5376]⟩
abbrev S8x4x512x2x64 : Shape := ⟨5, ![8, 4, 512, 2, 64]⟩
abbrev S8 : Shape := ⟨1, ![8]⟩
abbrev S8x4096x512 : Shape := ⟨3, ![8, 4096, 512]⟩
abbrev S_ : Shape := ⟨0, ![]⟩
abbrev S8x4096x128 : Shape := ⟨3, ![8, 4096, 128]⟩
abbrev S8x1x512x2x64 : Shape := ⟨5, ![8, 1, 512, 2, 64]⟩
abbrev S8x512x2x64 : Shape := ⟨4, ![8, 512, 2, 64]⟩

class Facts : Prop where
  slices_S8x4096x5376_S8x4096x512_0_0_2048 : S8x4096x5376.Slices ![0, 0, 2048] S8x4096x512
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  slices_S8x4096x5376_S8x4096x128_0_0_5120 : S8x4096x5376.Slices ![0, 0, 5120] S8x4096x128
  bcast_S_S8x4096x128 : S_.BroadcastsInDim S8x4096x128 (![] : Fin 0 → Fin S8x4096x128.rank)
  reducesTo_S8x4096x128_S_d0_1_2 : S8x4096x128.ReducesTo [0, 1, 2] S_
  slices_S8x4x512x2x64_S8x1x512x2x64_0_0_0_0_0 : S8x4x512x2x64.Slices ![0, 0, 0, 0, 0] S8x1x512x2x64
  shapeCasts_S8x1x512x2x64_S8x512x2x64 : S8x1x512x2x64.ShapeCasts S8x512x2x64
  bcast_S_S8x512x2x64 : S_.BroadcastsInDim S8x512x2x64 (![] : Fin 0 → Fin S8x512x2x64.rank)
  reducesTo_S8x512x2x64_S_d0_1_2_3 : S8x512x2x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_arg3 : FVec F S8 .f32) (main_v17 : IVec S_ 1) : IVec S_ 1 :=
  let main_v18 : FVec F S8 .f32 := Host.absf main_arg3
  let main_cst_4 : FVec F S_ .f32 := constant S_ .f32 0x7F800000#32
  let main_v19 : FVec F S8 .f32 := broadcastInDim S8 ![] bcast_S_S8 main_cst_4
  let main_v20 : IVec S8 1 := cmpf .olt main_v18 main_v19
  let main_c_5 : IVec S_ 1 := constantI S_ 1 1#1
  let main_v21 : IVec S_ 1 := (fun x v => Host.reduce IntOp.andi x v reducesTo_S8_S_d0 h_S_) main_v20 main_c_5
  let main_v22 : IVec S_ 1 := andi main_v17 main_v21
  main_v22

def fn {F : FTy → Type} [FloatOps F] (main_arg0 : FVec F S8x4096x5376 .f32) (main_arg1 : FVec F S8x4x512x2x64 .f32) (main_arg2 : FVec F S8x4x512x2x64 .f32) (main_arg3 : FVec F S8 .f32) : IVec S_ 1 :=
  let main_v0 : FVec F S8x4096x512 .f32 := (extractStridedSlice S8x4096x512 ![0, 0, 2048] · slices_S8x4096x5376_S8x4096x512_0_0_2048) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_c : IVec S_ 1 := constantI S_ 1 1#1
  let main_v4 : IVec S_ 1 := (fun x v => Host.reduce IntOp.andi x v reducesTo_S8x4096x512_S_d0_1_2 h_S_) main_v3 main_c
  let main_v5 : FVec F S8x4096x128 .f32 := (extractStridedSlice S8x4096x128 ![0, 0, 5120] · slices_S8x4096x5376_S8x4096x128_0_0_5120) main_arg0
  let main_v6 : FVec F S8x4096x128 .f32 := Host.absf main_v5
  let main_cst_0 : FVec F S_ .f32 := constant S_ .f32 0x7F800000#32
  let main_v7 : FVec F S8x4096x128 .f32 := broadcastInDim S8x4096x128 ![] bcast_S_S8x4096x128 main_cst_0
  let main_v8 : IVec S8x4096x128 1 := cmpf .olt main_v6 main_v7
  let main_c_1 : IVec S_ 1 := constantI S_ 1 1#1
  let main_v9 : IVec S_ 1 := (fun x v => Host.reduce IntOp.andi x v reducesTo_S8x4096x128_S_d0_1_2 h_S_) main_v8 main_c_1
  let main_v10 : IVec S_ 1 := andi main_v4 main_v9
  let main_v11 : FVec F S8x1x512x2x64 .f32 := (extractStridedSlice S8x1x512x2x64 ![0, 0, 0, 0, 0] · slices_S8x4x512x2x64_S8x1x512x2x64_0_0_0_0_0) main_arg1
  let main_v12 : FVec F S8x512x2x64 .f32 := shapeCast S8x512x2x64 main_v11 shapeCasts_S8x1x512x2x64_S8x512x2x64
  let main_v13 : FVec F S8x512x2x64 .f32 := Host.absf main_v12
  let main_cst_2 : FVec F S_ .f32 := constant S_ .f32 0x7F800000#32
  let main_v14 : FVec F S8x512x2x64 .f32 := broadcastInDim S8x512x2x64 ![] bcast_S_S8x512x2x64 main_cst_2
  let main_v15 : IVec S8x512x2x64 1 := cmpf .olt main_v13 main_v14
  let main_c_3 : IVec S_ 1 := constantI S_ 1 1#1
  let main_v16 : IVec S_ 1 := (fun x v => Host.reduce IntOp.andi x v reducesTo_S8x512x2x64_S_d0_1_2_3 h_S_) main_v15 main_c_3
  let main_v17 : IVec S_ 1 := andi main_v10 main_v16
  fn_part1 (F := F) main_arg3 main_v17
-- ==== Kernel.lean ====
abbrev S8x4096x5376 : Shape := ⟨3, ![8, 4096, 5376]⟩
abbrev S8x4x512x2x64 : Shape := ⟨5, ![8, 4, 512, 2, 64]⟩
abbrev S8 : Shape := ⟨1, ![8]⟩
abbrev S8x4x512x128 : Shape := ⟨4, ![8, 4, 512, 128]⟩
abbrev S8x4096x512 : Shape := ⟨3, ![8, 4096, 512]⟩
abbrev S1x1024x512 : Shape := ⟨3, ![1, 1024, 512]⟩
abbrev S1x128x128 : Shape := ⟨3, ![1, 128, 128]⟩
abbrev S1x1024x128 : Shape := ⟨3, ![1, 1024, 128]⟩
abbrev S1x1x512x128 : Shape := ⟨4, ![1, 1, 512, 128]⟩
abbrev S512x128 : Shape := ⟨2, ![512, 128]⟩
abbrev S128x128 : Shape := ⟨2, ![128, 128]⟩
abbrev S896x128 : Shape := ⟨2, ![896, 128]⟩
abbrev S128x512 : Shape := ⟨2, ![128, 512]⟩
abbrev S1x128x512 : Shape := ⟨3, ![1, 128, 512]⟩
abbrev S896x64 : Shape := ⟨2, ![896, 64]⟩
abbrev S128x64 : Shape := ⟨2, ![128, 64]⟩
abbrev S512x64 : Shape := ⟨2, ![512, 64]⟩
abbrev S896x512 : Shape := ⟨2, ![896, 512]⟩
abbrev S512x512 : Shape := ⟨2, ![512, 512]⟩
abbrev S1x512 : Shape := ⟨2, ![1, 512]⟩
abbrev S1 : Shape := ⟨1, ![1]⟩
abbrev S512 : Shape := ⟨1, ![512]⟩
abbrev S64x512 : Shape := ⟨2, ![64, 512]⟩
abbrev S64x128 : Shape := ⟨2, ![64, 128]⟩

abbrev nBuf : Space → Nat
  | .hbm => 7
  | .vmem => 22
  | .smem => 1
  | _ => 0

abbrev bufTy : (tb : Table) → Fin (tcTables nBuf tb) → BufTy
  | .hbm, ⟨0, _⟩ => ⟨S8x4096x5376, .f32⟩
  | .hbm, ⟨1, _⟩ => ⟨S8x4x512x2x64, .f32⟩
  | .hbm, ⟨2, _⟩ => ⟨S8x4x512x2x64, .f32⟩
  | .hbm, ⟨3, _⟩ => ⟨S8, .f32⟩
  | .hbm, ⟨4, _⟩ => ⟨S8x4x512x128, .f32⟩
  | .hbm, ⟨5, _⟩ => ⟨S8x4x512x128, .f32⟩
  | .hbm, ⟨6, _⟩ => ⟨S8x4096x512, .f32⟩
  | .local _ .vmem, ⟨0, _⟩ => ⟨S1x1024x512, .f32⟩
  | .local _ .vmem, ⟨1, _⟩ => ⟨S1x1024x512, .f32⟩
  | .local _ .vmem, ⟨2, _⟩ => ⟨S1x128x128, .f32⟩
  | .local _ .vmem, ⟨3, _⟩ => ⟨S1x128x128, .f32⟩
  | .local _ .vmem, ⟨4, _⟩ => ⟨S1x1024x128, .f32⟩
  | .local _ .vmem, ⟨5, _⟩ => ⟨S1x1024x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x1024x128, .f32⟩
  | .local _ .vmem, ⟨11, _⟩ => ⟨S1x1024x128, .f32⟩
  | .local _ .vmem, ⟨12, _⟩ => ⟨S1x128x128, .f32⟩
  | .local _ .vmem, ⟨13, _⟩ => ⟨S1x128x128, .f32⟩
  | .local _ .vmem, ⟨14, _⟩ => ⟨S1x1x512x128, .f32⟩
  | .local _ .vmem, ⟨15, _⟩ => ⟨S1x1x512x128, .f32⟩
  | .local _ .vmem, ⟨16, _⟩ => ⟨S1x1x512x128, .f32⟩
  | .local _ .vmem, ⟨17, _⟩ => ⟨S1x1x512x128, .f32⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | .local _ .vmem, ⟨21, _⟩ => ⟨S1x1024x512, .f32⟩
  | .local _ .smem, ⟨0, _⟩ => ⟨S8, .f32⟩
  | _, _ => ⟨S8x4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c40_i32 : BitVec 32 := 40#32
  let c0_i32_0 : BitVec 32 := 0#32
  ![arg0.toNat, v2.toNat, c40_i32.toNat]

def cc0_transform_3 (i : grid0.Coords) : Fin 3 → Nat :=
  let arg0 : BitVec 32 := BitVec.ofNat 32 (i 0).val
  let arg1 : BitVec 32 := BitVec.ofNat 32 (i 1).val
  let c40_i32 : BitVec 32 := 40#32
  let c0_i32 : BitVec 32 := 0#32
  ![arg0.toNat, arg1.toNat, c40_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c8_i32_0 : BitVec 32 := 8#32
  let v1 : BitVec 32 := Scalar.addi v0 c8_i32_0
  let c31_i32 : BitVec 32 := 31#32
  let v2 : BitVec 32 := Scalar.minsi v1 c31_i32
  let c40_i32 : BitVec 32 := 40#32
  let c0_i32 : BitVec 32 := 0#32
  ![arg0.toNat, v2.toNat, c40_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c41_i32 : BitVec 32 := 41#32
  let c0_i32_0 : BitVec 32 := 0#32
  ![arg0.toNat, v2.toNat, c41_i32.toNat]

def cc0_transform_6 (i : grid0.Coords) : Fin 3 → Nat :=
  let arg0 : BitVec 32 := BitVec.ofNat 32 (i 0).val
  let arg1 : BitVec 32 := BitVec.ofNat 32 (i 1).val
  let c41_i32 : BitVec 32 := 41#32
  let c0_i32 : BitVec 32 := 0#32
  ![arg0.toNat, arg1.toNat, c41_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c8_i32_0 : BitVec 32 := 8#32
  let v1 : BitVec 32 := Scalar.addi v0 c8_i32_0
  let c31_i32 : BitVec 32 := 31#32
  let v2 : BitVec 32 := Scalar.minsi v1 c31_i32
  let c41_i32 : BitVec 32 := 41#32
  let c0_i32 : BitVec 32 := 0#32
  ![arg0.toNat, v2.toNat, c41_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "q_scale" => some ((8⁻¹ * (Real.log 2)⁻¹ : ℝ) : EReal)
  | _ => none
-- ==== ReferenceIdeal.lean ====
abbrev S8x4096x5376 : Shape := ⟨3, ![8, 4096, 5376]⟩
abbrev S8x4x512x2x64 : Shape := ⟨5, ![8, 4, 512, 2, 64]⟩
abbrev S8 : Shape := ⟨1, ![8]⟩
abbrev S8x4096x512 : Shape := ⟨3, ![8, 4096, 512]⟩
abbrev S8x4096x128 : Shape := ⟨3, ![8, 4096, 128]⟩
abbrev S8x32x128x2x4x64 : Shape := ⟨6, ![8, 32, 128, 2, 4, 64]⟩
abbrev S8x1x512x2x64 : Shape := ⟨5, ![8, 1, 512, 2, 64]⟩
abbrev S8x512x2x64 : Shape := ⟨4, ![8, 512, 2, 64]⟩
abbrev S_ : Shape := ⟨0, ![]⟩
abbrev S8x4352x128 : Shape := ⟨3, ![8, 4352, 128]⟩
abbrev S8x34x128x2x64 : Shape := ⟨5, ![8, 34, 128, 2, 64]⟩
abbrev S8x32x512x2x64 : Shape := ⟨5, ![8, 32, 512, 2, 64]⟩
abbrev S8x32x128x2x64 : Shape := ⟨5, ![8, 32, 128, 2, 64]⟩
abbrev S8x32x896x2x64 : Shape := ⟨5, ![8, 32, 896, 2, 64]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S32x128x512 : Shape := ⟨3, ![32, 128, 512]⟩
abbrev S32x128x896 : Shape := ⟨3, ![32, 128, 896]⟩
abbrev S8x32x2x896x128x4 : Shape := ⟨6, ![8, 32, 2, 896, 128, 4]⟩
abbrev S8x32x2x4x128x896 : Shape := ⟨6, ![8, 32, 2, 4, 128, 896]⟩
abbrev S1x32x1x1x128x896 : Shape := ⟨6, ![1, 32, 1, 1, 128, 896]⟩
abbrev S2x4 : Shape := ⟨2, ![2, 4]⟩
abbrev S1x1x2x4x1x1 : Shape := ⟨6, ![1, 1, 2, 4, 1, 1]⟩
abbrev S8x32x2x4x128 : Shape := ⟨5, ![8, 32, 2, 4, 128]⟩
abbrev S8x32x2x4x128x1 : Shape := ⟨6, ![8, 32, 2, 4, 128, 1]⟩
abbrev S8x32x2x64x4x128 : Shape := ⟨6, ![8, 32, 2, 64, 4, 128]⟩

abbrev nBuf : Space → Nat
  | .hbm => 112
  | .vmem => 0
  | .smem => 0
  | _ => 0

abbrev bufTy : (tb : Table) → Fin (tcTables nBuf tb) → BufTy
  | .hbm, ⟨0, _⟩ => ⟨S8x4096x5376, .f32⟩
  | .hbm, ⟨1, _⟩ => ⟨S8x4x512x2x64, .f32⟩
  | .hbm, ⟨2, _⟩ => ⟨S8x4x512x2x64, .f32⟩
  | .hbm, ⟨3, _⟩ => ⟨S8, .f32⟩
  | .hbm, ⟨4, _⟩ => ⟨S8x4096x512, .f32⟩
  | .hbm, ⟨5, _⟩ => ⟨S8x4096x512, .f32⟩
  | .hbm, ⟨6, _⟩ => ⟨S8x4096x128, .f32⟩
  | .hbm, ⟨7, _⟩ => ⟨S8x4096x128, .f32⟩
  | .hbm, ⟨8, _⟩ => ⟨S8x32x128x2x4x64, .f32⟩
  | .hbm, ⟨9, _⟩ => ⟨S8x1x512x2x64, .f32⟩
  | .hbm, ⟨10, _⟩ => ⟨S8x512x2x64, .f32⟩
  | .hbm, ⟨11, _⟩ => ⟨S8x1x512x2x64, .f32⟩
  | .hbm, ⟨12, _⟩ => ⟨S8x512x2x64, .f32⟩
  | .hbm, ⟨13, _⟩ => ⟨S_, .i32⟩
  | .hbm, ⟨14, _⟩ => ⟨S_, .f32⟩
  | .hbm, ⟨15, _⟩ => ⟨S8x4352x128, .f32⟩
  | .hbm, ⟨16, _⟩ => ⟨S8x34x128x2x64, .f32⟩
  | .hbm, ⟨17, _⟩ => ⟨S8x1x512x2x64, .f32⟩
  | .hbm, ⟨18, _⟩ => ⟨S8x32x512x2x64, .f32⟩
  | .hbm, ⟨19, _⟩ => ⟨S8x32x128x2x64, .f32⟩
  | .hbm, ⟨20, _⟩ => ⟨S8x32x128x2x64, .f32⟩
  | .hbm, ⟨21, _⟩ => ⟨S8x32x128x2x64, .f32⟩
  | .hbm, ⟨22, _⟩ => ⟨S8x32x896x2x64, .f32⟩
  | .hbm, ⟨23, _⟩ => ⟨S_, .i32⟩
  | .hbm, ⟨24, _⟩ => ⟨S_, .f32⟩
  | .hbm, ⟨25, _⟩ => ⟨S8x4352x128, .f32⟩
  | .hbm, ⟨26, _⟩ => ⟨S8x34x128x2x64, .f32⟩
  | .hbm, ⟨27, _⟩ => ⟨S8x1x512x2x64, .f32⟩
  | .hbm, ⟨28, _⟩ => ⟨S8x32x512x2x64, .f32⟩
  | .hbm, ⟨29, _⟩ => ⟨S8x32x128x2x64, .f32⟩
  | .hbm, ⟨30, _⟩ => ⟨S8x32x128x2x64, .f32⟩
  | .hbm, ⟨31, _⟩ => ⟨S8x32x128x2x64, .f32⟩
  | .hbm, ⟨32, _⟩ => ⟨S8x32x896x2x64, .f32⟩
  | .hbm, ⟨33, _⟩ => ⟨S384, .i32⟩
  | .hbm, ⟨34, _⟩ => ⟨S1x384, .i32⟩
  | .hbm, ⟨35, _⟩ => ⟨S_, .i32⟩
  | .hbm, ⟨36, _⟩ => ⟨S1x384, .i32⟩
  | .hbm, ⟨37, _⟩ => ⟨S1x384, .i32⟩
  | .hbm, ⟨38, _⟩ => ⟨S128, .i32⟩
  | .hbm, ⟨39, _⟩ => ⟨S128x1, .i32⟩
  | .hbm, ⟨40, _⟩ => ⟨S128x384, .i32⟩
  | .hbm, ⟨41, _⟩ => ⟨S128x384, .i32⟩
  | .hbm, ⟨42, _⟩ => ⟨S128x384, .i32⟩
  | .hbm, ⟨43, _⟩ => ⟨S32, .i32⟩
  | .hbm, ⟨44, _⟩ => ⟨S32x1, .i32⟩
  | .hbm, ⟨45, _⟩ => ⟨S_, .i32⟩
  | .hbm, ⟨46, _⟩ => ⟨S32x1, .i32⟩
  | .hbm, ⟨47, _⟩ => ⟨S32x1, .i32⟩
  | .hbm, ⟨48, _⟩ => ⟨S_, .i32⟩
  | .hbm, ⟨49, _⟩ => ⟨S32x1, .i32⟩
  | .hbm, ⟨50, _⟩ => ⟨S32x1, .i32⟩
  | .hbm, ⟨51, _⟩ => ⟨S384, .i32⟩
  | .hbm, ⟨52, _⟩ => ⟨S1x384, .i32⟩
  | .hbm, ⟨53, _⟩ => ⟨S32x384, .i32⟩
  | .hbm, ⟨54, _⟩ => ⟨S32x384, .i32⟩
  | .hbm, ⟨55, _⟩ => ⟨S32x384, .i32⟩
  | .hbm, ⟨56, _⟩ => ⟨S128x384, .i32⟩
  | .hbm, ⟨57, _⟩ => ⟨S_, .i32⟩
  | .hbm, ⟨58, _⟩ => ⟨S128x384, .i32⟩
  | .hbm, ⟨59, _⟩ => ⟨S128x384, .i1⟩
  | .hbm, ⟨60, _⟩ => ⟨S1x128x384, .i1⟩
  | .hbm, ⟨61, _⟩ => ⟨S_, .i32⟩
  | .hbm, ⟨62, _⟩ => ⟨S32x384, .i32⟩
  | .hbm, ⟨63, _⟩ => ⟨S32x384, .i1⟩
  | .hbm, ⟨64, _⟩ => ⟨S_, .i32⟩
  | .hbm, ⟨65, _⟩ => ⟨S32x384, .i32⟩
  | .hbm, ⟨66, _⟩ => ⟨S32x384, .i1⟩
  | .hbm, ⟨67, _⟩ => ⟨S32x384, .i1⟩
  | .hbm, ⟨68, _⟩ => ⟨S32x1x384, .i1⟩
  | .hbm, ⟨69, _⟩ => ⟨S32x128x384, .i1⟩
  | .hbm, ⟨70, _⟩ => ⟨S32x128x384, .i1⟩
  | .hbm, ⟨71, _⟩ => ⟨S32x128x384, .i1⟩
  | .hbm, ⟨72, _⟩ => ⟨S_, .f32⟩
  | .hbm, ⟨73, _⟩ => ⟨S_, .f32⟩
  | .hbm, ⟨74, _⟩ => ⟨S32x128x384, .f32⟩
  | .hbm, ⟨75, _⟩ => ⟨S32x128x384, .f32⟩
  | .hbm, ⟨76, _⟩ => ⟨S32x128x384, .f32⟩
  | .hbm, ⟨77, _⟩ => ⟨S_, .f32⟩
  | .hbm, ⟨78, _⟩ => ⟨S32x128x512, .f32⟩
  | .hbm, ⟨79, _⟩ => ⟨S32x128x384, .f32⟩
  | .hbm, ⟨80, _⟩ => ⟨S32x128x896, .f32⟩
  | .hbm, ⟨81, _⟩ => ⟨S8x32x2x896x128x4, .f32⟩
  | .hbm, ⟨82, _⟩ => ⟨S8x32x2x4x128x896, .f32⟩
  | .hbm, ⟨83, _⟩ => ⟨S_, .f32⟩
  | .hbm, ⟨84, _⟩ => ⟨S8x32x2x4x128x896, .f32⟩
  | .hbm, ⟨85, _⟩ => ⟨S8x32x2x4x128x896, .f32⟩
  | .hbm, ⟨86, _⟩ => ⟨S1x32x1x1x128x896, .f32⟩
  | .hbm, ⟨87, _⟩ => ⟨S8x32x2x4x128x896, .f32⟩
  | .hbm, ⟨88, _⟩ => ⟨S8x32x2x4x128x896, .f32⟩
  | .hbm, ⟨89, _⟩ => ⟨S2x4, .f32⟩
  | .hbm, ⟨90, _⟩ => ⟨S1x1x2x4x1x1, .f32⟩
  | .hbm, ⟨91, _⟩ => ⟨S_, .f32⟩
  | .hbm, ⟨92, _⟩ => ⟨S8x32x2x4x128, .f32⟩
  | .hbm, ⟨93, _⟩ => ⟨S8x32x2x4x128x1, .f32⟩
  | .hbm, ⟨94, _⟩ => ⟨S8x32x2x4x128x1, .f32⟩
  | .hbm, ⟨95, _⟩ => ⟨S8x32x2x4x128x1, .f32⟩
  | .hbm, ⟨96, _⟩ => ⟨S8x32x2x4x128x896, .f32⟩
  | .hbm, ⟨97, _⟩ => ⟨S8x32x2x4x128x896, .f32⟩
  | .hbm, ⟨98, _⟩ => ⟨S8x32x2x4x128x896, .f32⟩
  | .hbm, ⟨99, _⟩ => ⟨S_, .f32⟩
  | .hbm, ⟨100, _⟩ => ⟨S8x32x2x4x128, .f32⟩
  | .hbm, ⟨101, _⟩ => ⟨S8x32x2x4x128x1, .f32⟩
  | .hbm, ⟨102, _⟩ => ⟨S8x32x2x4x128x1, .f32⟩
  | .hbm, ⟨103, _⟩ => ⟨S8x32x2x4x128x1, .f32⟩
  | .hbm, ⟨104, _⟩ => ⟨S8x32x2x4x128x1, .f32⟩
  | .hbm, ⟨105, _⟩ => ⟨S8x32x2x4x128x1, .f32⟩
  | .hbm, ⟨106, _⟩ => ⟨S8x32x2x4x128x896, .f32⟩
  | .hbm, ⟨107, _⟩ => ⟨S8x32x2x4x128x896, .f32⟩
  | .hbm, ⟨108, _⟩ => ⟨S8x32x2x64x4x128, .f32⟩
  | .hbm, ⟨109, _⟩ => ⟨S8x32x128x2x4x64, .f32⟩
  | .hbm, ⟨110, _⟩ => ⟨S8x4096x512, .f32⟩
  | .hbm, ⟨111, _⟩ => ⟨S8x4096x512, .f32⟩
  | _, _ => ⟨S8x4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_call1_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_5 : Ref sig .tc := ⟨.hbm, 61, rfl⟩
abbrev main_v49 : Ref sig .tc := ⟨.hbm, 62, rfl⟩
abbrev main_v50 : Ref sig .tc := ⟨.hbm, 63, rfl⟩
abbrev main_c_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst : Ref sig .tc := ⟨.hbm, 72, rfl⟩
abbrev main_cst_7 : Ref sig .tc := ⟨.hbm, 73, rfl⟩
abbrev main_call2_v0 : Ref sig .tc := ⟨.hbm, 74, rfl⟩
abbrev main_call2_v1 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_10 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_11 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩

abbrev nD : Nat := 1
abbrev τ : Topo := Topo.v7x

variable {F : FTy → Type} [FloatOps F]
-- ==== KernelIn.lean ====
abbrev S8x4096x1024 : Shape := ⟨3, ![8, 4096, 1024]⟩
abbrev S8x1x1024 : Shape := ⟨3, ![8, 1, 1024]⟩
abbrev S1024 : Shape := ⟨1, ![1024]⟩
abbrev S1024x5376 : Shape := ⟨2, ![1024, 5376]⟩
abbrev S4096x32 : Shape := ⟨2, ![4096, 32]⟩
abbrev S4096x16 : Shape := ⟨2, ![4096, 16]⟩
abbrev S4096x64 : Shape := ⟨2, ![4096, 64]⟩
abbrev S4096x128 : Shape := ⟨2, ![4096, 128]⟩
abbrev S1x1024 : Shape := ⟨2, ![1, 1024]⟩
abbrev S8x4096x5376 : Shape := ⟨3, ![8, 4096, 5376]⟩
abbrev S1x512x1024 : Shape := ⟨3, ![1, 512, 1024]⟩
abbrev S1x1x1024 : Shape := ⟨3, ![1, 1, 1024]⟩
abbrev S512x128 : Shape := ⟨2, ![512, 128]⟩
abbrev S1x512x5376 : Shape := ⟨3, ![1, 512, 5376]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x512 : Shape := ⟨2, ![512, 512]⟩
abbrev S1x512x512 : Shape := ⟨3, ![1, 512, 512]⟩
abbrev S1x512x128 : Shape := ⟨3, ![1, 512, 128]⟩
abbrev S1024x128 : Shape := ⟨2, ![1024, 128]⟩
abbrev S256x128 : Shape := ⟨2, ![256, 128]⟩

abbrev nBuf : Space → Nat
  | .hbm => 24
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x5376, .f32⟩
  | .hbm, ⟨5, _⟩ => ⟨S4096x32, .f32⟩
  | .hbm, ⟨6, _⟩ => ⟨S4096x32, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x64, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x64, .f32⟩
  | .hbm, ⟨19, _⟩ => ⟨S4096x128, .f32⟩
  | .hbm, ⟨20, _⟩ => ⟨S4096x128, .f32⟩
  | .hbm, ⟨21, _⟩ => ⟨S1x1024, .f32⟩
  | .hbm, ⟨22, _⟩ => ⟨S1024x5376, .bf16⟩
  | .hbm, ⟨23, _⟩ => ⟨S8x4096x5376, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5376, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x5376, .f32⟩
  | .local _ .vmem, ⟨13, _⟩ => ⟨S1x512x5376, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x5376 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceInIdeal.lean ====
abbrev S8x4096x1024 : Shape := ⟨3, ![8, 4096, 1024]⟩
abbrev S8x1x1024 : Shape := ⟨3, ![8, 1, 1024]⟩
abbrev S1024 : Shape := ⟨1, ![1024]⟩
abbrev S1024x5376 : Shape := ⟨2, ![1024, 5376]⟩
abbrev S4096x32 : Shape := ⟨2, ![4096, 32]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5376 : Shape := ⟨3, ![8, 4096, 5376]⟩
abbrev S8x4096x1536 : Shape := ⟨3, ![8, 4096, 1536]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S8x4096x8x32 : Shape := ⟨4, ![8, 4096, 8, 32]⟩
abbrev S4096x16 : Shape := ⟨2, ![4096, 16]⟩
abbrev S4096x1x16 : Shape := ⟨3, ![4096, 1, 16]⟩
abbrev S8x4096x8x16 : Shape := ⟨4, ![8, 4096, 8, 16]⟩
abbrev S1x4096x1x16 : Shape := ⟨4, ![1, 4096, 1, 16]⟩
abbrev S8x4096x2x64 : Shape := ⟨4, ![8, 4096, 2, 64]⟩
abbrev S8x4096x2x32 : Shape := ⟨4, ![8, 4096, 2, 32]⟩
abbrev S8x4096x2x16 : Shape := ⟨4, ![8, 4096, 2, 16]⟩

abbrev nBuf : Space → Nat
  | .hbm => 260
  | .vmem => 0
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1024, .f32⟩
  | 4 => ⟨S1024x5376, .f32⟩
  | 5 => ⟨S4096x32, .f32⟩
  | 6 => ⟨S4096x32, .f32⟩
  | 7 => ⟨S8x4096x1024, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x1024, .f32⟩
  | 19 => ⟨S8x4096x1024, .f32⟩
  | 20 => ⟨S1x1x1024, .f32⟩
  | 21 => ⟨S8x4096x1024, .f32⟩
  | 22 => ⟨S8x4096x1024, .f32⟩
  | 23 => ⟨S_, .f32⟩
  | 24 => ⟨S8x1x1024, .f32⟩
  | 25 => ⟨S8x1x1024, .f32⟩
  | 26 => ⟨S8x4096x1024, .f32⟩
  | 27 => ⟨S8x4096x1024, .f32⟩
  | 28 => ⟨S8x4096x1024, .f32⟩
  | 29 => ⟨S8x4096x1024, .f32⟩
  | 30 => ⟨S8x4096x5376, .f32⟩
  | 31 => ⟨S8x4096x1536, .f32⟩
  | 32 => ⟨S8x4096x512, .f32⟩
  | 33 => ⟨S8x4096x512, .f32⟩
  | 34 => ⟨S8x4096x128, .f32⟩
  | 35 => ⟨S8x4096x128, .f32⟩
  | 36 => ⟨S8x4096x512, .f32⟩
  | 37 => ⟨S8x4096x512, .f32⟩
  | 38 => ⟨S8x4096x512, .f32⟩
  | 39 => ⟨S8x4096x512, .f32⟩
  | 40 => ⟨S8x4096x512, .f32⟩
  | 41 => ⟨S8x4096x512, .f32⟩
  | 42 => ⟨S8x4096x512, .f32⟩
  | 43 => ⟨S_, .f32⟩
  | 44 => ⟨S8x4096x512, .f32⟩
  | 45 => ⟨S8x4096x512, .f32⟩
  | 46 => ⟨S_, .f32⟩
  | 47 => ⟨S8x4096x512, .f32⟩
  | 48 => ⟨S8x4096x512, .f32⟩
  | 49 => ⟨S8x4096x512, .f32⟩
  | 50 => ⟨S8x4096x8x64, .f32⟩
  | 51 => ⟨S8x4096x8x32, .f32⟩
  | 52 => ⟨S4096x16, .f32⟩
  | 53 => ⟨S4096x1x16, .f32⟩
  | 54 => ⟨S4096x16, .f32⟩
  | 55 => ⟨S4096x1x16, .f32⟩
  | 56 => ⟨S8x4096x8x16, .f32⟩
  | 57 => ⟨S8x4096x8x16, .f32⟩
  | 58 => ⟨S1x4096x1x16, .f32⟩
  | 59 => ⟨S8x4096x8x16, .f32⟩
  | 60 => ⟨S8x4096x8x16, .f32⟩
  | 61 => ⟨S1x4096x1x16, .f32⟩
  | 62 => ⟨S8x4096x8x16, .f32⟩
  | 63 => ⟨S8x4096x8x16, .f32⟩
  | 64 => ⟨S8x4096x8x16, .f32⟩
  | 65 => ⟨S1x4096x1x16, .f32⟩
  | 66 => ⟨S8x4096x8x16, .f32⟩
  | 67 => ⟨S8x4096x8x16, .f32⟩
  | 68 => ⟨S1x4096x1x16, .f32⟩
  | 69 => ⟨S8x4096x8x16, .f32⟩
  | 70 => ⟨S8x4096x8x16, .f32⟩
  | 71 => ⟨S8x4096x8x16, .f32⟩
  | 72 => ⟨S8x4096x8x32, .f32⟩
  | 73 => ⟨S8x4096x8x32, .f32⟩
  | 74 => ⟨S4096x16, .f32⟩
  | 75 => ⟨S4096x1x16, .f32⟩
  | 76 => ⟨S4096x16, .f32⟩
  | 77 => ⟨S4096x1x16, .f32⟩
  | 78 => ⟨S8x4096x8x16, .f32⟩
  | 79 => ⟨S8x4096x8x16, .f32⟩
  | 80 => ⟨S1x4096x1x16, .f32⟩
  | 81 => ⟨S8x4096x8x16, .f32⟩
  | 82 => ⟨S8x4096x8x16, .f32⟩
  | 83 => ⟨S1x4096x1x16, .f32⟩
  | 84 => ⟨S8x4096x8x16, .f32⟩
  | 85 => ⟨S8x4096x8x16, .f32⟩
  | 86 => ⟨S8x4096x8x16, .f32⟩
  | 87 => ⟨S1x4096x1x16, .f32⟩
  | 88 => ⟨S8x4096x8x16, .f32⟩
  | 89 => ⟨S8x4096x8x16, .f32⟩
  | 90 => ⟨S1x4096x1x16, .f32⟩
  | 91 => ⟨S8x4096x8x16, .f32⟩
  | 92 => ⟨S8x4096x8x16, .f32⟩
  | 93 => ⟨S8x4096x8x16, .f32⟩
  | 94 => ⟨S8x4096x8x32, .f32⟩
  | 95 => ⟨S8x4096x8x64, .f32⟩
  | 96 => ⟨S8x4096x512, .f32⟩
  | 97 => ⟨S8x4096x512, .f32⟩
  | 98 => ⟨S8x4096x512, .f32⟩
  | 99 => ⟨S_, .f32⟩
  | 100 => ⟨S8x4096x512, .f32⟩
  | 101 => ⟨S8x4096x512, .f32⟩
  | 102 => ⟨S_, .f32⟩
  | 103 => ⟨S8x4096x512, .f32⟩
  | 104 => ⟨S8x4096x512, .f32⟩
  | 105 => ⟨S8x4096x512, .f32⟩
  | 106 => ⟨S8x4096x8x64, .f32⟩
  | 107 => ⟨S8x4096x8x32, .f32⟩
  | 108 => ⟨S4096x16, .f32⟩
  | 109 => ⟨S4096x1x16, .f32⟩
  | 110 => ⟨S4096x16, .f32⟩
  | 111 => ⟨S4096x1x16, .f32⟩
  | 112 => ⟨S8x4096x8x16, .f32⟩
  | 113 => ⟨S8x4096x8x16, .f32⟩
  | 114 => ⟨S1x4096x1x16, .f32⟩
  | 115 => ⟨S8x4096x8x16, .f32⟩
  | 116 => ⟨S8x4096x8x16, .f32⟩
  | 117 => ⟨S1x4096x1x16, .f32⟩
  | 118 => ⟨S8x4096x8x16, .f32⟩
  | 119 => ⟨S8x4096x8x16, .f32⟩
  | 120 => ⟨S8x4096x8x16, .f32⟩
  | 121 => ⟨S1x4096x1x16, .f32⟩
  | 122 => ⟨S8x4096x8x16, .f32⟩
  | 123 => ⟨S8x4096x8x16, .f32⟩
  | 124 => ⟨S1x4096x1x16, .f32⟩
  | 125 => ⟨S8x4096x8x16, .f32⟩
  | 126 => ⟨S8x4096x8x16, .f32⟩
  | 127 => ⟨S8x4096x8x16, .f32⟩
  | _ => ⟨S8x4096x1024, .f32⟩

abbrev hbmTy0_1 (i : Nat) : BufTy := match i % 128 with
  | 0 => ⟨S8x4096x8x32, .f32⟩
  | 1 => ⟨S8x4096x8x32, .f32⟩
  | 2 => ⟨S4096x16, .f32⟩
  | 3 => ⟨S4096x1x16, .f32⟩
  | 4 => ⟨S4096x16, .f32⟩
  | 5 => ⟨S4096x1x16, .f32⟩
  | 6 => ⟨S8x4096x8x16, .f32⟩
  | 7 => ⟨S8x4096x8x16, .f32⟩
  | 8 => ⟨S1x4096x1x16, .f32⟩
  | 9 => ⟨S8x4096x8x16, .f32⟩
  | 10 => ⟨S8x4096x8x16, .f32⟩
  | 11 => ⟨S1x4096x1x16, .f32⟩
  | 12 => ⟨S8x4096x8x16, .f32⟩
  | 13 => ⟨S8x4096x8x16, .f32⟩
  | 14 => ⟨S8x4096x8x16, .f32⟩
  | 15 => ⟨S1x4096x1x16, .f32⟩
  | 16 => ⟨S8x4096x8x16, .f32⟩
  | 17 => ⟨S8x4096x8x16, .f32⟩
  | 18 => ⟨S1x4096x1x16, .f32⟩
  | 19 => ⟨S8x4096x8x16, .f32⟩
  | 20 => ⟨S8x4096x8x16, .f32⟩
  | 21 => ⟨S8x4096x8x16, .f32⟩
  | 22 => ⟨S8x4096x8x32, .f32⟩
  | 23 => ⟨S8x4096x8x64, .f32⟩
  | 24 => ⟨S8x4096x512, .f32⟩
  | 25 => ⟨S8x4096x8x64, .f32⟩
  | 26 => ⟨S8x4096x8x32, .f32⟩
  | 27 => ⟨S4096x16, .f32⟩
  | 28 => ⟨S4096x1x16, .f32⟩
  | 29 => ⟨S4096x16, .f32⟩
  | 30 => ⟨S4096x1x16, .f32⟩
  | 31 => ⟨S8x4096x8x16, .f32⟩
  | 32 => ⟨S8x4096x8x16, .f32⟩
  | 33 => ⟨S1x4096x1x16, .f32⟩
  | 34 => ⟨S8x4096x8x16, .f32⟩
  | 35 => ⟨S8x4096x8x16, .f32⟩
  | 36 => ⟨S1x4096x1x16, .f32⟩
  | 37 => ⟨S8x4096x8x16, .f32⟩
  | 38 => ⟨S8x4096x8x16, .f32⟩
  | 39 => ⟨S8x4096x8x16, .f32⟩
  | 40 => ⟨S1x4096x1x16, .f32⟩
  | 41 => ⟨S8x4096x8x16, .f32⟩
  | 42 => ⟨S8x4096x8x16, .f32⟩
  | 43 => ⟨S1x4096x1x16, .f32⟩
  | 44 => ⟨S8x4096x8x16, .f32⟩
  | 45 => ⟨S8x4096x8x16, .f32⟩
  | 46 => ⟨S8x4096x8x16, .f32⟩
  | 47 => ⟨S8x4096x8x32, .f32⟩
  | 48 => ⟨S8x4096x8x32, .f32⟩
  | 49 => ⟨S4096x16, .f32⟩
  | 50 => ⟨S4096x1x16, .f32⟩
  | 51 => ⟨S4096x16, .f32⟩
  | 52 => ⟨S4096x1x16, .f32⟩
  | 53 => ⟨S8x4096x8x16, .f32⟩
  | 54 => ⟨S8x4096x8x16, .f32⟩
  | 55 => ⟨S1x4096x1x16, .f32⟩
  | 56 => ⟨S8x4096x8x16, .f32⟩
  | 57 => ⟨S8x4096x8x16, .f32⟩
  | 58 => ⟨S1x4096x1x16, .f32⟩
  | 59 => ⟨S8x4096x8x16, .f32⟩
  | 60 => ⟨S8x4096x8x16, .f32⟩
  | 61 => ⟨S8x4096x8x16, .f32⟩
  | 62 => ⟨S1x4096x1x16, .f32⟩
  | 63 => ⟨S8x4096x8x16, .f32⟩
  | 64 => ⟨S8x4096x8x16, .f32⟩
  | 65 => ⟨S1x4096x1x16, .f32⟩
  | 66 => ⟨S8x4096x8x16, .f32⟩
  | 67 => ⟨S8x4096x8x16, .f32⟩
  | 68 => ⟨S8x4096x8x16, .f32⟩
  | 69 => ⟨S8x4096x8x32, .f32⟩
  | 70 => ⟨S8x4096x8x64, .f32⟩
  | 71 => ⟨S8x4096x512, .f32⟩
  | 72 => ⟨S_, .f32⟩
  | 73 => ⟨S8x4096x512, .f32⟩
  | 74 => ⟨S8x4096x512, .f32⟩
  | 75 => ⟨S8x4096x512, .f32⟩
  | 76 => ⟨S8x4096x512, .f32⟩
  | 77 => ⟨S_, .f32⟩
  | 78 => ⟨S8x4096x512, .f32⟩
  | 79 => ⟨S8x4096x512, .f32⟩
  | 80 => ⟨S_, .f32⟩
  | 81 => ⟨S8x4096x512, .f32⟩
  | 82 => ⟨S8x4096x512, .f32⟩
  | 83 => ⟨S8x4096x512, .f32⟩
  | 84 => ⟨S8x4096x2x64, .f32⟩
  | 85 => ⟨S8x4096x2x32, .f32⟩
  | 86 => ⟨S4096x16, .f32⟩
  | 87 => ⟨S4096x1x16, .f32⟩
  | 88 => ⟨S4096x16, .f32⟩
  | 89 => ⟨S4096x1x16, .f32⟩
  | 90 => ⟨S8x4096x2x16, .f32⟩
  | 91 => ⟨S8x4096x2x16, .f32⟩
  | 92 => ⟨S1x4096x1x16, .f32⟩
  | 93 => ⟨S8x4096x2x16, .f32⟩
  | 94 => ⟨S8x4096x2x16, .f32⟩
  | 95 => ⟨S1x4096x1x16, .f32⟩
  | 96 => ⟨S8x4096x2x16, .f32⟩
  | 97 => ⟨S8x4096x2x16, .f32⟩
  | 98 => ⟨S8x4096x2x16, .f32⟩
  | 99 => ⟨S1x4096x1x16, .f32⟩
  | 100 => ⟨S8x4096x2x16, .f32⟩
  | 101 => ⟨S8x4096x2x16, .f32⟩
  | 102 => ⟨S1x4096x1x16, .f32⟩
  | 103 => ⟨S8x4096x2x16, .f32⟩
  | 104 => ⟨S8x4096x2x16, .f32⟩
  | 105 => ⟨S8x4096x2x16, .f32⟩
  | 106 => ⟨S8x4096x2x32, .f32⟩
  | 107 => ⟨S8x4096x2x32, .f32⟩
  | 108 => ⟨S4096x16, .f32⟩
  | 109 => ⟨S4096x1x16, .f32⟩
  | 110 => ⟨S4096x16, .f32⟩
  | 111 => ⟨S4096x1x16, .f32⟩
  | 112 => ⟨S8x4096x2x16, .f32⟩
  | 113 => ⟨S8x4096x2x16, .f32⟩
  | 114 => ⟨S1x4096x1x16, .f32⟩
  | 115 => ⟨S8x4096x2x16, .f32⟩
  | 116 => ⟨S8x4096x2x16, .f32⟩
  | 117 => ⟨S1x4096x1x16, .f32⟩
  | 118 => ⟨S8x4096x2x16, .f32⟩
  | 119 => ⟨S8x4096x2x16, .f32⟩
  | 120 => ⟨S8x4096x2x16, .f32⟩
  | 121 => ⟨S1x4096x1x16, .f32⟩
  | 122 => ⟨S8x4096x2x16, .f32⟩
  | 123 => ⟨S8x4096x2x16, .f32⟩
  | 124 => ⟨S1x4096x1x16, .f32⟩
  | 125 => ⟨S8x4096x2x16, .f32⟩
  | 126 => ⟨S8x4096x2x16, .f32⟩
  | 127 => ⟨S8x4096x2x16, .f32⟩
  | _ => ⟨S8x4096x1024, .f32⟩

abbrev hbmTy0_2 (i : Nat) : BufTy := match i % 128 with
  | 0 => ⟨S8x4096x2x32, .f32⟩
  | 1 => ⟨S8x4096x2x64, .f32⟩
  | 2 => ⟨S8x4096x128, .f32⟩
  | 3 => ⟨S8x4096x5376, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_5 : Ref sig .tc := ⟨.hbm, 99, rfl⟩
abbrev main_v86 : Ref sig .tc := ⟨.hbm, 100, rfl⟩
abbrev main_v87 : Ref sig .tc := ⟨.hbm, 101, rfl⟩
abbrev main_cst_6 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_cst_7 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_cst_8 : Ref sig .tc := ⟨.hbm, 205, rfl⟩
abbrev main_v189 : Ref sig .tc := ⟨.hbm, 206, rfl⟩
abbrev main_v190 : Ref sig .tc := ⟨.hbm, 207, rfl⟩
abbrev main_cst_9 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩

abbrev nD : Nat := 1
abbrev τ : Topo := Topo.v7x

variable {F : FTy → Type} [FloatOps F]
-- ==== KernelOut.lean ====
abbrev S8x4096x1024 : Shape := ⟨3, ![8, 4096, 1024]⟩
abbrev S8x1x1024 : Shape := ⟨3, ![8, 1, 1024]⟩
abbrev S1024 : Shape := ⟨1, ![1024]⟩
abbrev S8x4096x512 : Shape := ⟨3, ![8, 4096, 512]⟩
abbrev S8x4096x5376 : Shape := ⟨3, ![8, 4096, 5376]⟩
abbrev S512 : Shape := ⟨1, ![512]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S1x1024 : Shape := ⟨2, ![1, 1024]⟩
abbrev S1x512 : Shape := ⟨2, ![1, 512]⟩
abbrev S1x3072 : Shape := ⟨2, ![1, 3072]⟩
abbrev S1x512x1024 : Shape := ⟨3, ![1, 512, 1024]⟩
abbrev S1x1x1024 : Shape := ⟨3, ![1, 1, 1024]⟩
abbrev S1x512x512 : Shape := ⟨3, ![1, 512, 512]⟩
abbrev S512x1 : Shape := ⟨2, ![512, 1]⟩
abbrev S512x512 : Shape := ⟨2, ![512, 512]⟩
abbrev S1x128 : Shape := ⟨2, ![1, 128]⟩
abbrev S512x128 : Shape := ⟨2, ![512, 128]⟩

abbrev nBuf : Space → Nat
  | .hbm => 28
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S8x4096x512, .f32⟩
  | .hbm, ⟨6, _⟩ => ⟨S8x4096x5376, .f32⟩
  | .hbm, ⟨7, _⟩ => ⟨S8x4096x512, .f32⟩
  | .hbm, ⟨8, _⟩ => ⟨S8x4096x512, .f32⟩
  | .hbm, ⟨9, _⟩ => ⟨S512, .f32⟩
  | .hbm, ⟨10, _⟩ => ⟨S1024x3072, .f32⟩
  | .hbm, ⟨11, _⟩ => ⟨S3072, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S1024, .f32⟩
  | .hbm, ⟨17, _⟩ => ⟨S1x1024, .f32⟩
  | .hbm, ⟨18, _⟩ => ⟨S1x512, .f32⟩
  | .hbm, ⟨19, _⟩ => ⟨S1024x3072, .bf16⟩
  | .hbm, ⟨20, _⟩ => ⟨S1x3072, .f32⟩
  | .hbm, ⟨21, _⟩ => ⟨S512x1024, .bf16⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S1x1024, .f32⟩
  | .hbm, ⟨26, _⟩ => ⟨S8x4096x1024, .f32⟩
  | .hbm, ⟨27, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512, .f32⟩
  | .local _ .vmem, ⟨20, _⟩ => ⟨S1024x3072, .bf16⟩
  | .local _ .vmem, ⟨21, _⟩ => ⟨S1x3072, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1x1024, .f32⟩
  | .local _ .vmem, ⟨27, _⟩ => ⟨S1x512x1024, .f32⟩
  | .local _ .vmem, ⟨28, _⟩ => ⟨S1x512x1024, .f32⟩
  | .local _ .vmem, ⟨29, _⟩ => ⟨S1x512x1024, .f32⟩
  | .local _ .vmem, ⟨30, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x3072 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceOutIdeal.lean ====
abbrev S8x4096x1024 : Shape := ⟨3, ![8, 4096, 1024]⟩
abbrev S8x1x1024 : Shape := ⟨3, ![8, 1, 1024]⟩
abbrev S1024 : Shape := ⟨1, ![1024]⟩
abbrev S8x4096x512 : Shape := ⟨3, ![8, 4096, 512]⟩
abbrev S8x4096x5376 : Shape := ⟨3, ![8, 4096, 5376]⟩
abbrev S512 : Shape := ⟨1, ![512]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x512 : Shape := ⟨3, ![1, 1, 512]⟩
abbrev S8x4096x3072 : Shape := ⟨3, ![8, 4096, 3072]⟩
abbrev S1x1x3072 : Shape := ⟨3, ![1, 1, 3072]⟩

abbrev nBuf : Space → Nat
  | .hbm => 105
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S8x4096x512, .f32⟩
  | .hbm, ⟨6, _⟩ => ⟨S8x4096x5376, .f32⟩
  | .hbm, ⟨7, _⟩ => ⟨S8x4096x512, .f32⟩
  | .hbm, ⟨8, _⟩ => ⟨S8x4096x512, .f32⟩
  | .hbm, ⟨9, _⟩ => ⟨S512, .f32⟩
  | .hbm, ⟨10, _⟩ => ⟨S1024x3072, .f32⟩
  | .hbm, ⟨11, _⟩ => ⟨S3072, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x512, .f32⟩
  | .hbm, ⟨41, _⟩ => ⟨S8x4096x512, .f32⟩
  | .hbm, ⟨42, _⟩ => ⟨S8x4096x8x64, .f32⟩
  | .hbm, ⟨43, _⟩ => ⟨S8x4096x8x64, .f32⟩
  | .hbm, ⟨44, _⟩ => ⟨S_, .f32⟩
  | .hbm, ⟨45, _⟩ => ⟨S8x4096x8, .f32⟩
  | .hbm, ⟨46, _⟩ => ⟨S8x4096x8x1, .f32⟩
  | .hbm, ⟨47, _⟩ => ⟨S_, .f32⟩
  | .hbm, ⟨48, _⟩ => ⟨S8x4096x8x1, .f32⟩
  | .hbm, ⟨49, _⟩ => ⟨S8x4096x8x1, .f32⟩
  | .hbm, ⟨50, _⟩ => ⟨S_, .f32⟩
  | .hbm, ⟨51, _⟩ => ⟨S8x4096x8x1, .f32⟩
  | .hbm, ⟨52, _⟩ => ⟨S8x4096x8x1, .f32⟩
  | .hbm, ⟨53, _⟩ => ⟨S8x4096x8x1, .f32⟩
  | .hbm, ⟨54, _⟩ => ⟨S8x4096x8x64, .f32⟩
  | .hbm, ⟨55, _⟩ => ⟨S8x4096x8x64, .f32⟩
  | .hbm, ⟨56, _⟩ => ⟨S8x4096x512, .f32⟩
  | .hbm, ⟨57, _⟩ => ⟨S1x1x512, .f32⟩
  | .hbm, ⟨58, _⟩ => ⟨S8x4096x512, .f32⟩
  | .hbm, ⟨59, _⟩ => ⟨S8x4096x512, .f32⟩
  | .hbm, ⟨60, _⟩ => ⟨S8x4096x512, .f32⟩
  | .hbm, ⟨61, _⟩ => ⟨S8x4096x512, .f32⟩
  | .hbm, ⟨62, _⟩ => ⟨S8x4096x3072, .f32⟩
  | .hbm, ⟨63, _⟩ => ⟨S1x1x3072, .f32⟩
  | .hbm, ⟨64, _⟩ => ⟨S8x4096x3072, .f32⟩
  | .hbm, ⟨65, _⟩ => ⟨S8x4096x3072, .f32⟩
  | .hbm, ⟨66, _⟩ => ⟨S8x4096x3072, .f32⟩
  | .hbm, ⟨67, _⟩ => ⟨S8x4096x3072, .f32⟩
  | .hbm, ⟨68, _⟩ => ⟨S_, .f32⟩
  | .hbm, ⟨69, _⟩ => ⟨S8x4096x3072, .f32⟩
  | .hbm, ⟨70, _⟩ => ⟨S8x4096x3072, .f32⟩
  | .hbm, ⟨71, _⟩ => ⟨S_, .f32⟩
  | .hbm, ⟨72, _⟩ => ⟨S8x4096x3072, .f32⟩
  | .hbm, ⟨73, _⟩ => ⟨S8x4096x3072, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S8x4096x1024, .f32⟩
  | .hbm, ⟨89, _⟩ => ⟨S8x4096x1024, .f32⟩
  | .hbm, ⟨90, _⟩ => ⟨S_, .f32⟩
  | .hbm, ⟨91, _⟩ => ⟨S8x4096, .f32⟩
  | .hbm, ⟨92, _⟩ => ⟨S8x4096x1, .f32⟩
  | .hbm, ⟨93, _⟩ => ⟨S_, .f32⟩
  | .hbm, ⟨94, _⟩ => ⟨S8x4096x1, .f32⟩
  | .hbm, ⟨95, _⟩ => ⟨S8x4096x1, .f32⟩
  | .hbm, ⟨96, _⟩ => ⟨S_, .f32⟩
  | .hbm, ⟨97, _⟩ => ⟨S8x4096x1, .f32⟩
  | .hbm, ⟨98, _⟩ => ⟨S8x4096x1, .f32⟩
  | .hbm, ⟨99, _⟩ => ⟨S8x4096x1, .f32⟩
  | .hbm, ⟨100, _⟩ => ⟨S8x4096x1024, .f32⟩
  | .hbm, ⟨101, _⟩ => ⟨S8x4096x1024, .f32⟩
  | .hbm, ⟨102, _⟩ => ⟨S1x1x1024, .f32⟩
  | .hbm, ⟨103, _⟩ => ⟨S8x4096x1024, .f32⟩
  | .hbm, ⟨104, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_8 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Proof.AttnFrames.lean ====
/- The frames of the windowed attention's programs, and the values of the constants that its idealization names. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Attn

/-- The kernel as printed runs to the end. -/
theorem frame_kernel : Cert.quiescent_Kernel := fun m ρ _ => Cert.Kernel.Gen.frame m ρ

/-- The kernel's idealization runs to the end. -/
theorem frame_ideal : Cert.quiescent_KernelIdeal := fun m ρ _ => Cert.KernelIdeal.Gen.frame m ρ

/-- The reference's idealization runs to the end. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constants have the values that the idealization gives them. -/
theorem preserves : Cert.preserves_Kernel_KernelIdeal :=
  ⟨IdealRules.named_const.statement Cert.KernelIdeal.κ "q_scale" .f32 0x3E38AA3B#32 ((8⁻¹ * (Real.log 2)⁻¹ : ℝ) : EReal) rfl,
    IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

end Cert.Proof.Attn

end
-- ==== Proof.Consts.lean ====
/- The float constants the programs spell, as the extended reals their patterns denote. -/
module

public import Idealize.ShloMosaic.PureOps.Ideal

@[expose] public section

noncomputable section

open Idealize.ShloMosaic

namespace Consts

/-- The pattern of `64.0` denotes the real 64. -/
theorem bits_64 : Ideal.ofBits FTy.f32 1115684864#32 = ((64 : ℝ) : EReal) := by
  simp [Ideal.ofBits, Ideal.ieee, -EReal.coe_mul]; norm_num

/-- The pattern of `1/64` denotes the real 1/64. -/
theorem bits_64th : Ideal.ofBits FTy.f32 1015021568#32 = (((1 : ℝ) / 64 : ℝ) : EReal) := by
  simp [Ideal.ofBits, Ideal.ieee, -EReal.coe_mul]; norm_num

/-- The pattern of `0.125` denotes the real 1/8. -/
theorem bits_8th : Ideal.ofBits FTy.f32 1040187392#32 = (((1 : ℝ) / 8 : ℝ) : EReal) := by
  simp [Ideal.ofBits, Ideal.ieee, -EReal.coe_mul]; norm_num

/-- The pattern of minus infinity denotes the bottom element. -/
theorem bits_bot : Ideal.ofBits FTy.f32 4286578688#32 = ⊥ := by
  simp [Ideal.ofBits, Ideal.ieee]

/-- The zero pattern denotes zero. -/
theorem bits_zero : Ideal.ofBits FTy.f32 0#32 = 0 := by
  simp [Ideal.ofBits, Ideal.ieee]

/-- The pattern of plus infinity denotes the top element. -/
theorem bits_top : Ideal.ofBits FTy.f32 2139095040#32 = ⊤ := by
  simp [Ideal.ofBits, Ideal.ieee]

/-- Dividing by 64 is multiplying by 1/64, at every extended real. -/
theorem div_64 (x : EReal) :
    Ideal.div x (Ideal.ofBits FTy.f32 1115684864#32) = x * Ideal.ofBits FTy.f32 1015021568#32 := by
  rw [bits_64, bits_64th, Ideal.div_coe (by norm_num)]

end Consts

end
-- ==== Proof.AttnBlock.lean ====
/- What one block of the attention kernel computes. A chain of 128 queries and four heads is laid out as 512 columns: its
   scores, its masked softmax with the sink, and the pair of heads it stores, each at an index. -/
module

public import proofs.«01_k».proof.Proof.Gen.KernelIdeal.Value
public import proofs.«01_k».proof.Proof.Consts
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Block

open Cert.KernelIdeal Cert.KernelIdeal.Gen

/-- The named scale of the queries. -/
abbrev qs : EReal := Named.named (F := Ideal) (φ := .f32) κ "q_scale" 0x3E38AA3B#32

/-- The named mask. -/
abbrev msk : EReal := Named.named (F := Ideal) (φ := .f32) κ "mask" 0xF149F2CA#32

/-- The named factor of the sink. -/
abbrev l2e : EReal := Named.named (F := Ideal) (φ := .f32) κ "log2e" 0x3FB8AA3B#32

theorem qs_eq : qs = ((8⁻¹ * (Real.log 2)⁻¹ : ℝ) : EReal) := IdealRules.named_const.ideal_named_scalar _ _ _ _ rfl
theorem msk_eq : msk = ⊥ := IdealRules.named_const.ideal_named_scalar _ _ _ _ rfl
theorem l2e_eq : l2e = (((Real.log 2)⁻¹ : ℝ) : EReal) := IdealRules.named_const.ideal_named_scalar _ _ _ _ rfl

/-- The first four heads' scaled queries, one head below the other. -/
def qcat0 (Q : Vec Ideal S1x128x512 .f32) : FVec Ideal S512x64 .bf16 :=
  have v153 : FVec Ideal S128x512 .f32 := shapeCast S128x512 Q shapeCasts_S1x128x512_S128x512
  have v155 : FVec Ideal S128x512 .f32 := mulf v153 (broadcast S128x512 qs)
  truncf .bf16 (concatenate S512x64 0 [⟨S128x64, extractStridedSlice S128x64 ![0, 0] v155 slices_S128x512_o0_0_S128x64⟩,
    ⟨S128x64, extractStridedSlice S128x64 ![0, 64] v155 slices_S128x512_o0_64_S128x64⟩,
    ⟨S128x64, extractStridedSlice S128x64 ![0, 128] v155 slices_S128x512_o0_128_S128x64⟩,
    ⟨S128x64, extractStridedSlice S128x64 ![0, 192] v155 slices_S128x512_o0_192_S128x64⟩]
    concatenates_S128x64_S128x64_S128x64_S128x64_S512x64_d0) bitsLt_bf16_f32

/-- The last four heads' scaled queries, one head below the other. -/
def qcat1 (Q : Vec Ideal S1x128x512 .f32) : FVec Ideal S512x64 .bf16 :=
  have v153 : FVec Ideal S128x512 .f32 := shapeCast S128x512 Q shapeCasts_S1x128x512_S128x512
  have v155 : FVec Ideal S128x512 .f32 := mulf v153 (broadcast S128x512 qs)
  truncf .bf16 (concatenate S512x64 0 [⟨S128x64, extractStridedSlice S128x64 ![0, 256] v155 slices_S128x512_o0_256_S128x64⟩,
    ⟨S128x64, extractStridedSlice S128x64 ![0, 320] v155 slices_S128x512_o0_320_S128x64⟩,
    ⟨S128x64, extractStridedSlice S128x64 ![0, 384] v155 slices_S128x512_o0_384_S128x64⟩,
    ⟨S128x64, extractStridedSlice S128x64 ![0, 448] v155 slices_S128x512_o0_448_S128x64⟩]
    concatenates_S128x64_S128x64_S128x64_S128x64_S512x64_d0) bitsLt_bf16_f32

/-- The masked scores of keys `K` with queries `q`. -/
def scores (K : FVec Ideal S896x64 .bf16) (o1 o2 : IVec S128x512 1) (q : FVec Ideal S512x64 .bf16) : FVec Ideal S896x512 .f32 :=
  have s : FVec Ideal S896x512 .f32 := matmul dot_S896x64_S512x64_S896x512_1_1_0_0_n_n none K q (constant S896x512 .f32 0x00000000#32)
  concatenate S896x512 0 [⟨S128x512, select o1 (extractStridedSlice S128x512 ![0, 0] s slices_S896x512_o0_0_S128x512) (broadcast S128x512 msk)⟩,
    ⟨S128x512, extractStridedSlice S128x512 ![128, 0] s slices_S896x512_o128_0_S128x512⟩,
    ⟨S128x512, select o2 (extractStridedSlice S128x512 ![256, 0] s slices_S896x512_o256_0_S128x512) (broadcast S128x512 msk)⟩,
    ⟨S512x512, extractStridedSlice S512x512 ![384, 0] s slices_S896x512_o384_0_S512x512⟩]
    concatenates_S128x512_S128x512_S128x512_S512x512_S896x512_d0

/-- The first half of the columns. -/
def left (v : FVec Ideal S896x128 .bf16) : FVec Ideal S896x64 .bf16 :=
  extractStridedSlice S896x64 ![0, 0] v slices_S896x128_o0_0_S896x64

/-- The second half of the columns. -/
def right (v : FVec Ideal S896x128 .bf16) : FVec Ideal S896x64 .bf16 :=
  extractStridedSlice S896x64 ![0, 64] v slices_S896x128_o0_64_S896x64

/-- The head of a column, as the kernel computes it. -/
def headWord : IVec S1x512 32 :=
  have v465 : IVec S1x512 32 := remsi (iota .tc S1x512 32 [1] iota_S1x512_d1_w32) k0_pay79
  have v468 : IVec S1x512 1 := andi k0_pay78 (cmpi .ne v465 (broadcast S1x512 0#32))
  select v468 (subi k0_pay77 (broadcast S1x512 1#32)) k0_pay77

/-- The sinks of four heads, laid out over the columns. -/
def sinkRow (a0 a1 a2 a3 : EReal) : FVec Ideal S1x512 .f32 :=
  select (cmpi .eq headWord (broadcast S1x512 3#32)) (broadcast S1x512 a3)
    (select (cmpi .eq headWord (broadcast S1x512 2#32)) (broadcast S1x512 a2)
      (select (cmpi .eq headWord (broadcast S1x512 1#32)) (broadcast S1x512 a1) (broadcast S1x512 a0)))

/-- The softmax with the sink, applied to the values. -/
def finish (s : FVec Ideal S896x512 .f32) (v : FVec Ideal S896x64 .bf16) (sk : FVec Ideal S1x512 .f32) : FVec Ideal S64x512 .f32 :=
  have v490 : FVec Ideal S1x512 .f32 := mulf sk (broadcast S1x512 l2e)
  have v491 : FVec Ideal S512 .f32 := multiReduction .maximumf [0] S512 s 0xFF800000#32 reduces_S896x512_S512 (.inl rfl) rfl
  have v492 : FVec Ideal S1x512 .f32 := shapeCast S1x512 v491 shapeCasts_S512_S1x512
  have v493 : FVec Ideal S1x512 .f32 := maximumf v492 v490
  have v494 : FVec Ideal S896x512 .f32 := broadcastTo S896x512 v493 broadcasts_S1x512_S896x512
  have v495 : FVec Ideal S896x512 .f32 := subf s v494
  have v496 : FVec Ideal S896x512 .f32 := exp2 v495
  have v497 : FVec Ideal S896x512 .bf16 := truncf .bf16 v496 bitsLt_bf16_f32
  have cst_187 : Ideal .bf16 := Scalar.ofBits .bf16 0x3F80#16
  have v498 : FVec Ideal S896x64 .bf16 := broadcast S896x64 cst_187
  have v499 : FVec Ideal S896x128 .bf16 := concatenate S896x128 1 [⟨S896x64, v⟩, ⟨S896x64, v498⟩] concatenates_S896x64_S896x64_S896x128_d1
  have cst_188 : FVec Ideal S128x512 .f32 := constant S128x512 .f32 0x00000000#32
  have v500 : FVec Ideal S128x512 .f32 := matmul dot_S896x128_S896x512_S128x512_0_0_1_1_n_n none v499 v497 cst_188
  have v501 : FVec Ideal S1x512 .f32 := extractStridedSlice S1x512 ![64, 0] v500 slices_S128x512_o64_0_S1x512
  have v502 : FVec Ideal S1x512 .f32 := subf v490 v493
  have v503 : FVec Ideal S1x512 .f32 := exp2 v502
  have v504 : FVec Ideal S1x512 .f32 := addf v501 v503
  have v505 : FVec Ideal S64x512 .f32 := extractStridedSlice S64x512 ![0, 0] v500 slices_S128x512_o0_0_S64x512
  have v506 : FVec Ideal S64x512 .f32 := broadcastTo S64x512 v504 broadcasts_S1x512_S64x512
  divf v505 v506

/-- The first two heads side by side, times their gate. -/
def pairA (o : FVec Ideal S64x512 .f32) (G : Vec Ideal S1x128x128 .f32) : FVec Ideal S1x128x128 .f32 :=
  have v510 : FVec Ideal S128x128 .f32 := concatenate S128x128 0 [⟨S64x128, extractStridedSlice S64x128 ![0, 0] o slices_S64x512_o0_0_S64x128⟩,
    ⟨S64x128, extractStridedSlice S64x128 ![0, 128] o slices_S64x512_o0_128_S64x128⟩] concatenates_S64x128_S64x128_S128x128_d0
  shapeCast S1x128x128 (mulf (transpose S128x128 [1, 0] v510 transposes_S128x128_p1_0_S128x128)
    (shapeCast S128x128 G shapeCasts_S1x128x128_S128x128)) shapeCasts_S128x128_S1x128x128

/-- The last two heads side by side, times their gate. -/
def pairB (o : FVec Ideal S64x512 .f32) (G : Vec Ideal S1x128x128 .f32) : FVec Ideal S1x128x128 .f32 :=
  have v510 : FVec Ideal S128x128 .f32 := concatenate S128x128 0 [⟨S64x128, extractStridedSlice S64x128 ![0, 256] o slices_S64x512_o0_256_S64x128⟩,
    ⟨S64x128, extractStridedSlice S64x128 ![0, 384] o slices_S64x512_o0_384_S64x128⟩] concatenates_S64x128_S64x128_S128x128_d0
  shapeCast S1x128x128 (mulf (transpose S128x128 [1, 0] v510 transposes_S128x128_p1_0_S128x128)
    (shapeCast S128x128 G shapeCasts_S1x128x128_S128x128)) shapeCasts_S128x128_S1x128x128

/-- The first key head's chain, stored at the first two heads. -/
def tile0A (K V : FVec Ideal S896x128 .bf16) (o1 o2 : IVec S128x512 1) (Q : Vec Ideal S1x128x512 .f32) (a0 a1 a2 a3 : EReal)
    (G : Vec Ideal S1x128x128 .f32) : FVec Ideal S1x128x128 .f32 :=
  pairA (finish (scores (left K) o1 o2 (qcat0 Q)) (left V) (sinkRow a0 a1 a2 a3)) G

/-- The first key head's chain, stored at the last two heads. -/
def tile0B (K V : FVec Ideal S896x128 .bf16) (o1 o2 : IVec S128x512 1) (Q : Vec Ideal S1x128x512 .f32) (a0 a1 a2 a3 : EReal)
    (G : Vec Ideal S1x128x128 .f32) : FVec Ideal S1x128x128 .f32 :=
  pairB (finish (scores (left K) o1 o2 (qcat0 Q)) (left V) (sinkRow a0 a1 a2 a3)) G

/-- The second key head's chain, stored at the first two heads. -/
def tile1A (K V : FVec Ideal S896x128 .bf16) (o1 o2 : IVec S128x512 1) (Q : Vec Ideal S1x128x512 .f32) (a0 a1 a2 a3 : EReal)
    (G : Vec Ideal S1x128x128 .f32) : FVec Ideal S1x128x128 .f32 :=
  pairA (finish (scores (right K) o1 o2 (qcat1 Q)) (right V) (sinkRow a0 a1 a2 a3)) G

/-- The second key head's chain, stored at the last two heads. -/
def tile1B (K V : FVec Ideal S896x128 .bf16) (o1 o2 : IVec S128x512 1) (Q : Vec Ideal S1x128x512 .f32) (a0 a1 a2 a3 : EReal)
    (G : Vec Ideal S1x128x128 .f32) : FVec Ideal S1x128x128 .f32 :=
  pairB (finish (scores (right K) o1 o2 (qcat1 Q)) (right V) (sinkRow a0 a1 a2 a3)) G

/-- A column's queries: head `c / 128` of the first four, query `c % 128`, scaled. -/
theorem qcat0_at (Q : Vec Ideal S1x128x512 .f32) (c : Fin 512) (d : Fin 64) :
    qcat0 Q (ix2 c d) = Q (ix3 0 ⟨c.val % 128, by omega⟩ ⟨c.val / 128 * 64 + d.val, by omega⟩) * qs := by
  pointwise [qcat0]
  split_ifs with h1 h2 h3 <;> refine congrArg (fun i => Q i * qs) ((ix3_inj ..).2 ⟨rfl, ?_, ?_⟩) <;> apply Fin.ext <;> simp only <;> omega

/-- A column's queries: head `4 + c / 128`, query `c % 128`, scaled. -/
theorem qcat1_at (Q : Vec Ideal S1x128x512 .f32) (c : Fin 512) (d : Fin 64) :
    qcat1 Q (ix2 c d) = Q (ix3 0 ⟨c.val % 128, by omega⟩ ⟨256 + (c.val / 128 * 64 + d.val), by omega⟩) * qs := by
  pointwise [qcat1]
  split_ifs with h1 h2 h3 <;> refine congrArg (fun i => Q i * qs) ((ix3_inj ..).2 ⟨rfl, ?_, ?_⟩) <;> apply Fin.ext <;> simp only <;> omega

/-- A masked entry is the entry where the mask's bit is one and the bottom element elsewhere. -/
theorem pick (b : BitVec 1) (x : EReal) : Scalar.select b x msk = if b = 1#1 then x else ⊥ := by
  rw [msk_eq]
  rfl

/-- The scores at an index, by the key's block. -/
theorem scores_at (K : FVec Ideal S896x64 .bf16) (o1 o2 : IVec S128x512 1) (q : FVec Ideal S512x64 .bf16) (k : Fin 896) (c : Fin 512) :
    scores K o1 o2 q (ix2 k c)
      = if h : k.val < 128 then (if o1 (ix2 ⟨k.val, h⟩ c) = 1#1 then ∑ d, K (ix2 k d) * q (ix2 c d) else ⊥)
        else if h2 : k.val < 256 then ∑ d, K (ix2 k d) * q (ix2 c d)
        else if h3 : k.val < 384 then (if o2 (ix2 ⟨k.val - 256, by omega⟩ c) = 1#1 then ∑ d, K (ix2 k d) * q (ix2 c d) else ⊥)
        else ∑ d, K (ix2 k d) * q (ix2 c d) := by
  pointwise [scores]
  have e : ∀ (j : Fin 896), j = k → (∑ x, K (ix2 j x) * q (ix2 c x)) = ∑ d, K (ix2 k d) * q (ix2 c d) := fun j hj => by rw [hj]
  by_cases h : k.val < 128
  · rw [dif_pos h, dif_pos h]
    exact pick _ _
  · rw [dif_neg h, dif_neg h]
    by_cases h2 : k.val < 256
    · rw [dif_pos (by omega), dif_pos h2]
      exact e _ (Fin.ext (by simp only; omega))
    · rw [dif_neg (by omega), dif_neg h2]
      by_cases h3 : k.val < 384
      · rw [dif_pos (by omega), dif_pos h3, e _ (Fin.ext (by simp only; omega))]
        refine (pick _ _).trans ?_
        have hi : (⟨k.val - 128 - 128, by omega⟩ : Fin 128) = ⟨k.val - 256, by omega⟩ := Fin.ext (by simp only; omega)
        rw [hi]
      · rw [dif_neg (by omega), dif_neg h3]
        exact e _ (Fin.ext (by simp only; omega))

/-- The head of a column. -/
theorem headWord_at (c : Fin 512) : headWord (ix2 0 c) = BitVec.ofNat 32 (c.val / 128) := by
  pointwise [headWord, k0_pay77, k0_pay78, k0_pay79]
  revert c
  decide +kernel

/-- A column's sink is its head's. -/
theorem sinkRow_at (a : Fin 4 → EReal) (c : Fin 512) :
    sinkRow (a 0) (a 1) (a 2) (a 3) (ix2 0 c) = a ⟨c.val / 128, by omega⟩ := by
  pointwise [sinkRow]
  rw [headWord_at]
  have h : ∀ h : Fin 4, Scalar.select (IntOp.cmpi CmpIPredicate.eq (BitVec.ofNat 32 h.val) 3#32) (a 3)
      (Scalar.select (IntOp.cmpi CmpIPredicate.eq (BitVec.ofNat 32 h.val) 2#32) (a 2)
        (Scalar.select (IntOp.cmpi CmpIPredicate.eq (BitVec.ofNat 32 h.val) 1#32) (a 1) (a 0))) = a h := by
    intro h
    fin_cases h <;> rfl
  exact h ⟨c.val / 128, by omega⟩

/-- The largest of a column's scores and its sink. -/
def top (s : Fin 896 → EReal) (a : EReal) : EReal := max (Finset.univ.fold max ⊥ s) (a * l2e)

/-- The softmax with the sink at an index. -/
theorem finish_at (s : FVec Ideal S896x512 .f32) (v : FVec Ideal S896x64 .bf16) (sk : FVec Ideal S1x512 .f32) (d : Fin 64) (c : Fin 512) :
    finish s v sk (ix2 d c)
      = Ideal.div (∑ k, v (ix2 k d) * Ideal.exp2 (s (ix2 k c) - top (fun k => s (ix2 k c)) (sk (ix2 0 c))))
          (∑ k : Fin 896, Ideal.exp2 (s (ix2 k c) - top (fun k => s (ix2 k c)) (sk (ix2 0 c)))
            + Ideal.exp2 (sk (ix2 0 c) * l2e - top (fun k => s (ix2 k c)) (sk (ix2 0 c)))) := by
  pointwise [finish, top]
  rw [Consts.bits_bot]
  rfl

/-- The first pair at an index. -/
theorem pairA_at (o : FVec Ideal S64x512 .f32) (G : Vec Ideal S1x128x128 .f32) (r l : Fin 128) :
    pairA o G (ix3 0 r l) = o (ix2 ⟨l.val % 64, by omega⟩ ⟨l.val / 64 * 128 + r.val, by omega⟩) * G (ix3 0 r l) := by
  pointwise [pairA]
  split_ifs with h1 <;> refine congrArg (fun i => o i * G (ix3 0 r l)) ((ix2_inj ..).2 ⟨?_, ?_⟩) <;> apply Fin.ext <;> simp only <;> omega

/-- The second pair at an index. -/
theorem pairB_at (o : FVec Ideal S64x512 .f32) (G : Vec Ideal S1x128x128 .f32) (r l : Fin 128) :
    pairB o G (ix3 0 r l) = o (ix2 ⟨l.val % 64, by omega⟩ ⟨256 + (l.val / 64 * 128 + r.val), by omega⟩) * G (ix3 0 r l) := by
  pointwise [pairB]
  split_ifs with h1 <;> refine congrArg (fun i => o i * G (ix3 0 r l)) ((ix2_inj ..).2 ⟨?_, ?_⟩) <;> apply Fin.ext <;> simp only <;> omega

/-- The query of a column. -/
theorem word_at (k : Fin 128) (c : Fin 512) : k0_pay38 (ix2 k c) = BitVec.ofNat 32 (c.val % 128) := by
  pointwise [k0_pay38]
  revert c
  decide +kernel

/-- The signed comparison of two small words is that of the numbers. -/
theorem sge_small : ∀ a b : Fin 128, IntOp.cmpi CmpIPredicate.sge (BitVec.ofNat 32 a.val) (BitVec.ofNat 32 b.val) = 1#1 ↔ b.val ≤ a.val := by
  decide +kernel

/-- The signed comparison of two small words is that of the numbers. -/
theorem sle_small : ∀ a b : Fin 128, IntOp.cmpi CmpIPredicate.sle (BitVec.ofNat 32 a.val) (BitVec.ofNat 32 b.val) = 1#1 ↔ a.val ≤ b.val := by
  decide +kernel

/-- The mask of the block before: keys from the query's place on. -/
theorem prev_at (k : Fin 128) (c : Fin 512) :
    k0_pay42 (iota .tc S128x512 32 [0] iota_S128x512_d0_w32) k0_pay38 (ix2 k c) = 1#1 ↔ c.val % 128 ≤ k.val := by
  have h := sge_small k ⟨c.val % 128, by omega⟩
  pointwise [k0_pay42]
  rw [word_at]
  exact h

/-- The mask of the block after: keys up to the query's place. -/
theorem next_at (k : Fin 128) (c : Fin 512) :
    k0_pay43 (iota .tc S128x512 32 [0] iota_S128x512_d0_w32) k0_pay38 (ix2 k c) = 1#1 ↔ k.val ≤ c.val % 128 := by
  have h := sle_small k ⟨c.val % 128, by omega⟩
  pointwise [k0_pay43]
  rw [word_at]
  exact h

/-- The mask of the block before the first block of a step: none at the first step. -/
theorem prev0_at (j : Fin 4) (k : Fin 128) (c : Fin 512) :
    k0_pay41 k0_pay39 (k0_pay40 (BitVec.ofNat 32 j.val)) (ix2 k c) = 1#1 ↔ (c.val % 128 ≤ k.val ∧ 0 < j.val) := by
  have h := sge_small k ⟨c.val % 128, by omega⟩
  pointwise [k0_pay41, k0_pay39, k0_pay40]
  rw [word_at]
  simp only at h
  generalize IntOp.cmpi CmpIPredicate.sge (BitVec.ofNat 32 k.val) (BitVec.ofNat 32 (c.val % 128)) = w at h ⊢
  rw [← h]
  clear h
  revert w j
  decide +kernel

/-- The mask of the block after the last block of a step: none at the last step. -/
theorem next7_at (j : Fin 4) (k : Fin 128) (c : Fin 512) :
    k0_pay44 (BitVec.ofNat 32 j.val) (iota .tc S128x512 32 [0] iota_S128x512_d0_w32) k0_pay38 (ix2 k c) = 1#1
      ↔ (k.val ≤ c.val % 128 ∧ j.val < 3) := by
  have h := sle_small k ⟨c.val % 128, by omega⟩
  pointwise [k0_pay44]
  rw [word_at]
  simp only at h
  generalize IntOp.cmpi CmpIPredicate.sle (BitVec.ofNat 32 k.val) (BitVec.ofNat 32 (c.val % 128)) = w at h ⊢
  rw [← h]
  clear h
  revert w j
  decide +kernel

/-- Four blocks of keys stacked are an array whose rows are theirs. -/
theorem stack_at (x : FVec Ideal S512x128 .bf16) (p0 p1 p2 : FVec Ideal S128x128 .bf16) (f : Fin 896 → Fin 128 → EReal)
    (h0 : ∀ (k l : Fin 128), p0 (ix2 k l) = f ⟨k.val, by omega⟩ l) (h1 : ∀ (k l : Fin 128), p1 (ix2 k l) = f ⟨128 + k.val, by omega⟩ l)
    (h2 : ∀ (k l : Fin 128), p2 (ix2 k l) = f ⟨256 + k.val, by omega⟩ l)
    (h3 : ∀ (k : Fin 512) (l : Fin 128), x (ix2 k l) = f ⟨384 + k.val, by omega⟩ l) (k : Fin 896) (l : Fin 128) :
    k0_pay22 x p0 p1 p2 (ix2 k l) = f k l := by
  pointwise [k0_pay22]
  by_cases u1 : k.val < 128
  · rw [dif_pos u1]
    exact h0 _ _
  · rw [dif_neg u1]
    by_cases u2 : k.val < 256
    · rw [dif_pos (by omega)]
      exact (h1 _ _).trans (congrArg (fun i => f i l) (Fin.ext (by simp only; omega)))
    · rw [dif_neg (by omega)]
      by_cases u3 : k.val < 384
      · rw [dif_pos (by omega)]
        exact (h2 _ _).trans (congrArg (fun i => f i l) (Fin.ext (by simp only; omega)))
      · rw [dif_neg (by omega)]
        exact (h3 _ _).trans (congrArg (fun i => f i l) (Fin.ext (by simp only; omega)))

/-- A loaded block without its unit axis. -/
theorem block_at (p : Vec Ideal S1x128x128 .f32) (k l : Fin 128) : k0_pay3 p (ix2 k l) = p (ix3 0 k l) := by
  pointwise [k0_pay3]

/-- The loaded context without its unit axes. -/
theorem ctx_at (p : Vec Ideal S1x1x512x128 .f32) (k : Fin 512) (l : Fin 128) : k0_pay1 p (ix2 k l) = p (ix4 0 0 k l) := by
  pointwise [k0_pay1]

/-- Which keys a query sees: those of its band within the sequence, and all of the context. -/
def Band (n : Fin 32) (r : Fin 128) (k : Fin 896) : Prop :=
  (k.val < 128 → r.val ≤ k.val ∧ 0 < n.val) ∧ (256 ≤ k.val → k.val < 384 → k.val ≤ r.val + 256 ∧ n.val < 31)

instance (n : Fin 32) (r : Fin 128) : DecidablePred (Band n r) := fun k => by unfold Band; infer_instance

/-- A query's masked score at a key. -/
def score (n : Fin 32) (r : Fin 128) (K : Fin 896 → Fin 64 → EReal) (q : Fin 64 → EReal) (k : Fin 896) : EReal :=
  if Band n r k then ∑ d, K k d * (q d * qs) else ⊥

/-- A query's attention: its softmax with the sink, applied to the values. -/
def attend (n : Fin 32) (r : Fin 128) (K V : Fin 896 → Fin 64 → EReal) (q : Fin 64 → EReal) (a : EReal) (d : Fin 64) : EReal :=
  Ideal.div (∑ k, V k d * Ideal.exp2 (score n r K q k - top (score n r K q) a))
    (∑ k, Ideal.exp2 (score n r K q k - top (score n r K q) a) + Ideal.exp2 (a * l2e - top (score n r K q) a))

/-- A chain's result at a column is its query's attention. -/
theorem chain_at (n : Fin 32) (r : Fin 128) (K V : FVec Ideal S896x64 .bf16) (o1 o2 : IVec S128x512 1)
    (q : FVec Ideal S512x64 .bf16) (sk : FVec Ideal S1x512 .f32) (d : Fin 64) (c : Fin 512) (q' : Fin 64 → EReal)
    (hr : c.val % 128 = r.val) (hq : ∀ d, q (ix2 c d) = q' d * qs)
    (h1 : ∀ (k : Fin 128), o1 (ix2 k c) = 1#1 ↔ (c.val % 128 ≤ k.val ∧ 0 < n.val))
    (h2 : ∀ (k : Fin 128), o2 (ix2 k c) = 1#1 ↔ (k.val ≤ c.val % 128 ∧ n.val < 31)) :
    finish (scores K o1 o2 q) V sk (ix2 d c)
      = attend n r (fun k d => K (ix2 k d)) (fun k d => V (ix2 k d)) q' (sk (ix2 0 c)) d := by
  have hs : ∀ k, scores K o1 o2 q (ix2 k c) = score n r (fun k d => K (ix2 k d)) q' k := by
    intro k
    rw [scores_at]
    unfold score
    simp only [hq, h1, h2]
    by_cases u1 : k.val < 128
    · rw [dif_pos u1]
      exact if_congr (by unfold Band; omega) rfl rfl
    · rw [dif_neg u1]
      by_cases u2 : k.val < 256
      · rw [dif_pos u2, if_pos (by unfold Band; omega)]
      · rw [dif_neg u2]
        by_cases u3 : k.val < 384
        · rw [dif_pos u3]
          exact if_congr (by unfold Band; omega) rfl rfl
        · rw [dif_neg u3, if_pos (by unfold Band; omega)]
  rw [finish_at]
  simp only [hs]
  rfl

end Cert.KernelIdeal.Block

end
-- ==== Proof.AttnTile.lean ====
/- A stored tile of the attention kernel at an index, given what its loads hold. -/
module

public import proofs.«01_k».proof.Proof.AttnBlock

@[expose] public section

set_option maxRecDepth 16384

noncomputable section

open Idealize.ShloMosaic Idealize.ShloMosaic.TcCoe Idealize.SL.Sem

namespace Cert.KernelIdeal.Block

open Cert.KernelIdeal Cert.KernelIdeal.Gen

/-- What a chain's loads hold: the keys, the values, the queries and the sinks, by their places. -/
structure Reads (n : Fin 32) (r : Fin 128) (X Y : Vec Ideal S1x1x512x128 .f32) (p0 p1 p2 w0 w1 w2 : Vec Ideal S1x128x128 .f32)
    (Q : Vec Ideal S1x128x512 .f32) (fk fv : Fin 896 → Fin 128 → EReal) (q : Fin 512 → EReal) : Prop where
  hX : ∀ (k : Fin 512) (l : Fin 128), X (ix4 0 0 k l) = fk ⟨384 + k.val, by omega⟩ l
  hY : ∀ (k : Fin 512) (l : Fin 128), Y (ix4 0 0 k l) = fv ⟨384 + k.val, by omega⟩ l
  hp0 : ∀ (k l : Fin 128), p0 (ix3 0 k l) = fk ⟨k.val, by omega⟩ l
  hp1 : ∀ (k l : Fin 128), p1 (ix3 0 k l) = fk ⟨128 + k.val, by omega⟩ l
  hp2 : ∀ (k l : Fin 128), p2 (ix3 0 k l) = fk ⟨256 + k.val, by omega⟩ l
  hw0 : ∀ (k l : Fin 128), w0 (ix3 0 k l) = fv ⟨k.val, by omega⟩ l
  hw1 : ∀ (k l : Fin 128), w1 (ix3 0 k l) = fv ⟨128 + k.val, by omega⟩ l
  hw2 : ∀ (k l : Fin 128), w2 (ix3 0 k l) = fv ⟨256 + k.val, by omega⟩ l
  hQ : ∀ (d : Fin 512), Q (ix3 0 r d) = q d

variable {n : Fin 32} {r : Fin 128} {X Y : Vec Ideal S1x1x512x128 .f32} {p0 p1 p2 w0 w1 w2 : Vec Ideal S1x128x128 .f32}
  {Q : Vec Ideal S1x128x512 .f32} {fk fv : Fin 896 → Fin 128 → EReal} {q : Fin 512 → EReal}

/-- The keys that a chain stacks. -/
abbrev stackK (X : Vec Ideal S1x1x512x128 .f32) (p0 p1 p2 : Vec Ideal S1x128x128 .f32) : FVec Ideal S896x128 .bf16 :=
  k0_pay22 (k0_pay1 X) (k0_pay3 p0) (k0_pay3 p1) (k0_pay3 p2)

theorem Reads.keys (h : Reads n r X Y p0 p1 p2 w0 w1 w2 Q fk fv q) (k : Fin 896) (l : Fin 128) :
    stackK X p0 p1 p2 (ix2 k l) = fk k l :=
  stack_at _ _ _ _ fk (fun k l => (block_at _ _ _).trans (h.hp0 k l)) (fun k l => (block_at _ _ _).trans (h.hp1 k l))
    (fun k l => (block_at _ _ _).trans (h.hp2 k l)) (fun k l => (ctx_at _ _ _).trans (h.hX k l)) k l

theorem Reads.values (h : Reads n r X Y p0 p1 p2 w0 w1 w2 Q fk fv q) (k : Fin 896) (l : Fin 128) :
    stackK Y w0 w1 w2 (ix2 k l) = fv k l :=
  stack_at _ _ _ _ fv (fun k l => (block_at _ _ _).trans (h.hw0 k l)) (fun k l => (block_at _ _ _).trans (h.hw1 k l))
    (fun k l => (block_at _ _ _).trans (h.hw2 k l)) (fun k l => (ctx_at _ _ _).trans (h.hY k l)) k l

theorem left_at (v : FVec Ideal S896x128 .bf16) (k : Fin 896) (d : Fin 64) : left v (ix2 k d) = v (ix2 k ⟨d.val, by omega⟩) := by
  pointwise [left]

theorem right_at (v : FVec Ideal S896x128 .bf16) (k : Fin 896) (d : Fin 64) : right v (ix2 k d) = v (ix2 k ⟨64 + d.val, by omega⟩) := by
  pointwise [right]

/-- A tile of key head 0 at an index: the attention of its query and head, times the gate. -/
theorem tile0A_at (h : Reads n r X Y p0 p1 p2 w0 w1 w2 Q fk fv q) (a : Fin 4 → EReal) (g : EReal) (o1 o2 : IVec S128x512 1)
    (G : Vec Ideal S1x128x128 .f32) (l : Fin 128) (hG : G (ix3 0 r l) = g)
    (h1 : ∀ (k : Fin 128) (c : Fin 512), o1 (ix2 k c) = 1#1 ↔ (c.val % 128 ≤ k.val ∧ 0 < n.val))
    (h2 : ∀ (k : Fin 128) (c : Fin 512), o2 (ix2 k c) = 1#1 ↔ (k.val ≤ c.val % 128 ∧ n.val < 31)) :
    tile0A (stackK X p0 p1 p2) (stackK Y w0 w1 w2) o1 o2 Q (a 0) (a 1) (a 2) (a 3) G (ix3 0 r l)
      = attend n r (fun k d => fk k ⟨d.val, by omega⟩) (fun k d => fv k ⟨d.val, by omega⟩) (fun d => q ⟨l.val / 64 * 64 + d.val, by omega⟩) (a ⟨l.val / 64, by omega⟩) ⟨l.val % 64, by omega⟩ * g := by
  unfold tile0A
  rw [pairA_at, hG]
  refine congrArg (· * g) ?_
  refine (chain_at n r _ _ _ _ _ _ _ _ (fun d => q ⟨l.val / 64 * 64 + d.val, by omega⟩) (by simp only; omega) ?_ (fun k => h1 k _) (fun k => h2 k _)).trans ?_
  · intro d
    rw [qcat0_at, ← h.hQ]
    refine congrArg (fun i => Q i * qs) ((ix3_inj ..).2 ⟨rfl, ?_, ?_⟩) <;> apply Fin.ext <;> simp only <;> omega
  · simp only [left_at, h.keys, h.values, sinkRow_at]
    refine congrArg (fun i => attend n r _ _ _ (a i) _) (Fin.ext ?_)
    simp only
    omega

/-- A tile of key head 0 at an index: the attention of its query and head, times the gate. -/
theorem tile0B_at (h : Reads n r X Y p0 p1 p2 w0 w1 w2 Q fk fv q) (a : Fin 4 → EReal) (g : EReal) (o1 o2 : IVec S128x512 1)
    (G : Vec Ideal S1x128x128 .f32) (l : Fin 128) (hG : G (ix3 0 r l) = g)
    (h1 : ∀ (k : Fin 128) (c : Fin 512), o1 (ix2 k c) = 1#1 ↔ (c.val % 128 ≤ k.val ∧ 0 < n.val))
    (h2 : ∀ (k : Fin 128) (c : Fin 512), o2 (ix2 k c) = 1#1 ↔ (k.val ≤ c.val % 128 ∧ n.val < 31)) :
    tile0B (stackK X p0 p1 p2) (stackK Y w0 w1 w2) o1 o2 Q (a 0) (a 1) (a 2) (a 3) G (ix3 0 r l)
      = attend n r (fun k d => fk k ⟨d.val, by omega⟩) (fun k d => fv k ⟨d.val, by omega⟩) (fun d => q ⟨128 + (l.val / 64 * 64 + d.val), by omega⟩) (a ⟨2 + l.val / 64, by omega⟩) ⟨l.val % 64, by omega⟩ * g := by
  unfold tile0B
  rw [pairB_at, hG]
  refine congrArg (· * g) ?_
  refine (chain_at n r _ _ _ _ _ _ _ _ (fun d => q ⟨128 + (l.val / 64 * 64 + d.val), by omega⟩) (by simp only; omega) ?_ (fun k => h1 k _) (fun k => h2 k _)).trans ?_
  · intro d
    rw [qcat0_at, ← h.hQ]
    refine congrArg (fun i => Q i * qs) ((ix3_inj ..).2 ⟨rfl, ?_, ?_⟩) <;> apply Fin.ext <;> simp only <;> omega
  · simp only [left_at, h.keys, h.values, sinkRow_at]
    refine congrArg (fun i => attend n r _ _ _ (a i) _) (Fin.ext ?_)
    simp only
    omega

/-- A tile of key head 1 at an index: the attention of its query and head, times the gate. -/
theorem tile1A_at (h : Reads n r X Y p0 p1 p2 w0 w1 w2 Q fk fv q) (a : Fin 4 → EReal) (g : EReal) (o1 o2 : IVec S128x512 1)
    (G : Vec Ideal S1x128x128 .f32) (l : Fin 128) (hG : G (ix3 0 r l) = g)
    (h1 : ∀ (k : Fin 128) (c : Fin 512), o1 (ix2 k c) = 1#1 ↔ (c.val % 128 ≤ k.val ∧ 0 < n.val))
    (h2 : ∀ (k : Fin 128) (c : Fin 512), o2 (ix2 k c) = 1#1 ↔ (k.val ≤ c.val % 128 ∧ n.val < 31)) :
    tile1A (stackK X p0 p1 p2) (stackK Y w0 w1 w2) o1 o2 Q (a 0) (a 1) (a 2) (a 3) G (ix3 0 r l)
      = attend n r (fun k d => fk k ⟨64 + d.val, by omega⟩) (fun k d => fv k ⟨64 + d.val, by omega⟩) (fun d => q ⟨256 + (l.val / 64 * 64 + d.val), by omega⟩) (a ⟨l.val / 64, by omega⟩) ⟨l.val % 64, by omega⟩ * g := by
  unfold tile1A
  rw [pairA_at, hG]
  refine congrArg (· * g) ?_
  refine (chain_at n r _ _ _ _ _ _ _ _ (fun d => q ⟨256 + (l.val / 64 * 64 + d.val), by omega⟩) (by simp only; omega) ?_ (fun k => h1 k _) (fun k => h2 k _)).trans ?_
  · intro d
    rw [qcat1_at, ← h.hQ]
    refine congrArg (fun i => Q i * qs) ((ix3_inj ..).2 ⟨rfl, ?_, ?_⟩) <;> apply Fin.ext <;> simp only <;> omega
  · simp only [right_at, h.keys, h.values, sinkRow_at]
    refine congrArg (fun i => attend n r _ _ _ (a i) _) (Fin.ext ?_)
    simp only
    omega

/-- A tile of key head 1 at an index: the attention of its query and head, times the gate. -/
theorem tile1B_at (h : Reads n r X Y p0 p1 p2 w0 w1 w2 Q fk fv q) (a : Fin 4 → EReal) (g : EReal) (o1 o2 : IVec S128x512 1)
    (G : Vec Ideal S1x128x128 .f32) (l : Fin 128) (hG : G (ix3 0 r l) = g)
    (h1 : ∀ (k : Fin 128) (c : Fin 512), o1 (ix2 k c) = 1#1 ↔ (c.val % 128 ≤ k.val ∧ 0 < n.val))
    (h2 : ∀ (k : Fin 128) (c : Fin 512), o2 (ix2 k c) = 1#1 ↔ (k.val ≤ c.val % 128 ∧ n.val < 31)) :
    tile1B (stackK X p0 p1 p2) (stackK Y w0 w1 w2) o1 o2 Q (a 0) (a 1) (a 2) (a 3) G (ix3 0 r l)
      = attend n r (fun k d => fk k ⟨64 + d.val, by omega⟩) (fun k d => fv k ⟨64 + d.val, by omega⟩) (fun d => q ⟨384 + (l.val / 64 * 64 + d.val), by omega⟩) (a ⟨2 + l.val / 64, by omega⟩) ⟨l.val % 64, by omega⟩ * g := by
  unfold tile1B
  rw [pairB_at, hG]
  refine congrArg (· * g) ?_
  refine (chain_at n r _ _ _ _ _ _ _ _ (fun d => q ⟨384 + (l.val / 64 * 64 + d.val), by omega⟩) (by simp only; omega) ?_ (fun k => h1 k _) (fun k => h2 k _)).trans ?_
  · intro d
    rw [qcat1_at, ← h.hQ]
    refine congrArg (fun i => Q i * qs) ((ix3_inj ..).2 ⟨rfl, ?_, ?_⟩) <;> apply Fin.ext <;> simp only <;> omega
  · simp only [right_at, h.keys, h.values, sinkRow_at]
    refine congrArg (fun i => attend n r _ _ _ (a i) _) (Fin.ext ?_)
    simp only
    omega

end Cert.KernelIdeal.Block

end
-- ==== Proof.AttnPiecesA.lean ====
/- The stored tiles of the first four chains at an index. -/
module

public import proofs.«01_k».proof.Proof.AttnTile

@[expose] public section

set_option maxRecDepth 16384

noncomputable section

open Idealize.ShloMosaic Idealize.ShloMosaic.TcCoe Idealize.SL.Sem

namespace Cert.KernelIdeal.Block

open Cert.KernelIdeal Cert.KernelIdeal.Gen

variable {n : Fin 32} {r : Fin 128} {X Y : Vec Ideal S1x1x512x128 .f32} {p0 p1 p2 w0 w1 w2 : Vec Ideal S1x128x128 .f32}
  {Q : Vec Ideal S1x128x512 .f32} {fk fv : Fin 896 → Fin 128 → EReal} {q : Fin 512 → EReal}

/-- The tile of chain 3 at column 384. -/
theorem piece16_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 3) (h0 : a0 = a 0) (h1 : a1 = a 1) (h2 : a2 = a 2)
    (h3 : a3 = a 3) (hG : G (ix3 0 r l) = g) :
    k0_pay133 (k0_pay126 (k0_pay33 (k0_pay2 Y) (k0_pay16 w0) (k0_pay17 w1) (k0_pay18 w2))) (k0_pay128 (iota .tc S1x512 32 [1] iota_S1x512_d1_w32) (128#32) k0_pay127 (0#32) a0 a1 a2 a3) (k0_pay129 (k0_pay56 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (iota .tc S1x512 32 [1] iota_S1x512_d1_w32) (128#32) k0_pay127 (0#32) a0 a1 a2 a3) (k0_pay130 (k0_pay56 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (iota .tc S1x512 32 [1] iota_S1x512_d1_w32) (128#32) k0_pay127 (0#32) a0 a1 a2 a3) G (ix3 0 r l)
      = attend n r (fun k d => fk k ⟨64 + d.val, by omega⟩) (fun k d => fv k ⟨64 + d.val, by omega⟩) (fun d => q ⟨384 + (l.val / 64 * 64 + d.val), by omega⟩) (a ⟨2 + l.val / 64, by omega⟩) ⟨l.val % 64, by omega⟩ * g := by
  subst h0 h1 h2 h3
  have hj := j.isLt
  have e : k0_pay133 (k0_pay126 (k0_pay33 (k0_pay2 Y) (k0_pay16 w0) (k0_pay17 w1) (k0_pay18 w2))) (k0_pay128 (iota .tc S1x512 32 [1] iota_S1x512_d1_w32) (128#32) k0_pay127 (0#32) (a 0) (a 1) (a 2) (a 3)) (k0_pay129 (k0_pay56 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (iota .tc S1x512 32 [1] iota_S1x512_d1_w32) (128#32) k0_pay127 (0#32) (a 0) (a 1) (a 2) (a 3)) (k0_pay130 (k0_pay56 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (iota .tc S1x512 32 [1] iota_S1x512_d1_w32) (128#32) k0_pay127 (0#32) (a 0) (a 1) (a 2) (a 3)) G
      = tile1B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1B_at h a g _ _ G l hG (fun k c => (prev_at k c).trans (by omega)) (fun k c => (next_at k c).trans (by omega)))

/-- The tile of chain 3 at column 256. -/
theorem piece17_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 3) (h0 : a0 = a 0) (h1 : a1 = a 1) (h2 : a2 = a 2)
    (h3 : a3 = a 3) (hG : G (ix3 0 r l) = g) :
    k0_pay132 (k0_pay126 (k0_pay33 (k0_pay2 Y) (k0_pay16 w0) (k0_pay17 w1) (k0_pay18 w2))) (k0_pay128 (iota .tc S1x512 32 [1] iota_S1x512_d1_w32) (128#32) k0_pay127 (0#32) a0 a1 a2 a3) (k0_pay129 (k0_pay56 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (iota .tc S1x512 32 [1] iota_S1x512_d1_w32) (128#32) k0_pay127 (0#32) a0 a1 a2 a3) (k0_pay130 (k0_pay56 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (iota .tc S1x512 32 [1] iota_S1x512_d1_w32) (128#32) k0_pay127 (0#32) a0 a1 a2 a3) G (ix3 0 r l)
      = attend n r (fun k d => fk k ⟨64 + d.val, by omega⟩) (fun k d => fv k ⟨64 + d.val, by omega⟩) (fun d => q ⟨256 + (l.val / 64 * 64 + d.val), by omega⟩) (a ⟨l.val / 64, by omega⟩) ⟨l.val % 64, by omega⟩ * g := by
  subst h0 h1 h2 h3
  have hj := j.isLt
  have e : k0_pay132 (k0_pay126 (k0_pay33 (k0_pay2 Y) (k0_pay16 w0) (k0_pay17 w1) (k0_pay18 w2))) (k0_pay128 (iota .tc S1x512 32 [1] iota_S1x512_d1_w32) (128#32) k0_pay127 (0#32) (a 0) (a 1) (a 2) (a 3)) (k0_pay129 (k0_pay56 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (iota .tc S1x512 32 [1] iota_S1x512_d1_w32) (128#32) k0_pay127 (0#32) (a 0) (a 1) (a 2) (a 3)) (k0_pay130 (k0_pay56 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (iota .tc S1x512 32 [1] iota_S1x512_d1_w32) (128#32) k0_pay127 (0#32) (a 0) (a 1) (a 2) (a 3)) G
      = tile1A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1A_at h a g _ _ G l hG (fun k c => (prev_at k c).trans (by omega)) (fun k c => (next_at k c).trans (by omega)))

/-- The tile of chain 3 at column 128. -/
theorem piece18_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 3) (h0 : a0 = a 0) (h1 : a1 = a 1) (h2 : a2 = a 2)
    (h3 : a3 = a 3) (hG : G (ix3 0 r l) = g) :
    k0_pay125 (k0_pay55 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (k0_pay121 (k0_pay33 (k0_pay2 Y) (k0_pay16 w0) (k0_pay17 w1) (k0_pay18 w2))) (k0_pay122 a0 a1 a2 a3) G (ix3 0 r l)
      = attend n r (fun k d => fk k ⟨d.val, by omega⟩) (fun k d => fv k ⟨d.val, by omega⟩) (fun d => q ⟨128 + (l.val / 64 * 64 + d.val), by omega⟩) (a ⟨2 + l.val / 64, by omega⟩) ⟨l.val % 64, by omega⟩ * g := by
  subst h0 h1 h2 h3
  have hj := j.isLt
  have e : k0_pay125 (k0_pay55 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (k0_pay121 (k0_pay33 (k0_pay2 Y) (k0_pay16 w0) (k0_pay17 w1) (k0_pay18 w2))) (k0_pay122 (a 0) (a 1) (a 2) (a 3)) G
      = tile0B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0B_at h a g _ _ G l hG (fun k c => (prev_at k c).trans (by omega)) (fun k c => (next_at k c).trans (by omega)))

/-- The tile of chain 3 at column 0. -/
theorem piece19_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 3) (h0 : a0 = a 0) (h1 : a1 = a 1) (h2 : a2 = a 2)
    (h3 : a3 = a 3) (hG : G (ix3 0 r l) = g) :
    k0_pay124 (k0_pay55 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (k0_pay121 (k0_pay33 (k0_pay2 Y) (k0_pay16 w0) (k0_pay17 w1) (k0_pay18 w2))) (k0_pay122 a0 a1 a2 a3) G (ix3 0 r l)
      = attend n r (fun k d => fk k ⟨d.val, by omega⟩) (fun k d => fv k ⟨d.val, by omega⟩) (fun d => q ⟨l.val / 64 * 64 + d.val, by omega⟩) (a ⟨l.val / 64, by omega⟩) ⟨l.val % 64, by omega⟩ * g := by
  subst h0 h1 h2 h3
  have hj := j.isLt
  have e : k0_pay124 (k0_pay55 (k0_pay25 (k0_pay1 X) (k0_pay6 p0) (k0_pay7 p1) (k0_pay8 p2)) (k0_pay42 (iota .tc S128x512 32 [0] iota_S128x512_d0_w32) k0_pay38) (k0_pay43 (iota .tc S128x512 32 [0] iota_S128x512_d0_w32) k0_pay38) Q) (k0_pay121 (k0_pay33 (k0_pay2 Y) (k0_pay16 w0) (k0_pay17 w1) (k0_pay18 w2))) (k0_pay122 (a 0) (a 1) (a 2) (a 3)) G
      = tile0A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0A_at h a g _ _ G l hG (fun k c => (prev_at k c).trans (by omega)) (fun k c => (next_at k c).trans (by omega)))

/-- The tile of chain 2 at column 384. -/
theorem piece20_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 2) (h0 : a0 = a 0) (h1 : a1 = a 1) (h2 : a2 = a 2)
    (h3 : a3 = a 3) (hG : G (ix3 0 r l) = g) :
    k0_pay120 (k0_pay54 (k0_pay24 (k0_pay1 X) (k0_pay5 p0) (k0_pay6 p1) (k0_pay7 p2)) (k0_pay42 (iota .tc S128x512 32 [0] iota_S128x512_d0_w32) k0_pay38) (k0_pay43 (iota .tc S128x512 32 [0] iota_S128x512_d0_w32) k0_pay38) Q) (k0_pay114 (k0_pay32 (k0_pay2 Y) (k0_pay15 w0) (k0_pay16 w1) (k0_pay17 w2))) (k0_pay116 a0 a1 a2) k0_pay117 a3 G (ix3 0 r l)
      = attend n r (fun k d => fk k ⟨64 + d.val, by omega⟩) (fun k d => fv k ⟨64 + d.val, by omega⟩) (fun d => q ⟨384 + (l.val / 64 * 64 + d.val), by omega⟩) (a ⟨2 + l.val / 64, by omega⟩) ⟨l.val % 64, by omega⟩ * g := by
  subst h0 h1 h2 h3
  have hj := j.isLt
  have e : k0_pay120 (k0_pay54 (k0_pay24 (k0_pay1 X) (k0_pay5 p0) (k0_pay6 p1) (k0_pay7 p2)) (k0_pay42 (iota .tc S128x512 32 [0] iota_S128x512_d0_w32) k0_pay38) (k0_pay43 (iota .tc S128x512 32 [0] iota_S128x512_d0_w32) k0_pay38) Q) (k0_pay114 (k0_pay32 (k0_pay2 Y) (k0_pay15 w0) (k0_pay16 w1) (k0_pay17 w2))) (k0_pay116 (a 0) (a 1) (a 2)) k0_pay117 (a 3) G
      = tile1B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1B_at h a g _ _ G l hG (fun k c => (prev_at k c).trans (by omega)) (fun k c => (next_at k c).trans (by omega)))

/-- The tile of chain 2 at column 256. -/
theorem piece21_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 2) (h0 : a0 = a 0) (h1 : a1 = a 1) (h2 : a2 = a 2)
    (h3 : a3 = a 3) (hG : G (ix3 0 r l) = g) :
    k0_pay119 (k0_pay54 (k0_pay24 (k0_pay1 X) (k0_pay5 p0) (k0_pay6 p1) (k0_pay7 p2)) (k0_pay42 (iota .tc S128x512 32 [0] iota_S128x512_d0_w32) k0_pay38) (k0_pay43 (iota .tc S128x512 32 [0] iota_S128x512_d0_w32) k0_pay38) Q) (k0_pay114 (k0_pay32 (k0_pay2 Y) (k0_pay15 w0) (k0_pay16 w1) (k0_pay17 w2))) (k0_pay116 a0 a1 a2) k0_pay117 a3 G (ix3 0 r l)
      = attend n r (fun k d => fk k ⟨64 + d.val, by omega⟩) (fun k d => fv k ⟨64 + d.val, by omega⟩) (fun d => q ⟨256 + (l.val / 64 * 64 + d.val), by omega⟩) (a ⟨l.val / 64, by omega⟩) ⟨l.val % 64, by omega⟩ * g := by
  subst h0 h1 h2 h3
  have hj := j.isLt
  have e : k0_pay119 (k0_pay54 (k0_pay24 (k0_pay1 X) (k0_pay5 p0) (k0_pay6 p1) (k0_pay7 p2)) (k0_pay42 (iota .tc S128x512 32 [0] iota_S128x512_d0_w32) k0_pay38) (k0_pay43 (iota .tc S128x512 32 [0] iota_S128x512_d0_w32) k0_pay38) Q) (k0_pay114 (k0_pay32 (k0_pay2 Y) (k0_pay15 w0) (k0_pay16 w1) (k0_pay17 w2))) (k0_pay116 (a 0) (a 1) (a 2)) k0_pay117 (a 3) G
      = tile1A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1A_at h a g _ _ G l hG (fun k c => (prev_at k c).trans (by omega)) (fun k c => (next_at k c).trans (by omega)))

/-- The tile of chain 2 at column 128. -/
theorem piece22_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 2) (h0 : a0 = a 0) (h1 : a1 = a 1) (h2 : a2 = a 2)
    (h3 : a3 = a 3) (hG : G (ix3 0 r l) = g) :
    k0_pay113 (k0_pay112 (k0_pay53 (k0_pay24 (k0_pay1 X) (k0_pay5 p0) (k0_pay6 p1) (k0_pay7 p2)) (k0_pay42 (iota .tc S128x512 32 [0] iota_S128x512_d0_w32) k0_pay38) (k0_pay43 (iota .tc S128x512 32 [0] iota_S128x512_d0_w32) k0_pay38) Q) (k0_pay106 (k0_pay32 (k0_pay2 Y) (k0_pay15 w0) (k0_pay16 w1) (k0_pay17 w2))) k0_pay107 (k0_pay108 a0 a1) k0_pay109 a2 a3 G) (ix3 0 r l)
      = attend n r (fun k d => fk k ⟨d.val, by omega⟩) (fun k d => fv k ⟨d.val, by omega⟩) (fun d => q ⟨128 + (l.val / 64 * 64 + d.val), by omega⟩) (a ⟨2 + l.val / 64, by omega⟩) ⟨l.val % 64, by omega⟩ * g := by
  subst h0 h1 h2 h3
  have hj := j.isLt
  have e : k0_pay113 (k0_pay112 (k0_pay53 (k0_pay24 (k0_pay1 X) (k0_pay5 p0) (k0_pay6 p1) (k0_pay7 p2)) (k0_pay42 (iota .tc S128x512 32 [0] iota_S128x512_d0_w32) k0_pay38) (k0_pay43 (iota .tc S128x512 32 [0] iota_S128x512_d0_w32) k0_pay38) Q) (k0_pay106 (k0_pay32 (k0_pay2 Y) (k0_pay15 w0) (k0_pay16 w1) (k0_pay17 w2))) k0_pay107 (k0_pay108 (a 0) (a 1)) k0_pay109 (a 2) (a 3) G)
      = tile0B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0B_at h a g _ _ G l hG (fun k c => (prev_at k c).trans (by omega)) (fun k c => (next_at k c).trans (by omega)))

/-- The tile of chain 2 at column 0. -/
theorem piece23_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 2) (h0 : a0 = a 0) (h1 : a1 = a 1) (h2 : a2 = a 2)
    (h3 : a3 = a 3) (hG : G (ix3 0 r l) = g) :
    k0_pay111 (k0_pay53 (k0_pay24 (k0_pay1 X) (k0_pay5 p0) (k0_pay6 p1) (k0_pay7 p2)) (k0_pay42 (iota .tc S128x512 32 [0] iota_S128x512_d0_w32) k0_pay38) (k0_pay43 (iota .tc S128x512 32 [0] iota_S128x512_d0_w32) k0_pay38) Q) (k0_pay106 (k0_pay32 (k0_pay2 Y) (k0_pay15 w0) (k0_pay16 w1) (k0_pay17 w2))) k0_pay107 (k0_pay108 a0 a1) k0_pay109 a2 a3 G (ix3 0 r l)
      = attend n r (fun k d => fk k ⟨d.val, by omega⟩) (fun k d => fv k ⟨d.val, by omega⟩) (fun d => q ⟨l.val / 64 * 64 + d.val, by omega⟩) (a ⟨l.val / 64, by omega⟩) ⟨l.val % 64, by omega⟩ * g := by
  subst h0 h1 h2 h3
  have hj := j.isLt
  have e : k0_pay111 (k0_pay53 (k0_pay24 (k0_pay1 X) (k0_pay5 p0) (k0_pay6 p1) (k0_pay7 p2)) (k0_pay42 (iota .tc S128x512 32 [0] iota_S128x512_d0_w32) k0_pay38) (k0_pay43 (iota .tc S128x512 32 [0] iota_S128x512_d0_w32) k0_pay38) Q) (k0_pay106 (k0_pay32 (k0_pay2 Y) (k0_pay15 w0) (k0_pay16 w1) (k0_pay17 w2))) k0_pay107 (k0_pay108 (a 0) (a 1)) k0_pay109 (a 2) (a 3) G
      = tile0A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0A_at h a g _ _ G l hG (fun k c => (prev_at k c).trans (by omega)) (fun k c => (next_at k c).trans (by omega)))

/-- The tile of chain 1 at column 384. -/
theorem piece24_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 1) (h0 : a0 = a 0) (h1 : a1 = a 1) (h2 : a2 = a 2)
    (h3 : a3 = a 3) (hG : G (ix3 0 r l) = g) :
    k0_pay105 (k0_pay104 (k0_pay52 (k0_pay23 (k0_pay1 X) (k0_pay4 p0) (k0_pay5 p1) (k0_pay6 p2)) (k0_pay42 (iota .tc S128x512 32 [0] iota_S128x512_d0_w32) k0_pay38) (k0_pay43 (iota .tc S128x512 32 [0] iota_S128x512_d0_w32) k0_pay38) Q) (k0_pay97 (k0_pay31 (k0_pay2 Y) (k0_pay14 w0) (k0_pay15 w1) (k0_pay16 w2))) k0_pay98 (k0_pay99 a0) k0_pay100 (k0_pay101 a1) a2 a3) G (ix3 0 r l)
      = attend n r (fun k d => fk k ⟨64 + d.val, by omega⟩) (fun k d => fv k ⟨64 + d.val, by omega⟩) (fun d => q ⟨384 + (l.val / 64 * 64 + d.val), by omega⟩) (a ⟨2 + l.val / 64, by omega⟩) ⟨l.val % 64, by omega⟩ * g := by
  subst h0 h1 h2 h3
  have hj := j.isLt
  have e : k0_pay105 (k0_pay104 (k0_pay52 (k0_pay23 (k0_pay1 X) (k0_pay4 p0) (k0_pay5 p1) (k0_pay6 p2)) (k0_pay42 (iota .tc S128x512 32 [0] iota_S128x512_d0_w32) k0_pay38) (k0_pay43 (iota .tc S128x512 32 [0] iota_S128x512_d0_w32) k0_pay38) Q) (k0_pay97 (k0_pay31 (k0_pay2 Y) (k0_pay14 w0) (k0_pay15 w1) (k0_pay16 w2))) k0_pay98 (k0_pay99 (a 0)) k0_pay100 (k0_pay101 (a 1)) (a 2) (a 3)) G
      = tile1B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1B_at h a g _ _ G l hG (fun k c => (prev_at k c).trans (by omega)) (fun k c => (next_at k c).trans (by omega)))

/-- The tile of chain 1 at column 256. -/
theorem piece25_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 1) (h0 : a0 = a 0) (h1 : a1 = a 1) (h2 : a2 = a 2)
    (h3 : a3 = a 3) (hG : G (ix3 0 r l) = g) :
    k0_pay103 (k0_pay52 (k0_pay23 (k0_pay1 X) (k0_pay4 p0) (k0_pay5 p1) (k0_pay6 p2)) (k0_pay42 (iota .tc S128x512 32 [0] iota_S128x512_d0_w32) k0_pay38) (k0_pay43 (iota .tc S128x512 32 [0] iota_S128x512_d0_w32) k0_pay38) Q) (k0_pay97 (k0_pay31 (k0_pay2 Y) (k0_pay14 w0) (k0_pay15 w1) (k0_pay16 w2))) k0_pay98 (k0_pay99 a0) k0_pay100 (k0_pay101 a1) a2 a3 G (ix3 0 r l)
      = attend n r (fun k d => fk k ⟨64 + d.val, by omega⟩) (fun k d => fv k ⟨64 + d.val, by omega⟩) (fun d => q ⟨256 + (l.val / 64 * 64 + d.val), by omega⟩) (a ⟨l.val / 64, by omega⟩) ⟨l.val % 64, by omega⟩ * g := by
  subst h0 h1 h2 h3
  have hj := j.isLt
  have e : k0_pay103 (k0_pay52 (k0_pay23 (k0_pay1 X) (k0_pay4 p0) (k0_pay5 p1) (k0_pay6 p2)) (k0_pay42 (iota .tc S128x512 32 [0] iota_S128x512_d0_w32) k0_pay38) (k0_pay43 (iota .tc S128x512 32 [0] iota_S128x512_d0_w32) k0_pay38) Q) (k0_pay97 (k0_pay31 (k0_pay2 Y) (k0_pay14 w0) (k0_pay15 w1) (k0_pay16 w2))) k0_pay98 (k0_pay99 (a 0)) k0_pay100 (k0_pay101 (a 1)) (a 2) (a 3) G
      = tile1A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1A_at h a g _ _ G l hG (fun k c => (prev_at k c).trans (by omega)) (fun k c => (next_at k c).trans (by omega)))

/-- The tile of chain 1 at column 128. -/
theorem piece26_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 1) (h0 : a0 = a 0) (h1 : a1 = a 1) (h2 : a2 = a 2)
    (h3 : a3 = a 3) (hG : G (ix3 0 r l) = g) :
    k0_pay96 (k0_pay94 (k0_pay51 (k0_pay23 (k0_pay1 X) (k0_pay4 p0) (k0_pay5 p1) (k0_pay6 p2)) (k0_pay42 (iota .tc S128x512 32 [0] iota_S128x512_d0_w32) k0_pay38) (k0_pay43 (iota .tc S128x512 32 [0] iota_S128x512_d0_w32) k0_pay38) Q) (k0_pay91 (k0_pay31 (k0_pay2 Y) (k0_pay14 w0) (k0_pay15 w1) (k0_pay16 w2))) k0_pay92 (k0_pay93 a0) a1 a2 a3) G (ix3 0 r l)
      = attend n r (fun k d => fk k ⟨d.val, by omega⟩) (fun k d => fv k ⟨d.val, by omega⟩) (fun d => q ⟨128 + (l.val / 64 * 64 + d.val), by omega⟩) (a ⟨2 + l.val / 64, by omega⟩) ⟨l.val % 64, by omega⟩ * g := by
  subst h0 h1 h2 h3
  have hj := j.isLt
  have e : k0_pay96 (k0_pay94 (k0_pay51 (k0_pay23 (k0_pay1 X) (k0_pay4 p0) (k0_pay5 p1) (k0_pay6 p2)) (k0_pay42 (iota .tc S128x512 32 [0] iota_S128x512_d0_w32) k0_pay38) (k0_pay43 (iota .tc S128x512 32 [0] iota_S128x512_d0_w32) k0_pay38) Q) (k0_pay91 (k0_pay31 (k0_pay2 Y) (k0_pay14 w0) (k0_pay15 w1) (k0_pay16 w2))) k0_pay92 (k0_pay93 (a 0)) (a 1) (a 2) (a 3)) G
      = tile0B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0B_at h a g _ _ G l hG (fun k c => (prev_at k c).trans (by omega)) (fun k c => (next_at k c).trans (by omega)))

/-- The tile of chain 1 at column 0. -/
theorem piece27_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 1) (h0 : a0 = a 0) (h1 : a1 = a 1) (h2 : a2 = a 2)
    (h3 : a3 = a 3) (hG : G (ix3 0 r l) = g) :
    k0_pay95 (k0_pay51 (k0_pay23 (k0_pay1 X) (k0_pay4 p0) (k0_pay5 p1) (k0_pay6 p2)) (k0_pay42 (iota .tc S128x512 32 [0] iota_S128x512_d0_w32) k0_pay38) (k0_pay43 (iota .tc S128x512 32 [0] iota_S128x512_d0_w32) k0_pay38) Q) (k0_pay91 (k0_pay31 (k0_pay2 Y) (k0_pay14 w0) (k0_pay15 w1) (k0_pay16 w2))) k0_pay92 (k0_pay93 a0) a1 a2 a3 G (ix3 0 r l)
      = attend n r (fun k d => fk k ⟨d.val, by omega⟩) (fun k d => fv k ⟨d.val, by omega⟩) (fun d => q ⟨l.val / 64 * 64 + d.val, by omega⟩) (a ⟨l.val / 64, by omega⟩) ⟨l.val % 64, by omega⟩ * g := by
  subst h0 h1 h2 h3
  have hj := j.isLt
  have e : k0_pay95 (k0_pay51 (k0_pay23 (k0_pay1 X) (k0_pay4 p0) (k0_pay5 p1) (k0_pay6 p2)) (k0_pay42 (iota .tc S128x512 32 [0] iota_S128x512_d0_w32) k0_pay38) (k0_pay43 (iota .tc S128x512 32 [0] iota_S128x512_d0_w32) k0_pay38) Q) (k0_pay91 (k0_pay31 (k0_pay2 Y) (k0_pay14 w0) (k0_pay15 w1) (k0_pay16 w2))) k0_pay92 (k0_pay93 (a 0)) (a 1) (a 2) (a 3) G
      = tile0A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0A_at h a g _ _ G l hG (fun k c => (prev_at k c).trans (by omega)) (fun k c => (next_at k c).trans (by omega)))

/-- The tile of chain 0 at column 384. -/
theorem piece28_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 0) (h0 : a0 = a 0) (h1 : a1 = a 1) (h2 : a2 = a 2)
    (h3 : a3 = a 3) (hG : G (ix3 0 r l) = g) :
    k0_pay90 (k0_pay87 (k0_pay50 (k0_pay43 (iota .tc S128x512 32 [0] iota_S128x512_d0_w32) k0_pay38) (k0_pay46 (k0_pay22 (k0_pay1 X) (k0_pay3 p0) (k0_pay4 p1) (k0_pay5 p2)) Q) (k0_pay47 (k0_pay22 (k0_pay1 X) (k0_pay3 p0) (k0_pay4 p1) (k0_pay5 p2)) k0_pay39 (k0_pay40 (BitVec.ofNat 32 j.val)) Q) (k0_pay48 (k0_pay22 (k0_pay1 X) (k0_pay3 p0) (k0_pay4 p1) (k0_pay5 p2)) Q) (k0_pay49 (k0_pay22 (k0_pay1 X) (k0_pay3 p0) (k0_pay4 p1) (k0_pay5 p2)) Q) (Named.named κ "mask" 4048155338#32)) (k0_pay84 (k0_pay30 (k0_pay2 Y) (k0_pay13 w0) (k0_pay14 w1) (k0_pay15 w2))) k0_pay85 k0_pay86 (1#32) a0 a1 a2 a3) G (ix3 0 r l)
      = attend n r (fun k d => fk k ⟨64 + d.val, by omega⟩) (fun k d => fv k ⟨64 + d.val, by omega⟩) (fun d => q ⟨384 + (l.val / 64 * 64 + d.val), by omega⟩) (a ⟨2 + l.val / 64, by omega⟩) ⟨l.val % 64, by omega⟩ * g := by
  subst h0 h1 h2 h3
  have hj := j.isLt
  have e : k0_pay90 (k0_pay87 (k0_pay50 (k0_pay43 (iota .tc S128x512 32 [0] iota_S128x512_d0_w32) k0_pay38) (k0_pay46 (k0_pay22 (k0_pay1 X) (k0_pay3 p0) (k0_pay4 p1) (k0_pay5 p2)) Q) (k0_pay47 (k0_pay22 (k0_pay1 X) (k0_pay3 p0) (k0_pay4 p1) (k0_pay5 p2)) k0_pay39 (k0_pay40 (BitVec.ofNat 32 j.val)) Q) (k0_pay48 (k0_pay22 (k0_pay1 X) (k0_pay3 p0) (k0_pay4 p1) (k0_pay5 p2)) Q) (k0_pay49 (k0_pay22 (k0_pay1 X) (k0_pay3 p0) (k0_pay4 p1) (k0_pay5 p2)) Q) (Named.named κ "mask" 4048155338#32)) (k0_pay84 (k0_pay30 (k0_pay2 Y) (k0_pay13 w0) (k0_pay14 w1) (k0_pay15 w2))) k0_pay85 k0_pay86 (1#32) (a 0) (a 1) (a 2) (a 3)) G
      = tile1B (stackK X p0 p1 p2) (stackK Y w0 w1 w2) (k0_pay41 k0_pay39 (k0_pay40 (BitVec.ofNat 32 j.val))) (k0_pay43 (iota .tc S128x512 32 [0] iota_S128x512_d0_w32) k0_pay38) Q (a 0) (a 1) (a 2) (a 3) G := rfl
  exact (congrFun e _).trans (tile1B_at h a g _ _ G l hG (fun k c => (prev0_at j k c).trans (by omega)) (fun k c => (next_at k c).trans (by omega)))

/-- The tile of chain 0 at column 256. -/
theorem piece29_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 0) (h0 : a0 = a 0) (h1 : a1 = a 1) (h2 : a2 = a 2)
    (h3 : a3 = a 3) (hG : G (ix3 0 r l) = g) :
    k0_pay89 (k0_pay88 (k0_pay50 (k0_pay43 (iota .tc S128x512 32 [0] iota_S128x512_d0_w32) k0_pay38) (k0_pay46 (k0_pay22 (k0_pay1 X) (k0_pay3 p0) (k0_pay4 p1) (k0_pay5 p2)) Q) (k0_pay47 (k0_pay22 (k0_pay1 X) (k0_pay3 p0) (k0_pay4 p1) (k0_pay5 p2)) k0_pay39 (k0_pay40 (BitVec.ofNat 32 j.val)) Q) (k0_pay48 (k0_pay22 (k0_pay1 X) (k0_pay3 p0) (k0_pay4 p1) (k0_pay5 p2)) Q) (k0_pay49 (k0_pay22 (k0_pay1 X) (k0_pay3 p0) (k0_pay4 p1) (k0_pay5 p2)) Q) (Named.named κ "mask" 4048155338#32)) (k0_pay84 (k0_pay30 (k0_pay2 Y) (k0_pay13 w0) (k0_pay14 w1) (k0_pay15 w2))) k0_pay85 k0_pay86 (1#32) a0 a1 a2 a3 G) (ix3 0 r l)
      = attend n r (fun k d => fk k ⟨64 + d.val, by omega⟩) (fun k d => fv k ⟨64 + d.val, by omega⟩) (fun d => q ⟨256 + (l.val / 64 * 64 + d.val), by omega⟩) (a ⟨l.val / 64, by omega⟩) ⟨l.val % 64, by omega⟩ * g := by
  subst h0 h1 h2 h3
  have hj := j.isLt
  have e : k0_pay89 (k0_pay88 (k0_pay50 (k0_pay43 (iota .tc S128x512 32 [0] iota_S128x512_d0_w32) k0_pay38) (k0_pay46 (k0_pay22 (k0_pay1 X) (k0_pay3 p0) (k0_pay4 p1) (k0_pay5 p2)) Q) (k0_pay47 (k0_pay22 (k0_pay1 X) (k0_pay3 p0) (k0_pay4 p1) (k0_pay5 p2)) k0_pay39 (k0_pay40 (BitVec.ofNat 32 j.val)) Q) (k0_pay48 (k0_pay22 (k0_pay1 X) (k0_pay3 p0) (k0_pay4 p1) (k0_pay5 p2)) Q) (k0_pay49 (k0_pay22 (k0_pay1 X) (k0_pay3 p0) (k0_pay4 p1) (k0_pay5 p2)) Q) (Named.named κ "mask" 4048155338#32)) (k0_pay84 (k0_pay30 (k0_pay2 Y) (k0_pay13 w0) (k0_pay14 w1) (k0_pay15 w2))) k0_pay85 k0_pay86 (1#32) (a 0) (a 1) (a 2) (a 3) G)
      = tile1A (stackK X p0 p1 p2) (stackK Y w0 w1 w2) (k0_pay41 k0_pay39 (k0_pay40 (BitVec.ofNat 32 j.val))) (k0_pay43 (iota .tc S128x512 32 [0] iota_S128x512_d0_w32) k0_pay38) Q (a 0) (a 1) (a 2) (a 3) G := rfl
  exact (congrFun e _).trans (tile1A_at h a g _ _ G l hG (fun k c => (prev0_at j k c).trans (by omega)) (fun k c => (next_at k c).trans (by omega)))

/-- The tile of chain 0 at column 128. -/
theorem piece30_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 0) (h0 : a0 = a 0) (h1 : a1 = a 1) (h2 : a2 = a 2)
    (h3 : a3 = a 3) (hG : G (ix3 0 r l) = g) :
    k0_pay83 (k0_pay80 (k0_pay45 (k0_pay22 (k0_pay1 X) (k0_pay3 p0) (k0_pay4 p1) (k0_pay5 p2)) (iota .tc S128x512 32 [0] iota_S128x512_d0_w32) k0_pay38 k0_pay39 (k0_pay40 (BitVec.ofNat 32 j.val)) Q) (k0_pay76 (k0_pay30 (k0_pay2 Y) (k0_pay13 w0) (k0_pay14 w1) (k0_pay15 w2))) (iota .tc S1x512 32 [1] iota_S1x512_d1_w32) k0_pay77 k0_pay78 k0_pay79 a0 a1 a2 a3) G (ix3 0 r l)
      = attend n r (fun k d => fk k ⟨d.val, by omega⟩) (fun k d => fv k ⟨d.val, by omega⟩) (fun d => q ⟨128 + (l.val / 64 * 64 + d.val), by omega⟩) (a ⟨2 + l.val / 64, by omega⟩) ⟨l.val % 64, by omega⟩ * g := by
  subst h0 h1 h2 h3
  have hj := j.isLt
  have e : k0_pay83 (k0_pay80 (k0_pay45 (k0_pay22 (k0_pay1 X) (k0_pay3 p0) (k0_pay4 p1) (k0_pay5 p2)) (iota .tc S128x512 32 [0] iota_S128x512_d0_w32) k0_pay38 k0_pay39 (k0_pay40 (BitVec.ofNat 32 j.val)) Q) (k0_pay76 (k0_pay30 (k0_pay2 Y) (k0_pay13 w0) (k0_pay14 w1) (k0_pay15 w2))) (iota .tc S1x512 32 [1] iota_S1x512_d1_w32) k0_pay77 k0_pay78 k0_pay79 (a 0) (a 1) (a 2) (a 3)) G
      = tile0B (stackK X p0 p1 p2) (stackK Y w0 w1 w2) (k0_pay41 k0_pay39 (k0_pay40 (BitVec.ofNat 32 j.val))) (k0_pay43 (iota .tc S128x512 32 [0] iota_S128x512_d0_w32) k0_pay38) Q (a 0) (a 1) (a 2) (a 3) G := rfl
  exact (congrFun e _).trans (tile0B_at h a g _ _ G l hG (fun k c => (prev0_at j k c).trans (by omega)) (fun k c => (next_at k c).trans (by omega)))

/-- The tile of chain 0 at column 0. -/
theorem piece31_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 0) (h0 : a0 = a 0) (h1 : a1 = a 1) (h2 : a2 = a 2)
    (h3 : a3 = a 3) (hG : G (ix3 0 r l) = g) :
    k0_pay82 (k0_pay81 (k0_pay45 (k0_pay22 (k0_pay1 X) (k0_pay3 p0) (k0_pay4 p1) (k0_pay5 p2)) (iota .tc S128x512 32 [0] iota_S128x512_d0_w32) k0_pay38 k0_pay39 (k0_pay40 (BitVec.ofNat 32 j.val)) Q) (k0_pay76 (k0_pay30 (k0_pay2 Y) (k0_pay13 w0) (k0_pay14 w1) (k0_pay15 w2))) (iota .tc S1x512 32 [1] iota_S1x512_d1_w32) k0_pay77 k0_pay78 k0_pay79 a0 a1 a2 a3) G (ix3 0 r l)
      = attend n r (fun k d => fk k ⟨d.val, by omega⟩) (fun k d => fv k ⟨d.val, by omega⟩) (fun d => q ⟨l.val / 64 * 64 + d.val, by omega⟩) (a ⟨l.val / 64, by omega⟩) ⟨l.val % 64, by omega⟩ * g := by
  subst h0 h1 h2 h3
  have hj := j.isLt
  have e : k0_pay82 (k0_pay81 (k0_pay45 (k0_pay22 (k0_pay1 X) (k0_pay3 p0) (k0_pay4 p1) (k0_pay5 p2)) (iota .tc S128x512 32 [0] iota_S128x512_d0_w32) k0_pay38 k0_pay39 (k0_pay40 (BitVec.ofNat 32 j.val)) Q) (k0_pay76 (k0_pay30 (k0_pay2 Y) (k0_pay13 w0) (k0_pay14 w1) (k0_pay15 w2))) (iota .tc S1x512 32 [1] iota_S1x512_d1_w32) k0_pay77 k0_pay78 k0_pay79 (a 0) (a 1) (a 2) (a 3)) G
      = tile0A (stackK X p0 p1 p2) (stackK Y w0 w1 w2) (k0_pay41 k0_pay39 (k0_pay40 (BitVec.ofNat 32 j.val))) (k0_pay43 (iota .tc S128x512 32 [0] iota_S128x512_d0_w32) k0_pay38) Q (a 0) (a 1) (a 2) (a 3) G := rfl
  exact (congrFun e _).trans (tile0A_at h a g _ _ G l hG (fun k c => (prev0_at j k c).trans (by omega)) (fun k c => (next_at k c).trans (by omega)))

end Cert.KernelIdeal.Block

end
-- ==== Proof.AttnPiecesB.lean ====
/- The stored tiles of the last four chains at an index. -/
module

public import proofs.«01_k».proof.Proof.AttnTile

@[expose] public section

set_option maxRecDepth 16384

noncomputable section

open Idealize.ShloMosaic Idealize.ShloMosaic.TcCoe Idealize.SL.Sem

namespace Cert.KernelIdeal.Block

open Cert.KernelIdeal Cert.KernelIdeal.Gen

variable {n : Fin 32} {r : Fin 128} {X Y : Vec Ideal S1x1x512x128 .f32} {p0 p1 p2 w0 w1 w2 : Vec Ideal S1x128x128 .f32}
  {Q : Vec Ideal S1x128x512 .f32} {fk fv : Fin 896 → Fin 128 → EReal} {q : Fin 512 → EReal}

/-- The tile of chain 7 at column 384. -/
theorem piece0_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 7) (h0 : a0 = a 0) (h1 : a1 = a 1) (h2 : a2 = a 2)
    (h3 : a3 = a 3) (hG : G (ix3 0 r l) = g) :
    k0_pay200 (k0_pay75 (k0_pay29 (k0_pay1 X) (k0_pay10 p0) (k0_pay11 p1) (k0_pay12 p2)) (k0_pay42 (iota .tc S128x512 32 [0] iota_S128x512_d0_w32) k0_pay38) (k0_pay44 (BitVec.ofNat 32 j.val) (iota .tc S128x512 32 [0] iota_S128x512_d0_w32) k0_pay38) Q) (k0_pay194 (k0_pay37 (k0_pay2 Y) w0 w1 w2)) (k0_pay196 a0 a1 a2) k0_pay197 a3 G (ix3 0 r l)
      = attend n r (fun k d => fk k ⟨64 + d.val, by omega⟩) (fun k d => fv k ⟨64 + d.val, by omega⟩) (fun d => q ⟨384 + (l.val / 64 * 64 + d.val), by omega⟩) (a ⟨2 + l.val / 64, by omega⟩) ⟨l.val % 64, by omega⟩ * g := by
  subst h0 h1 h2 h3
  have hj := j.isLt
  have e : k0_pay200 (k0_pay75 (k0_pay29 (k0_pay1 X) (k0_pay10 p0) (k0_pay11 p1) (k0_pay12 p2)) (k0_pay42 (iota .tc S128x512 32 [0] iota_S128x512_d0_w32) k0_pay38) (k0_pay44 (BitVec.ofNat 32 j.val) (iota .tc S128x512 32 [0] iota_S128x512_d0_w32) k0_pay38) Q) (k0_pay194 (k0_pay37 (k0_pay2 Y) w0 w1 w2)) (k0_pay196 (a 0) (a 1) (a 2)) k0_pay197 (a 3) G
      = tile1B (stackK X p0 p1 p2) (stackK Y w0 w1 w2) (k0_pay42 (iota .tc S128x512 32 [0] iota_S128x512_d0_w32) k0_pay38) (k0_pay44 (BitVec.ofNat 32 j.val) (iota .tc S128x512 32 [0] iota_S128x512_d0_w32) k0_pay38) Q (a 0) (a 1) (a 2) (a 3) G := rfl
  exact (congrFun e _).trans (tile1B_at h a g _ _ G l hG (fun k c => (prev_at k c).trans (by omega)) (fun k c => (next7_at j k c).trans (by omega)))

/-- The tile of chain 7 at column 256. -/
theorem piece1_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 7) (h0 : a0 = a 0) (h1 : a1 = a 1) (h2 : a2 = a 2)
    (h3 : a3 = a 3) (hG : G (ix3 0 r l) = g) :
    k0_pay199 (k0_pay75 (k0_pay29 (k0_pay1 X) (k0_pay10 p0) (k0_pay11 p1) (k0_pay12 p2)) (k0_pay42 (iota .tc S128x512 32 [0] iota_S128x512_d0_w32) k0_pay38) (k0_pay44 (BitVec.ofNat 32 j.val) (iota .tc S128x512 32 [0] iota_S128x512_d0_w32) k0_pay38) Q) (k0_pay194 (k0_pay37 (k0_pay2 Y) w0 w1 w2)) (k0_pay196 a0 a1 a2) k0_pay197 a3 G (ix3 0 r l)
      = attend n r (fun k d => fk k ⟨64 + d.val, by omega⟩) (fun k d => fv k ⟨64 + d.val, by omega⟩) (fun d => q ⟨256 + (l.val / 64 * 64 + d.val), by omega⟩) (a ⟨l.val / 64, by omega⟩) ⟨l.val % 64, by omega⟩ * g := by
  subst h0 h1 h2 h3
  have hj := j.isLt
  have e : k0_pay199 (k0_pay75 (k0_pay29 (k0_pay1 X) (k0_pay10 p0) (k0_pay11 p1) (k0_pay12 p2)) (k0_pay42 (iota .tc S128x512 32 [0] iota_S128x512_d0_w32) k0_pay38) (k0_pay44 (BitVec.ofNat 32 j.val) (iota .tc S128x512 32 [0] iota_S128x512_d0_w32) k0_pay38) Q) (k0_pay194 (k0_pay37 (k0_pay2 Y) w0 w1 w2)) (k0_pay196 (a 0) (a 1) (a 2)) k0_pay197 (a 3) G
      = tile1A (stackK X p0 p1 p2) (stackK Y w0 w1 w2) (k0_pay42 (iota .tc S128x512 32 [0] iota_S128x512_d0_w32) k0_pay38) (k0_pay44 (BitVec.ofNat 32 j.val) (iota .tc S128x512 32 [0] iota_S128x512_d0_w32) k0_pay38) Q (a 0) (a 1) (a 2) (a 3) G := rfl
  exact (congrFun e _).trans (tile1A_at h a g _ _ G l hG (fun k c => (prev_at k c).trans (by omega)) (fun k c => (next7_at j k c).trans (by omega)))

/-- The tile of chain 7 at column 128. -/
theorem piece2_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 7) (h0 : a0 = a 0) (h1 : a1 = a 1) (h2 : a2 = a 2)
    (h3 : a3 = a 3) (hG : G (ix3 0 r l) = g) :
    k0_pay193 (k0_pay192 (k0_pay74 (k0_pay42 (iota .tc S128x512 32 [0] iota_S128x512_d0_w32) k0_pay38) (k0_pay44 (BitVec.ofNat 32 j.val) (iota .tc S128x512 32 [0] iota_S128x512_d0_w32) k0_pay38) (k0_pay71 (k0_pay29 (k0_pay1 X) (k0_pay10 p0) (k0_pay11 p1) (k0_pay12 p2)) Q) (k0_pay72 (k0_pay29 (k0_pay1 X) (k0_pay10 p0) (k0_pay11 p1) (k0_pay12 p2)) Q) k0_pay73) (k0_pay186 (k0_pay37 (k0_pay2 Y) w0 w1 w2)) k0_pay187 (k0_pay188 a0 a1) k0_pay189 a2 a3 G) (ix3 0 r l)
      = attend n r (fun k d => fk k ⟨d.val, by omega⟩) (fun k d => fv k ⟨d.val, by omega⟩) (fun d => q ⟨128 + (l.val / 64 * 64 + d.val), by omega⟩) (a ⟨2 + l.val / 64, by omega⟩) ⟨l.val % 64, by omega⟩ * g := by
  subst h0 h1 h2 h3
  have hj := j.isLt
  have e : k0_pay193 (k0_pay192 (k0_pay74 (k0_pay42 (iota .tc S128x512 32 [0] iota_S128x512_d0_w32) k0_pay38) (k0_pay44 (BitVec.ofNat 32 j.val) (iota .tc S128x512 32 [0] iota_S128x512_d0_w32) k0_pay38) (k0_pay71 (k0_pay29 (k0_pay1 X) (k0_pay10 p0) (k0_pay11 p1) (k0_pay12 p2)) Q) (k0_pay72 (k0_pay29 (k0_pay1 X) (k0_pay10 p0) (k0_pay11 p1) (k0_pay12 p2)) Q) k0_pay73) (k0_pay186 (k0_pay37 (k0_pay2 Y) w0 w1 w2)) k0_pay187 (k0_pay188 (a 0) (a 1)) k0_pay189 (a 2) (a 3) G)
      = tile0B (stackK X p0 p1 p2) (stackK Y w0 w1 w2) (k0_pay42 (iota .tc S128x512 32 [0] iota_S128x512_d0_w32) k0_pay38) (k0_pay44 (BitVec.ofNat 32 j.val) (iota .tc S128x512 32 [0] iota_S128x512_d0_w32) k0_pay38) Q (a 0) (a 1) (a 2) (a 3) G := rfl
  exact (congrFun e _).trans (tile0B_at h a g _ _ G l hG (fun k c => (prev_at k c).trans (by omega)) (fun k c => (next7_at j k c).trans (by omega)))

/-- The tile of chain 7 at column 0. -/
theorem piece3_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 7) (h0 : a0 = a 0) (h1 : a1 = a 1) (h2 : a2 = a 2)
    (h3 : a3 = a 3) (hG : G (ix3 0 r l) = g) :
    k0_pay191 (k0_pay74 (k0_pay42 (iota .tc S128x512 32 [0] iota_S128x512_d0_w32) k0_pay38) (k0_pay44 (BitVec.ofNat 32 j.val) (iota .tc S128x512 32 [0] iota_S128x512_d0_w32) k0_pay38) (k0_pay71 (k0_pay29 (k0_pay1 X) (k0_pay10 p0) (k0_pay11 p1) (k0_pay12 p2)) Q) (k0_pay72 (k0_pay29 (k0_pay1 X) (k0_pay10 p0) (k0_pay11 p1) (k0_pay12 p2)) Q) k0_pay73) (k0_pay186 (k0_pay37 (k0_pay2 Y) w0 w1 w2)) k0_pay187 (k0_pay188 a0 a1) k0_pay189 a2 a3 G (ix3 0 r l)
      = attend n r (fun k d => fk k ⟨d.val, by omega⟩) (fun k d => fv k ⟨d.val, by omega⟩) (fun d => q ⟨l.val / 64 * 64 + d.val, by omega⟩) (a ⟨l.val / 64, by omega⟩) ⟨l.val % 64, by omega⟩ * g := by
  subst h0 h1 h2 h3
  have hj := j.isLt
  have e : k0_pay191 (k0_pay74 (k0_pay42 (iota .tc S128x512 32 [0] iota_S128x512_d0_w32) k0_pay38) (k0_pay44 (BitVec.ofNat 32 j.val) (iota .tc S128x512 32 [0] iota_S128x512_d0_w32) k0_pay38) (k0_pay71 (k0_pay29 (k0_pay1 X) (k0_pay10 p0) (k0_pay11 p1) (k0_pay12 p2)) Q) (k0_pay72 (k0_pay29 (k0_pay1 X) (k0_pay10 p0) (k0_pay11 p1) (k0_pay12 p2)) Q) k0_pay73) (k0_pay186 (k0_pay37 (k0_pay2 Y) w0 w1 w2)) k0_pay187 (k0_pay188 (a 0) (a 1)) k0_pay189 (a 2) (a 3) G
      = tile0A (stackK X p0 p1 p2) (stackK Y w0 w1 w2) (k0_pay42 (iota .tc S128x512 32 [0] iota_S128x512_d0_w32) k0_pay38) (k0_pay44 (BitVec.ofNat 32 j.val) (iota .tc S128x512 32 [0] iota_S128x512_d0_w32) k0_pay38) Q (a 0) (a 1) (a 2) (a 3) G := rfl
  exact (congrFun e _).trans (tile0A_at h a g _ _ G l hG (fun k c => (prev_at k c).trans (by omega)) (fun k c => (next7_at j k c).trans (by omega)))

/-- The tile of chain 6 at column 384. -/
theorem piece4_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 6) (h0 : a0 = a 0) (h1 : a1 = a 1) (h2 : a2 = a 2)
    (h3 : a3 = a 3) (hG : G (ix3 0 r l) = g) :
    k0_pay185 (k0_pay184 (k0_pay70 (k0_pay28 (k0_pay1 X) (k0_pay9 p0) (k0_pay10 p1) (k0_pay11 p2)) (k0_pay42 (iota .tc S128x512 32 [0] iota_S128x512_d0_w32) k0_pay38) (k0_pay43 (iota .tc S128x512 32 [0] iota_S128x512_d0_w32) k0_pay38) Q) (k0_pay177 (k0_pay36 (k0_pay2 Y) (k0_pay19 w0) w1 w2)) k0_pay178 (k0_pay179 a0) k0_pay180 (k0_pay181 a1) a2 a3) G (ix3 0 r l)
      = attend n r (fun k d => fk k ⟨64 + d.val, by omega⟩) (fun k d => fv k ⟨64 + d.val, by omega⟩) (fun d => q ⟨384 + (l.val / 64 * 64 + d.val), by omega⟩) (a ⟨2 + l.val / 64, by omega⟩) ⟨l.val % 64, by omega⟩ * g := by
  subst h0 h1 h2 h3
  have hj := j.isLt
  have e : k0_pay185 (k0_pay184 (k0_pay70 (k0_pay28 (k0_pay1 X) (k0_pay9 p0) (k0_pay10 p1) (k0_pay11 p2)) (k0_pay42 (iota .tc S128x512 32 [0] iota_S128x512_d0_w32) k0_pay38) (k0_pay43 (iota .tc S128x512 32 [0] iota_S128x512_d0_w32) k0_pay38) Q) (k0_pay177 (k0_pay36 (k0_pay2 Y) (k0_pay19 w0) w1 w2)) k0_pay178 (k0_pay179 (a 0)) k0_pay180 (k0_pay181 (a 1)) (a 2) (a 3)) G
      = tile1B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1B_at h a g _ _ G l hG (fun k c => (prev_at k c).trans (by omega)) (fun k c => (next_at k c).trans (by omega)))

/-- The tile of chain 6 at column 256. -/
theorem piece5_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 6) (h0 : a0 = a 0) (h1 : a1 = a 1) (h2 : a2 = a 2)
    (h3 : a3 = a 3) (hG : G (ix3 0 r l) = g) :
    k0_pay183 (k0_pay70 (k0_pay28 (k0_pay1 X) (k0_pay9 p0) (k0_pay10 p1) (k0_pay11 p2)) (k0_pay42 (iota .tc S128x512 32 [0] iota_S128x512_d0_w32) k0_pay38) (k0_pay43 (iota .tc S128x512 32 [0] iota_S128x512_d0_w32) k0_pay38) Q) (k0_pay177 (k0_pay36 (k0_pay2 Y) (k0_pay19 w0) w1 w2)) k0_pay178 (k0_pay179 a0) k0_pay180 (k0_pay181 a1) a2 a3 G (ix3 0 r l)
      = attend n r (fun k d => fk k ⟨64 + d.val, by omega⟩) (fun k d => fv k ⟨64 + d.val, by omega⟩) (fun d => q ⟨256 + (l.val / 64 * 64 + d.val), by omega⟩) (a ⟨l.val / 64, by omega⟩) ⟨l.val % 64, by omega⟩ * g := by
  subst h0 h1 h2 h3
  have hj := j.isLt
  have e : k0_pay183 (k0_pay70 (k0_pay28 (k0_pay1 X) (k0_pay9 p0) (k0_pay10 p1) (k0_pay11 p2)) (k0_pay42 (iota .tc S128x512 32 [0] iota_S128x512_d0_w32) k0_pay38) (k0_pay43 (iota .tc S128x512 32 [0] iota_S128x512_d0_w32) k0_pay38) Q) (k0_pay177 (k0_pay36 (k0_pay2 Y) (k0_pay19 w0) w1 w2)) k0_pay178 (k0_pay179 (a 0)) k0_pay180 (k0_pay181 (a 1)) (a 2) (a 3) G
      = tile1A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1A_at h a g _ _ G l hG (fun k c => (prev_at k c).trans (by omega)) (fun k c => (next_at k c).trans (by omega)))

/-- The tile of chain 6 at column 128. -/
theorem piece6_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 6) (h0 : a0 = a 0) (h1 : a1 = a 1) (h2 : a2 = a 2)
    (h3 : a3 = a 3) (hG : G (ix3 0 r l) = g) :
    k0_pay176 (k0_pay174 (k0_pay69 (k0_pay42 (iota .tc S128x512 32 [0] iota_S128x512_d0_w32) k0_pay38) (k0_pay43 (iota .tc S128x512 32 [0] iota_S128x512_d0_w32) k0_pay38) (k0_pay67 (k0_pay28 (k0_pay1 X) (k0_pay9 p0) (k0_pay10 p1) (k0_pay11 p2))) (k0_pay68 Q) (constant S896x512 FTy.f32 0#32)) (k0_pay171 (k0_pay36 (k0_pay2 Y) (k0_pay19 w0) w1 w2)) k0_pay172 (k0_pay173 a0) a1 a2 a3) G (ix3 0 r l)
      = attend n r (fun k d => fk k ⟨d.val, by omega⟩) (fun k d => fv k ⟨d.val, by omega⟩) (fun d => q ⟨128 + (l.val / 64 * 64 + d.val), by omega⟩) (a ⟨2 + l.val / 64, by omega⟩) ⟨l.val % 64, by omega⟩ * g := by
  subst h0 h1 h2 h3
  have hj := j.isLt
  have e : k0_pay176 (k0_pay174 (k0_pay69 (k0_pay42 (iota .tc S128x512 32 [0] iota_S128x512_d0_w32) k0_pay38) (k0_pay43 (iota .tc S128x512 32 [0] iota_S128x512_d0_w32) k0_pay38) (k0_pay67 (k0_pay28 (k0_pay1 X) (k0_pay9 p0) (k0_pay10 p1) (k0_pay11 p2))) (k0_pay68 Q) (constant S896x512 FTy.f32 0#32)) (k0_pay171 (k0_pay36 (k0_pay2 Y) (k0_pay19 w0) w1 w2)) k0_pay172 (k0_pay173 (a 0)) (a 1) (a 2) (a 3)) G
      = tile0B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0B_at h a g _ _ G l hG (fun k c => (prev_at k c).trans (by omega)) (fun k c => (next_at k c).trans (by omega)))

/-- The tile of chain 6 at column 0. -/
theorem piece7_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 6) (h0 : a0 = a 0) (h1 : a1 = a 1) (h2 : a2 = a 2)
    (h3 : a3 = a 3) (hG : G (ix3 0 r l) = g) :
    k0_pay175 (k0_pay69 (k0_pay42 (iota .tc S128x512 32 [0] iota_S128x512_d0_w32) k0_pay38) (k0_pay43 (iota .tc S128x512 32 [0] iota_S128x512_d0_w32) k0_pay38) (k0_pay67 (k0_pay28 (k0_pay1 X) (k0_pay9 p0) (k0_pay10 p1) (k0_pay11 p2))) (k0_pay68 Q) (constant S896x512 FTy.f32 0#32)) (k0_pay171 (k0_pay36 (k0_pay2 Y) (k0_pay19 w0) w1 w2)) k0_pay172 (k0_pay173 a0) a1 a2 a3 G (ix3 0 r l)
      = attend n r (fun k d => fk k ⟨d.val, by omega⟩) (fun k d => fv k ⟨d.val, by omega⟩) (fun d => q ⟨l.val / 64 * 64 + d.val, by omega⟩) (a ⟨l.val / 64, by omega⟩) ⟨l.val % 64, by omega⟩ * g := by
  subst h0 h1 h2 h3
  have hj := j.isLt
  have e : k0_pay175 (k0_pay69 (k0_pay42 (iota .tc S128x512 32 [0] iota_S128x512_d0_w32) k0_pay38) (k0_pay43 (iota .tc S128x512 32 [0] iota_S128x512_d0_w32) k0_pay38) (k0_pay67 (k0_pay28 (k0_pay1 X) (k0_pay9 p0) (k0_pay10 p1) (k0_pay11 p2))) (k0_pay68 Q) (constant S896x512 FTy.f32 0#32)) (k0_pay171 (k0_pay36 (k0_pay2 Y) (k0_pay19 w0) w1 w2)) k0_pay172 (k0_pay173 (a 0)) (a 1) (a 2) (a 3) G
      = tile0A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0A_at h a g _ _ G l hG (fun k c => (prev_at k c).trans (by omega)) (fun k c => (next_at k c).trans (by omega)))

/-- The tile of chain 5 at column 384. -/
theorem piece8_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 5) (h0 : a0 = a 0) (h1 : a1 = a 1) (h2 : a2 = a 2)
    (h3 : a3 = a 3) (hG : G (ix3 0 r l) = g) :
    k0_pay170 (k0_pay167 (k0_pay66 (k0_pay27 (k0_pay1 X) (k0_pay8 p0) (k0_pay9 p1) (k0_pay10 p2)) (k0_pay42 (iota .tc S128x512 32 [0] iota_S128x512_d0_w32) k0_pay38) (k0_pay43 (iota .tc S128x512 32 [0] iota_S128x512_d0_w32) k0_pay38) Q) (k0_pay164 (k0_pay35 (k0_pay2 Y) (k0_pay18 w0) (k0_pay19 w1) w2)) k0_pay165 k0_pay166 (1#32) a0 a1 a2 a3) G (ix3 0 r l)
      = attend n r (fun k d => fk k ⟨64 + d.val, by omega⟩) (fun k d => fv k ⟨64 + d.val, by omega⟩) (fun d => q ⟨384 + (l.val / 64 * 64 + d.val), by omega⟩) (a ⟨2 + l.val / 64, by omega⟩) ⟨l.val % 64, by omega⟩ * g := by
  subst h0 h1 h2 h3
  have hj := j.isLt
  have e : k0_pay170 (k0_pay167 (k0_pay66 (k0_pay27 (k0_pay1 X) (k0_pay8 p0) (k0_pay9 p1) (k0_pay10 p2)) (k0_pay42 (iota .tc S128x512 32 [0] iota_S128x512_d0_w32) k0_pay38) (k0_pay43 (iota .tc S128x512 32 [0] iota_S128x512_d0_w32) k0_pay38) Q) (k0_pay164 (k0_pay35 (k0_pay2 Y) (k0_pay18 w0) (k0_pay19 w1) w2)) k0_pay165 k0_pay166 (1#32) (a 0) (a 1) (a 2) (a 3)) G
      = tile1B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1B_at h a g _ _ G l hG (fun k c => (prev_at k c).trans (by omega)) (fun k c => (next_at k c).trans (by omega)))

/-- The tile of chain 5 at column 256. -/
theorem piece9_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 5) (h0 : a0 = a 0) (h1 : a1 = a 1) (h2 : a2 = a 2)
    (h3 : a3 = a 3) (hG : G (ix3 0 r l) = g) :
    k0_pay169 (k0_pay168 (k0_pay66 (k0_pay27 (k0_pay1 X) (k0_pay8 p0) (k0_pay9 p1) (k0_pay10 p2)) (k0_pay42 (iota .tc S128x512 32 [0] iota_S128x512_d0_w32) k0_pay38) (k0_pay43 (iota .tc S128x512 32 [0] iota_S128x512_d0_w32) k0_pay38) Q) (k0_pay164 (k0_pay35 (k0_pay2 Y) (k0_pay18 w0) (k0_pay19 w1) w2)) k0_pay165 k0_pay166 (1#32) a0 a1 a2 a3 G) (ix3 0 r l)
      = attend n r (fun k d => fk k ⟨64 + d.val, by omega⟩) (fun k d => fv k ⟨64 + d.val, by omega⟩) (fun d => q ⟨256 + (l.val / 64 * 64 + d.val), by omega⟩) (a ⟨l.val / 64, by omega⟩) ⟨l.val % 64, by omega⟩ * g := by
  subst h0 h1 h2 h3
  have hj := j.isLt
  have e : k0_pay169 (k0_pay168 (k0_pay66 (k0_pay27 (k0_pay1 X) (k0_pay8 p0) (k0_pay9 p1) (k0_pay10 p2)) (k0_pay42 (iota .tc S128x512 32 [0] iota_S128x512_d0_w32) k0_pay38) (k0_pay43 (iota .tc S128x512 32 [0] iota_S128x512_d0_w32) k0_pay38) Q) (k0_pay164 (k0_pay35 (k0_pay2 Y) (k0_pay18 w0) (k0_pay19 w1) w2)) k0_pay165 k0_pay166 (1#32) (a 0) (a 1) (a 2) (a 3) G)
      = tile1A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1A_at h a g _ _ G l hG (fun k c => (prev_at k c).trans (by omega)) (fun k c => (next_at k c).trans (by omega)))

/-- The tile of chain 5 at column 128. -/
theorem piece10_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 5) (h0 : a0 = a 0) (h1 : a1 = a 1) (h2 : a2 = a 2)
    (h3 : a3 = a 3) (hG : G (ix3 0 r l) = g) :
    k0_pay163 (k0_pay160 (k0_pay65 (k0_pay42 (iota .tc S128x512 32 [0] iota_S128x512_d0_w32) k0_pay38) (k0_pay43 (iota .tc S128x512 32 [0] iota_S128x512_d0_w32) k0_pay38) (k0_pay60 Q) (k0_pay61 (k0_pay27 (k0_pay1 X) (k0_pay8 p0) (k0_pay9 p1) (k0_pay10 p2))) (k0_pay62 Q) (k0_pay63 Q) (k0_pay64 Q)) (k0_pay156 (k0_pay35 (k0_pay2 Y) (k0_pay18 w0) (k0_pay19 w1) w2)) (iota .tc S1x512 32 [1] iota_S1x512_d1_w32) k0_pay157 k0_pay158 k0_pay159 a0 a1 a2 a3) G (ix3 0 r l)
      = attend n r (fun k d => fk k ⟨d.val, by omega⟩) (fun k d => fv k ⟨d.val, by omega⟩) (fun d => q ⟨128 + (l.val / 64 * 64 + d.val), by omega⟩) (a ⟨2 + l.val / 64, by omega⟩) ⟨l.val % 64, by omega⟩ * g := by
  subst h0 h1 h2 h3
  have hj := j.isLt
  have e : k0_pay163 (k0_pay160 (k0_pay65 (k0_pay42 (iota .tc S128x512 32 [0] iota_S128x512_d0_w32) k0_pay38) (k0_pay43 (iota .tc S128x512 32 [0] iota_S128x512_d0_w32) k0_pay38) (k0_pay60 Q) (k0_pay61 (k0_pay27 (k0_pay1 X) (k0_pay8 p0) (k0_pay9 p1) (k0_pay10 p2))) (k0_pay62 Q) (k0_pay63 Q) (k0_pay64 Q)) (k0_pay156 (k0_pay35 (k0_pay2 Y) (k0_pay18 w0) (k0_pay19 w1) w2)) (iota .tc S1x512 32 [1] iota_S1x512_d1_w32) k0_pay157 k0_pay158 k0_pay159 (a 0) (a 1) (a 2) (a 3)) G
      = tile0B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0B_at h a g _ _ G l hG (fun k c => (prev_at k c).trans (by omega)) (fun k c => (next_at k c).trans (by omega)))

/-- The tile of chain 5 at column 0. -/
theorem piece11_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 5) (h0 : a0 = a 0) (h1 : a1 = a 1) (h2 : a2 = a 2)
    (h3 : a3 = a 3) (hG : G (ix3 0 r l) = g) :
    k0_pay162 (k0_pay161 (k0_pay65 (k0_pay42 (iota .tc S128x512 32 [0] iota_S128x512_d0_w32) k0_pay38) (k0_pay43 (iota .tc S128x512 32 [0] iota_S128x512_d0_w32) k0_pay38) (k0_pay60 Q) (k0_pay61 (k0_pay27 (k0_pay1 X) (k0_pay8 p0) (k0_pay9 p1) (k0_pay10 p2))) (k0_pay62 Q) (k0_pay63 Q) (k0_pay64 Q)) (k0_pay156 (k0_pay35 (k0_pay2 Y) (k0_pay18 w0) (k0_pay19 w1) w2)) (iota .tc S1x512 32 [1] iota_S1x512_d1_w32) k0_pay157 k0_pay158 k0_pay159 a0 a1 a2 a3) G (ix3 0 r l)
      = attend n r (fun k d => fk k ⟨d.val, by omega⟩) (fun k d => fv k ⟨d.val, by omega⟩) (fun d => q ⟨l.val / 64 * 64 + d.val, by omega⟩) (a ⟨l.val / 64, by omega⟩) ⟨l.val % 64, by omega⟩ * g := by
  subst h0 h1 h2 h3
  have hj := j.isLt
  have e : k0_pay162 (k0_pay161 (k0_pay65 (k0_pay42 (iota .tc S128x512 32 [0] iota_S128x512_d0_w32) k0_pay38) (k0_pay43 (iota .tc S128x512 32 [0] iota_S128x512_d0_w32) k0_pay38) (k0_pay60 Q) (k0_pay61 (k0_pay27 (k0_pay1 X) (k0_pay8 p0) (k0_pay9 p1) (k0_pay10 p2))) (k0_pay62 Q) (k0_pay63 Q) (k0_pay64 Q)) (k0_pay156 (k0_pay35 (k0_pay2 Y) (k0_pay18 w0) (k0_pay19 w1) w2)) (iota .tc S1x512 32 [1] iota_S1x512_d1_w32) k0_pay157 k0_pay158 k0_pay159 (a 0) (a 1) (a 2) (a 3)) G
      = tile0A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0A_at h a g _ _ G l hG (fun k c => (prev_at k c).trans (by omega)) (fun k c => (next_at k c).trans (by omega)))

/-- The tile of chain 4 at column 384. -/
theorem piece12_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 4) (h0 : a0 = a 0) (h1 : a1 = a 1) (h2 : a2 = a 2)
    (h3 : a3 = a 3) (hG : G (ix3 0 r l) = g) :
    k0_pay155 (k0_pay151 (k0_pay59 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) Q) (k0_pay145 (k0_pay34 (k0_pay2 Y) (k0_pay17 w0) (k0_pay18 w1) (k0_pay19 w2))) (iota .tc S1x512 32 [1] iota_S1x512_d1_w32) (128#32) k0_pay146 k0_pay147 (1#32) (0#32) a0 a1 a2 a3) (k0_pay152 (k0_pay59 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) Q) (k0_pay145 (k0_pay34 (k0_pay2 Y) (k0_pay17 w0) (k0_pay18 w1) (k0_pay19 w2))) (iota .tc S1x512 32 [1] iota_S1x512_d1_w32) (128#32) k0_pay146 k0_pay147 (1#32) (0#32) a0 a1 a2 a3) G (ix3 0 r l)
      = attend n r (fun k d => fk k ⟨64 + d.val, by omega⟩) (fun k d => fv k ⟨64 + d.val, by omega⟩) (fun d => q ⟨384 + (l.val / 64 * 64 + d.val), by omega⟩) (a ⟨2 + l.val / 64, by omega⟩) ⟨l.val % 64, by omega⟩ * g := by
  subst h0 h1 h2 h3
  have hj := j.isLt
  have e : k0_pay155 (k0_pay151 (k0_pay59 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) Q) (k0_pay145 (k0_pay34 (k0_pay2 Y) (k0_pay17 w0) (k0_pay18 w1) (k0_pay19 w2))) (iota .tc S1x512 32 [1] iota_S1x512_d1_w32) (128#32) k0_pay146 k0_pay147 (1#32) (0#32) (a 0) (a 1) (a 2) (a 3)) (k0_pay152 (k0_pay59 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) Q) (k0_pay145 (k0_pay34 (k0_pay2 Y) (k0_pay17 w0) (k0_pay18 w1) (k0_pay19 w2))) (iota .tc S1x512 32 [1] iota_S1x512_d1_w32) (128#32) k0_pay146 k0_pay147 (1#32) (0#32) (a 0) (a 1) (a 2) (a 3)) G
      = tile1B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1B_at h a g _ _ G l hG (fun k c => (prev_at k c).trans (by omega)) (fun k c => (next_at k c).trans (by omega)))

/-- The tile of chain 4 at column 256. -/
theorem piece13_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 4) (h0 : a0 = a 0) (h1 : a1 = a 1) (h2 : a2 = a 2)
    (h3 : a3 = a 3) (hG : G (ix3 0 r l) = g) :
    k0_pay154 (k0_pay151 (k0_pay59 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) Q) (k0_pay145 (k0_pay34 (k0_pay2 Y) (k0_pay17 w0) (k0_pay18 w1) (k0_pay19 w2))) (iota .tc S1x512 32 [1] iota_S1x512_d1_w32) (128#32) k0_pay146 k0_pay147 (1#32) (0#32) a0 a1 a2 a3) (k0_pay152 (k0_pay59 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) Q) (k0_pay145 (k0_pay34 (k0_pay2 Y) (k0_pay17 w0) (k0_pay18 w1) (k0_pay19 w2))) (iota .tc S1x512 32 [1] iota_S1x512_d1_w32) (128#32) k0_pay146 k0_pay147 (1#32) (0#32) a0 a1 a2 a3) G (ix3 0 r l)
      = attend n r (fun k d => fk k ⟨64 + d.val, by omega⟩) (fun k d => fv k ⟨64 + d.val, by omega⟩) (fun d => q ⟨256 + (l.val / 64 * 64 + d.val), by omega⟩) (a ⟨l.val / 64, by omega⟩) ⟨l.val % 64, by omega⟩ * g := by
  subst h0 h1 h2 h3
  have hj := j.isLt
  have e : k0_pay154 (k0_pay151 (k0_pay59 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) Q) (k0_pay145 (k0_pay34 (k0_pay2 Y) (k0_pay17 w0) (k0_pay18 w1) (k0_pay19 w2))) (iota .tc S1x512 32 [1] iota_S1x512_d1_w32) (128#32) k0_pay146 k0_pay147 (1#32) (0#32) (a 0) (a 1) (a 2) (a 3)) (k0_pay152 (k0_pay59 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) Q) (k0_pay145 (k0_pay34 (k0_pay2 Y) (k0_pay17 w0) (k0_pay18 w1) (k0_pay19 w2))) (iota .tc S1x512 32 [1] iota_S1x512_d1_w32) (128#32) k0_pay146 k0_pay147 (1#32) (0#32) (a 0) (a 1) (a 2) (a 3)) G
      = tile1A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile1A_at h a g _ _ G l hG (fun k c => (prev_at k c).trans (by omega)) (fun k c => (next_at k c).trans (by omega)))

/-- The tile of chain 4 at column 128. -/
theorem piece14_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 4) (h0 : a0 = a 0) (h1 : a1 = a 1) (h2 : a2 = a 2)
    (h3 : a3 = a 3) (hG : G (ix3 0 r l) = g) :
    k0_pay144 (k0_pay138 (iota .tc S1x512 32 [1] iota_S1x512_d1_w32) (128#32) k0_pay135 k0_pay136 k0_pay137 a0 a1 a2 a3) (k0_pay139 (k0_pay58 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) (k0_pay57 Q)) (iota .tc S1x512 32 [1] iota_S1x512_d1_w32) (128#32) k0_pay135 k0_pay136 k0_pay137 a0 a1 a2 a3) (k0_pay140 (k0_pay58 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) (k0_pay57 Q)) (iota .tc S1x512 32 [1] iota_S1x512_d1_w32) (128#32) k0_pay135 k0_pay136 k0_pay137 a0 a1 a2 a3) (k0_pay141 (k0_pay134 (k0_pay34 (k0_pay2 Y) (k0_pay17 w0) (k0_pay18 w1) (k0_pay19 w2)))) (constant S128x512 FTy.f32 0#32) G (ix3 0 r l)
      = attend n r (fun k d => fk k ⟨d.val, by omega⟩) (fun k d => fv k ⟨d.val, by omega⟩) (fun d => q ⟨128 + (l.val / 64 * 64 + d.val), by omega⟩) (a ⟨2 + l.val / 64, by omega⟩) ⟨l.val % 64, by omega⟩ * g := by
  subst h0 h1 h2 h3
  have hj := j.isLt
  have e : k0_pay144 (k0_pay138 (iota .tc S1x512 32 [1] iota_S1x512_d1_w32) (128#32) k0_pay135 k0_pay136 k0_pay137 (a 0) (a 1) (a 2) (a 3)) (k0_pay139 (k0_pay58 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) (k0_pay57 Q)) (iota .tc S1x512 32 [1] iota_S1x512_d1_w32) (128#32) k0_pay135 k0_pay136 k0_pay137 (a 0) (a 1) (a 2) (a 3)) (k0_pay140 (k0_pay58 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) (k0_pay57 Q)) (iota .tc S1x512 32 [1] iota_S1x512_d1_w32) (128#32) k0_pay135 k0_pay136 k0_pay137 (a 0) (a 1) (a 2) (a 3)) (k0_pay141 (k0_pay134 (k0_pay34 (k0_pay2 Y) (k0_pay17 w0) (k0_pay18 w1) (k0_pay19 w2)))) (constant S128x512 FTy.f32 0#32) G
      = tile0B (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0B_at h a g _ _ G l hG (fun k c => (prev_at k c).trans (by omega)) (fun k c => (next_at k c).trans (by omega)))

/-- The tile of chain 4 at column 0. -/
theorem piece15_at (h : Reads n r X Y p0 p1 p2 w0 w1 w2 Q fk fv q) (a : Fin 4 → EReal) (g : EReal) (G : Vec Ideal S1x128x128 .f32)
    (l : Fin 128) (a0 a1 a2 a3 : EReal) (j : Fin 4) (hn : n.val = 8 * j.val + 4) (h0 : a0 = a 0) (h1 : a1 = a 1) (h2 : a2 = a 2)
    (h3 : a3 = a 3) (hG : G (ix3 0 r l) = g) :
    k0_pay143 (k0_pay138 (iota .tc S1x512 32 [1] iota_S1x512_d1_w32) (128#32) k0_pay135 k0_pay136 k0_pay137 a0 a1 a2 a3) (k0_pay139 (k0_pay58 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) (k0_pay57 Q)) (iota .tc S1x512 32 [1] iota_S1x512_d1_w32) (128#32) k0_pay135 k0_pay136 k0_pay137 a0 a1 a2 a3) (k0_pay140 (k0_pay58 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) (k0_pay57 Q)) (iota .tc S1x512 32 [1] iota_S1x512_d1_w32) (128#32) k0_pay135 k0_pay136 k0_pay137 a0 a1 a2 a3) (k0_pay141 (k0_pay134 (k0_pay34 (k0_pay2 Y) (k0_pay17 w0) (k0_pay18 w1) (k0_pay19 w2)))) (constant S128x512 FTy.f32 0#32) G (ix3 0 r l)
      = attend n r (fun k d => fk k ⟨d.val, by omega⟩) (fun k d => fv k ⟨d.val, by omega⟩) (fun d => q ⟨l.val / 64 * 64 + d.val, by omega⟩) (a ⟨l.val / 64, by omega⟩) ⟨l.val % 64, by omega⟩ * g := by
  subst h0 h1 h2 h3
  have hj := j.isLt
  have e : k0_pay143 (k0_pay138 (iota .tc S1x512 32 [1] iota_S1x512_d1_w32) (128#32) k0_pay135 k0_pay136 k0_pay137 (a 0) (a 1) (a 2) (a 3)) (k0_pay139 (k0_pay58 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) (k0_pay57 Q)) (iota .tc S1x512 32 [1] iota_S1x512_d1_w32) (128#32) k0_pay135 k0_pay136 k0_pay137 (a 0) (a 1) (a 2) (a 3)) (k0_pay140 (k0_pay58 (k0_pay26 (k0_pay1 X) (k0_pay7 p0) (k0_pay8 p1) (k0_pay9 p2)) (k0_pay42 (iota .tc S128x512 32 [0] iota_S128x512_d0_w32) k0_pay38) (k0_pay43 (iota .tc S128x512 32 [0] iota_S128x512_d0_w32) k0_pay38) (k0_pay57 Q)) (iota .tc S1x512 32 [1] iota_S1x512_d1_w32) (128#32) k0_pay135 k0_pay136 k0_pay137 (a 0) (a 1) (a 2) (a 3)) (k0_pay141 (k0_pay134 (k0_pay34 (k0_pay2 Y) (k0_pay17 w0) (k0_pay18 w1) (k0_pay19 w2)))) (constant S128x512 FTy.f32 0#32) G
      = tile0A (stackK X p0 p1 p2) (stackK Y w0 w1 w2) (k0_pay42 (iota .tc S128x512 32 [0] iota_S128x512_d0_w32) k0_pay38) (k0_pay43 (iota .tc S128x512 32 [0] iota_S128x512_d0_w32) k0_pay38) Q (a 0) (a 1) (a 2) (a 3) G := rfl
  exact (congrFun e _).trans (tile0A_at h a g _ _ G l hG (fun k c => (prev_at k c).trans (by omega)) (fun k c => (next_at k c).trans (by omega)))

end Cert.KernelIdeal.Block

end
-- ==== Proof.AttnValue.lean ====
/- What the attention kernel's result array holds after the run: at every token and column, its head's attention over the
   argument arrays, times the gate. -/
module

public import proofs.«01_k».proof.Proof.AttnPiecesA
public import proofs.«01_k».proof.Proof.AttnPiecesB

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Block

/-- The key (or value) row `k` that block `n` of batch `b` sees at lane `l`: of the block before, of its own, of the block
    after, each at columns `off` on of the projected array, and then of the cached context. -/
def near (off : ℕ) (ho : off + 128 ≤ 5376) (A : S8x4096x5376.Idx → EReal) (C : S8x4x512x2x64.Idx → EReal) (b : Fin 8) (n : Fin 32)
    (k : Fin 896) (l : Fin 128) : EReal :=
  if h1 : k.val < 128 then A (ix3 b ⟨(n.val - 1) * 128 + k.val, by omega⟩ ⟨off + l.val, by omega⟩)
  else if h2 : k.val < 256 then A (ix3 b ⟨n.val * 128 + (k.val - 128), by omega⟩ ⟨off + l.val, by omega⟩)
  else if h3 : k.val < 384 then A (ix3 b ⟨min (n.val + 1) 31 * 128 + (k.val - 256), by omega⟩ ⟨off + l.val, by omega⟩)
  else C (ix5 b 0 ⟨k.val - 384, by omega⟩ ⟨l.val / 64, by omega⟩ ⟨l.val % 64, by omega⟩)

/-- The attention at a token and column: that of the token's query in the column's head, times the gate. -/
def attnAt (A : S8x4096x5376.Idx → EReal) (Ck Cv : S8x4x512x2x64.Idx → EReal) (S : S8.Idx → EReal) (b : Fin 8) (tok : Fin 4096)
    (col : Fin 512) : EReal :=
  attend ⟨tok.val / 128, by omega⟩ ⟨tok.val % 128, by omega⟩
      (fun k d => near 5120 (by omega) A Ck b ⟨tok.val / 128, by omega⟩ k ⟨col.val / 256 * 64 + d.val, by omega⟩)
      (fun k d => near 5248 (by omega) A Cv b ⟨tok.val / 128, by omega⟩ k ⟨col.val / 256 * 64 + d.val, by omega⟩)
      (fun d => A (ix3 b tok ⟨2048 + (col.val / 64 * 64 + d.val), by omega⟩)) (S (ix1 ⟨col.val / 64, by omega⟩)) ⟨col.val % 64, by omega⟩
    * A (ix3 b tok ⟨2560 + col.val, by omega⟩)

section near
variable {off : ℕ} {ho : off + 128 ≤ 5376} {A : S8x4096x5376.Idx → EReal} {C : S8x4x512x2x64.Idx → EReal} {b : Fin 8} {n : Fin 32}

theorem near_prev (k l : Fin 128) (x : Fin 4096) (y : Fin 5376) (hx : x.val = (n.val - 1) * 128 + k.val) (hy : y.val = off + l.val) :
    A (ix3 b x y) = near off ho A C b n ⟨k.val, by omega⟩ l := by
  unfold near
  rw [dif_pos (by simp only; omega)]
  refine congrArg A ((ix3_inj ..).2 ⟨rfl, Fin.ext hx, Fin.ext hy⟩)

theorem near_own (k l : Fin 128) (x : Fin 4096) (y : Fin 5376) (hx : x.val = n.val * 128 + k.val) (hy : y.val = off + l.val) :
    A (ix3 b x y) = near off ho A C b n ⟨128 + k.val, by omega⟩ l := by
  unfold near
  rw [dif_neg (by simp only; omega), dif_pos (by simp only; omega)]
  refine congrArg A ((ix3_inj ..).2 ⟨rfl, Fin.ext (by simp only; omega), Fin.ext hy⟩)

theorem near_next (k l : Fin 128) (x : Fin 4096) (y : Fin 5376) (hx : x.val = min (n.val + 1) 31 * 128 + k.val) (hy : y.val = off + l.val) :
    A (ix3 b x y) = near off ho A C b n ⟨256 + k.val, by omega⟩ l := by
  unfold near
  rw [dif_neg (by simp only; omega), dif_neg (by simp only; omega), dif_pos (by simp only; omega)]
  refine congrArg A ((ix3_inj ..).2 ⟨rfl, Fin.ext (by simp only; omega), Fin.ext hy⟩)

theorem near_ctx (k : Fin 512) (l : Fin 128) :
    C (ix5 b 0 k ⟨l.val / 64, by omega⟩ ⟨l.val % 64, by omega⟩) = near off ho A C b n ⟨384 + k.val, by omega⟩ l := by
  unfold near
  rw [dif_neg (by simp only; omega), dif_neg (by simp only; omega), dif_neg (by simp only; omega)]
  congr 2
  apply Fin.ext
  simp only
  omega

end near

/-- A tile's entry is the attention at its token and column. -/
theorem close0A (A : S8x4096x5376.Idx → EReal) (Ck Cv : S8x4x512x2x64.Idx → EReal) (S : S8.Idx → EReal) (b : Fin 8) (n : Fin 32)
    (r l : Fin 128) (tok : Fin 4096) (col : Fin 512) (ht : tok.val = n.val * 128 + r.val) (hc : col.val = 0 + l.val) :
    attend n r (fun k d => near 5120 (by omega) A Ck b n k ⟨d.val, by omega⟩) (fun k d => near 5248 (by omega) A Cv b n k ⟨d.val, by omega⟩)
        (fun d => A (ix3 b tok ⟨2048 + (l.val / 64 * 64 + d.val), by omega⟩)) (S (ix1 ⟨0 + (l.val / 64), by omega⟩)) ⟨l.val % 64, by omega⟩ * A (ix3 b tok ⟨2560 + (0 + l.val), by omega⟩)
      = attnAt A Ck Cv S b tok col := by
  unfold attnAt
  have e1 : (⟨tok.val / 128, by omega⟩ : Fin 32) = n := Fin.ext (by simp only; omega)
  have e2 : (⟨tok.val % 128, by omega⟩ : Fin 128) = r := Fin.ext (by simp only; omega)
  have e3 : ∀ d : Fin 64, (⟨col.val / 256 * 64 + d.val, by omega⟩ : Fin 128) = ⟨d.val, by omega⟩ := fun d => Fin.ext (by simp only; omega)
  have e4 : ∀ d : Fin 64, (⟨2048 + (col.val / 64 * 64 + d.val), by omega⟩ : Fin 5376) = ⟨2048 + (l.val / 64 * 64 + d.val), by omega⟩ := fun d => Fin.ext (by simp only; omega)
  have e5 : (⟨col.val / 64, by omega⟩ : Fin 8) = ⟨0 + (l.val / 64), by omega⟩ := Fin.ext (by simp only; omega)
  have e6 : (⟨col.val % 64, by omega⟩ : Fin 64) = ⟨l.val % 64, by omega⟩ := Fin.ext (by simp only; omega)
  have e7 : (⟨2560 + col.val, by omega⟩ : Fin 5376) = ⟨2560 + (0 + l.val), by omega⟩ := Fin.ext (by simp only; omega)
  simp only [e1, e2, e3, e4, e5, e6, e7]

/-- A tile's entry is the attention at its token and column. -/
theorem close0B (A : S8x4096x5376.Idx → EReal) (Ck Cv : S8x4x512x2x64.Idx → EReal) (S : S8.Idx → EReal) (b : Fin 8) (n : Fin 32)
    (r l : Fin 128) (tok : Fin 4096) (col : Fin 512) (ht : tok.val = n.val * 128 + r.val) (hc : col.val = 128 + l.val) :
    attend n r (fun k d => near 5120 (by omega) A Ck b n k ⟨d.val, by omega⟩) (fun k d => near 5248 (by omega) A Cv b n k ⟨d.val, by omega⟩)
        (fun d => A (ix3 b tok ⟨2048 + (128 + (l.val / 64 * 64 + d.val)), by omega⟩)) (S (ix1 ⟨0 + (2 + l.val / 64), by omega⟩)) ⟨l.val % 64, by omega⟩ * A (ix3 b tok ⟨2560 + (128 + l.val), by omega⟩)
      = attnAt A Ck Cv S b tok col := by
  unfold attnAt
  have e1 : (⟨tok.val / 128, by omega⟩ : Fin 32) = n := Fin.ext (by simp only; omega)
  have e2 : (⟨tok.val % 128, by omega⟩ : Fin 128) = r := Fin.ext (by simp only; omega)
  have e3 : ∀ d : Fin 64, (⟨col.val / 256 * 64 + d.val, by omega⟩ : Fin 128) = ⟨d.val, by omega⟩ := fun d => Fin.ext (by simp only; omega)
  have e4 : ∀ d : Fin 64, (⟨2048 + (col.val / 64 * 64 + d.val), by omega⟩ : Fin 5376) = ⟨2048 + (128 + (l.val / 64 * 64 + d.val)), by omega⟩ := fun d => Fin.ext (by simp only; omega)
  have e5 : (⟨col.val / 64, by omega⟩ : Fin 8) = ⟨0 + (2 + l.val / 64), by omega⟩ := Fin.ext (by simp only; omega)
  have e6 : (⟨col.val % 64, by omega⟩ : Fin 64) = ⟨l.val % 64, by omega⟩ := Fin.ext (by simp only; omega)
  have e7 : (⟨2560 + col.val, by omega⟩ : Fin 5376) = ⟨2560 + (128 + l.val), by omega⟩ := Fin.ext (by simp only; omega)
  simp only [e1, e2, e3, e4, e5, e6, e7]

/-- A tile's entry is the attention at its token and column. -/
theorem close1A (A : S8x4096x5376.Idx → EReal) (Ck Cv : S8x4x512x2x64.Idx → EReal) (S : S8.Idx → EReal) (b : Fin 8) (n : Fin 32)
    (r l : Fin 128) (tok : Fin 4096) (col : Fin 512) (ht : tok.val = n.val * 128 + r.val) (hc : col.val = 256 + l.val) :
    attend n r (fun k d => near 5120 (by omega) A Ck b n k ⟨64 + d.val, by omega⟩) (fun k d => near 5248 (by omega) A Cv b n k ⟨64 + d.val, by omega⟩)
        (fun d => A (ix3 b tok ⟨2048 + (256 + (l.val / 64 * 64 + d.val)), by omega⟩)) (S (ix1 ⟨4 + (l.val / 64), by omega⟩)) ⟨l.val % 64, by omega⟩ * A (ix3 b tok ⟨2560 + (256 + l.val), by omega⟩)
      = attnAt A Ck Cv S b tok col := by
  unfold attnAt
  have e1 : (⟨tok.val / 128, by omega⟩ : Fin 32) = n := Fin.ext (by simp only; omega)
  have e2 : (⟨tok.val % 128, by omega⟩ : Fin 128) = r := Fin.ext (by simp only; omega)
  have e3 : ∀ d : Fin 64, (⟨col.val / 256 * 64 + d.val, by omega⟩ : Fin 128) = ⟨64 + d.val, by omega⟩ := fun d => Fin.ext (by simp only; omega)
  have e4 : ∀ d : Fin 64, (⟨2048 + (col.val / 64 * 64 + d.val), by omega⟩ : Fin 5376) = ⟨2048 + (256 + (l.val / 64 * 64 + d.val)), by omega⟩ := fun d => Fin.ext (by simp only; omega)
  have e5 : (⟨col.val / 64, by omega⟩ : Fin 8) = ⟨4 + (l.val / 64), by omega⟩ := Fin.ext (by simp only; omega)
  have e6 : (⟨col.val % 64, by omega⟩ : Fin 64) = ⟨l.val % 64, by omega⟩ := Fin.ext (by simp only; omega)
  have e7 : (⟨2560 + col.val, by omega⟩ : Fin 5376) = ⟨2560 + (256 + l.val), by omega⟩ := Fin.ext (by simp only; omega)
  simp only [e1, e2, e3, e4, e5, e6, e7]

/-- A tile's entry is the attention at its token and column. -/
theorem close1B (A : S8x4096x5376.Idx → EReal) (Ck Cv : S8x4x512x2x64.Idx → EReal) (S : S8.Idx → EReal) (b : Fin 8) (n : Fin 32)
    (r l : Fin 128) (tok : Fin 4096) (col : Fin 512) (ht : tok.val = n.val * 128 + r.val) (hc : col.val = 384 + l.val) :
    attend n r (fun k d => near 5120 (by omega) A Ck b n k ⟨64 + d.val, by omega⟩) (fun k d => near 5248 (by omega) A Cv b n k ⟨64 + d.val, by omega⟩)
        (fun d => A (ix3 b tok ⟨2048 + (384 + (l.val / 64 * 64 + d.val)), by omega⟩)) (S (ix1 ⟨4 + (2 + l.val / 64), by omega⟩)) ⟨l.val % 64, by omega⟩ * A (ix3 b tok ⟨2560 + (384 + l.val), by omega⟩)
      = attnAt A Ck Cv S b tok col := by
  unfold attnAt
  have e1 : (⟨tok.val / 128, by omega⟩ : Fin 32) = n := Fin.ext (by simp only; omega)
  have e2 : (⟨tok.val % 128, by omega⟩ : Fin 128) = r := Fin.ext (by simp only; omega)
  have e3 : ∀ d : Fin 64, (⟨col.val / 256 * 64 + d.val, by omega⟩ : Fin 128) = ⟨64 + d.val, by omega⟩ := fun d => Fin.ext (by simp only; omega)
  have e4 : ∀ d : Fin 64, (⟨2048 + (col.val / 64 * 64 + d.val), by omega⟩ : Fin 5376) = ⟨2048 + (384 + (l.val / 64 * 64 + d.val)), by omega⟩ := fun d => Fin.ext (by simp only; omega)
  have e5 : (⟨col.val / 64, by omega⟩ : Fin 8) = ⟨4 + (2 + l.val / 64), by omega⟩ := Fin.ext (by simp only; omega)
  have e6 : (⟨col.val % 64, by omega⟩ : Fin 64) = ⟨l.val % 64, by omega⟩ := Fin.ext (by simp only; omega)
  have e7 : (⟨2560 + col.val, by omega⟩ : Fin 5376) = ⟨2560 + (384 + l.val), by omega⟩ := Fin.ext (by simp only; omega)
  simp only [e1, e2, e3, e4, e5, e6, e7]

variable (m : (ℓ : Loc nD τ sig) → Buf (Elt Ideal) ℓ)

/-- The windows' block indices at every grid point. -/
theorem idx : ∀ t : Fin cfg0.N,
    win0_0.index t = ![0]
    ∧ win0_1.index t = ![(grid0.coords t 0).val, (grid0.coords t 1).val, 4]
    ∧ win0_2.index t = ![(grid0.coords t 0).val, 8 * (grid0.coords t 1).val - 1, 40]
    ∧ win0_3.index t = ![(grid0.coords t 0).val, (grid0.coords t 1).val, 40]
    ∧ win0_4.index t = ![(grid0.coords t 0).val, min (8 * (grid0.coords t 1).val + 8) 31, 40]
    ∧ win0_5.index t = ![(grid0.coords t 0).val, 8 * (grid0.coords t 1).val - 1, 41]
    ∧ win0_6.index t = ![(grid0.coords t 0).val, (grid0.coords t 1).val, 41]
    ∧ win0_7.index t = ![(grid0.coords t 0).val, min (8 * (grid0.coords t 1).val + 8) 31, 41]
    ∧ win0_8.index t = ![(grid0.coords t 0).val, 0, 0, 0] ∧ win0_9.index t = ![(grid0.coords t 0).val, 0, 0, 0]
    ∧ win0_10.index t = ![(grid0.coords t 0).val, (grid0.coords t 1).val, 5]
    ∧ win0_11.index t = ![(grid0.coords t 0).val, (grid0.coords t 1).val, 0] :=
  (by decide +kernel : ∀ t : Fin grid0.N, _)

/-- The grid has eight batch steps and four token steps. -/
theorem coords_lt : ∀ t : Fin cfg0.N, (grid0.coords t 0).val < 8 ∧ (grid0.coords t 1).val < 4 :=
  (by decide +kernel : ∀ t : Fin grid0.N, _)

/-- The batch a grid point works on. -/
def bat (t : Fin cfg0.N) : Fin 8 := ⟨(grid0.coords t 0).val, (coords_lt t).1⟩

/-- The token step of a grid point. -/
def stp (t : Fin cfg0.N) : Fin 4 := ⟨(grid0.coords t 1).val, (coords_lt t).2⟩

/-- The token block that chain `u` of a grid point works on. -/
def chn (t : Fin cfg0.N) (u : Fin 8) : Fin 32 := ⟨8 * (stp t).val + u.val, by omega⟩

/-- The token row that sits at row `r` of a grid point's block. -/
def row (t : Fin cfg0.N) (r : Fin 1024) : Fin 4096 := ⟨(stp t).val * 1024 + r.val, by omega⟩

/-- The projected array, as a function of its index. -/
abbrev arr (c : Dev nD) : S8x4096x5376.Idx → EReal := m ((c : Thread nD τ).loc main_arg0)
/-- The cached keys. -/
abbrev ck (c : Dev nD) : S8x4x512x2x64.Idx → EReal := m ((c : Thread nD τ).loc main_arg1)
/-- The cached values. -/
abbrev cv (c : Dev nD) : S8x4x512x2x64.Idx → EReal := m ((c : Thread nD τ).loc main_arg2)
/-- The sinks. -/
abbrev snk (c : Dev nD) : S8.Idx → EReal := m ((c : Thread nD τ).loc main_arg3)

theorem r0 (c : Dev nD) (t : Fin cfg0.N) (h : Fin 8) : iblk m c 0 t (ix1 h) = snk m c (ix1 h) := by
  blk_ext [iblk, V, idx t, snk]

theorem x1 (c : Dev nD) (t : Fin cfg0.N) (r : Fin 1024) (l : Fin 512) :
    X0_1 m c t (ix3 0 r l) = arr m c (ix3 (bat t) (row t r) ⟨2048 + l.val, by omega⟩) := by
  unfold X0_1 Pipeline.Window.fill
  rw [dif_pos (moved0_1 t _)]
  blk_ext [iblk, V, idx t, bat, row, stp, arr]

theorem x10 (c : Dev nD) (t : Fin cfg0.N) (r : Fin 1024) (l : Fin 512) :
    X0_10 m c t (ix3 0 r l) = arr m c (ix3 (bat t) (row t r) ⟨2560 + l.val, by omega⟩) := by
  unfold X0_10 Pipeline.Window.fill
  rw [dif_pos (moved0_10 t _)]
  blk_ext [iblk, V, idx t, bat, row, stp, arr]

theorem r8 (c : Dev nD) (t : Fin cfg0.N) (k : Fin 512) (l : Fin 128) :
    iblk m c 8 t (ix4 0 0 k l) = ck m c (ix5 (bat t) 0 k ⟨l.val / 64, by omega⟩ ⟨l.val % 64, by omega⟩) := by
  have h : iblk m c 8 t (ix4 0 0 k l) = V m c main_v0 (ix4 (bat t) 0 k l) := by blk_ext [iblk, idx t, bat]
  rw [h]
  entry_read
  pointwise []

theorem r9 (c : Dev nD) (t : Fin cfg0.N) (k : Fin 512) (l : Fin 128) :
    iblk m c 9 t (ix4 0 0 k l) = cv m c (ix5 (bat t) 0 k ⟨l.val / 64, by omega⟩ ⟨l.val % 64, by omega⟩) := by
  have h : iblk m c 9 t (ix4 0 0 k l) = V m c main_v1 (ix4 (bat t) 0 k l) := by blk_ext [iblk, idx t, bat]
  rw [h]
  entry_read
  pointwise []

theorem r2 (c : Dev nD) (t : Fin cfg0.N) (k l : Fin 128) :
    iblk m c 2 t (ix3 0 k l) = arr m c (ix3 (bat t) ⟨(8 * (stp t).val - 1) * 128 + k.val, by omega⟩ ⟨5120 + l.val, by omega⟩) := by
  blk_ext [iblk, V, idx t, bat, stp, arr]

theorem r3 (c : Dev nD) (t : Fin cfg0.N) (k : Fin 1024) (l : Fin 128) :
    iblk m c 3 t (ix3 0 k l) = arr m c (ix3 (bat t) (row t k) ⟨5120 + l.val, by omega⟩) := by
  blk_ext [iblk, V, idx t, bat, row, stp, arr]

theorem r4 (c : Dev nD) (t : Fin cfg0.N) (k l : Fin 128) :
    iblk m c 4 t (ix3 0 k l) = arr m c (ix3 (bat t) ⟨min (8 * (stp t).val + 8) 31 * 128 + k.val, by omega⟩ ⟨5120 + l.val, by omega⟩) := by
  blk_ext [iblk, V, idx t, bat, stp, arr]

theorem r5 (c : Dev nD) (t : Fin cfg0.N) (k l : Fin 128) :
    iblk m c 5 t (ix3 0 k l) = arr m c (ix3 (bat t) ⟨(8 * (stp t).val - 1) * 128 + k.val, by omega⟩ ⟨5248 + l.val, by omega⟩) := by
  blk_ext [iblk, V, idx t, bat, stp, arr]

theorem r6 (c : Dev nD) (t : Fin cfg0.N) (k : Fin 1024) (l : Fin 128) :
    iblk m c 6 t (ix3 0 k l) = arr m c (ix3 (bat t) (row t k) ⟨5248 + l.val, by omega⟩) := by
  blk_ext [iblk, V, idx t, bat, row, stp, arr]

theorem r7 (c : Dev nD) (t : Fin cfg0.N) (k l : Fin 128) :
    iblk m c 7 t (ix3 0 k l) = arr m c (ix3 (bat t) ⟨min (8 * (stp t).val + 8) 31 * 128 + k.val, by omega⟩ ⟨5248 + l.val, by omega⟩) := by
  blk_ext [iblk, V, idx t, bat, stp, arr]

/-- Where an index of the result window's block sits in the result array. -/
theorem emb11 (t : Fin cfg0.N) (r : Fin 1024) (l : Fin 512) : ((View.whole main_v2).slice (win0_11.rect t)).emb (ix3 0 r l) = ix3 (bat t) (row t r) l := by
  blk_ext [idx t, bat, row, stp]

set_option maxHeartbeats 2000000 in
/-- The result array: the attention at every token and column. -/
theorem final (c : Dev nD) : (dats m 0 c).arrAt 11 (cfgs 0).N
    = fun i => attnAt (arr m c) (ck m c) (cv m c) (snk m c) (i 0) (i 1) (i 2) := by
  refine (dats m 0 c).arrAt_eq_of_covers 11 _ (by decide +kernel) fun t _ y => ?_
  blk_simp
  rw [after0_11]
  unfold Gen.outsAt0
  dsimp only
  frame_out
  idx_vars y
  obtain rfl : y0 = 0 := Subsingleton.elim _ _
  rw [emb11 t y1 y2]
  simp only [ix3_0, ix3_1, ix3_2]
  have hz : ∀ a : Fin 1, a = 0 := fun a => Subsingleton.elim _ _
  have hs := (stp t).isLt
  refine Eq.trans (b := (fun (i : Fin 1024) (j : Fin 512) => attnAt (arr m c) (ck m c) (cv m c) (snk m c) (bat t) (row t i) j) y1 y2) ?_ rfl
  canon_tiles x hx using (View.cover_of_tiledBy _ ![1, 128, 128] (by sl_kernel_rfl) _)
  all_goals
    obtain ⟨a, r, l, rfl⟩ : ∃ a r l, x = ix3 a r l := ⟨x 0, x 1, x 2, eq_ix3 x⟩
    obtain rfl : a = 0 := Subsingleton.elim _ _
  case piece0 =>
    refine (piece0_at (n := chn t 7) (r := r) (fk := near 5120 (by omega) (arr m c) (ck m c) (bat t) (chn t 7))
      (fv := near 5248 (by omega) (arr m c) (cv m c) (bat t) (chn t 7))
      (q := fun d => arr m c (ix3 (bat t) (row t ⟨896 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; exact (r4 m c t _ _).trans (near_next _ _ _ _ (by simp only [chn]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; exact (r7 m c t _ _).trans (near_next _ _ _ _ (by simp only [chn]; omega) rfl))
        , (by intros; pointwise []; exact x1 m c t _ _)⟩
      (fun h => snk m c (ix1 ⟨4 + h.val, by omega⟩)) (arr m c (ix3 (bat t) (row t ⟨896 + r.val, by omega⟩) ⟨2560 + (384 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨896 + r.val, by omega⟩ := congrArg (row t) (Fin.ext hx1)
    refine (close1B (arr m c) (ck m c) (cv m c) (snk m c) (bat t) (chn t 7) r l _ y2 (by simp only [chn, row]; omega) hx2).trans ?_
    exact congrArg (fun i => attnAt (arr m c) (ck m c) (cv m c) (snk m c) (bat t) i y2) ey.symm
  case piece1 =>
    refine (piece1_at (n := chn t 7) (r := r) (fk := near 5120 (by omega) (arr m c) (ck m c) (bat t) (chn t 7))
      (fv := near 5248 (by omega) (arr m c) (cv m c) (bat t) (chn t 7))
      (q := fun d => arr m c (ix3 (bat t) (row t ⟨896 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; exact (r4 m c t _ _).trans (near_next _ _ _ _ (by simp only [chn]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; exact (r7 m c t _ _).trans (near_next _ _ _ _ (by simp only [chn]; omega) rfl))
        , (by intros; pointwise []; exact x1 m c t _ _)⟩
      (fun h => snk m c (ix1 ⟨4 + h.val, by omega⟩)) (arr m c (ix3 (bat t) (row t ⟨896 + r.val, by omega⟩) ⟨2560 + (256 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨896 + r.val, by omega⟩ := congrArg (row t) (Fin.ext hx1)
    refine (close1A (arr m c) (ck m c) (cv m c) (snk m c) (bat t) (chn t 7) r l _ y2 (by simp only [chn, row]; omega) hx2).trans ?_
    exact congrArg (fun i => attnAt (arr m c) (ck m c) (cv m c) (snk m c) (bat t) i y2) ey.symm
  case piece2 =>
    refine (piece2_at (n := chn t 7) (r := r) (fk := near 5120 (by omega) (arr m c) (ck m c) (bat t) (chn t 7))
      (fv := near 5248 (by omega) (arr m c) (cv m c) (bat t) (chn t 7))
      (q := fun d => arr m c (ix3 (bat t) (row t ⟨896 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; exact (r4 m c t _ _).trans (near_next _ _ _ _ (by simp only [chn]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; exact (r7 m c t _ _).trans (near_next _ _ _ _ (by simp only [chn]; omega) rfl))
        , (by intros; pointwise []; exact x1 m c t _ _)⟩
      (fun h => snk m c (ix1 ⟨0 + h.val, by omega⟩)) (arr m c (ix3 (bat t) (row t ⟨896 + r.val, by omega⟩) ⟨2560 + (128 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨896 + r.val, by omega⟩ := congrArg (row t) (Fin.ext hx1)
    refine (close0B (arr m c) (ck m c) (cv m c) (snk m c) (bat t) (chn t 7) r l _ y2 (by simp only [chn, row]; omega) hx2).trans ?_
    exact congrArg (fun i => attnAt (arr m c) (ck m c) (cv m c) (snk m c) (bat t) i y2) ey.symm
  case piece3 =>
    refine (piece3_at (n := chn t 7) (r := r) (fk := near 5120 (by omega) (arr m c) (ck m c) (bat t) (chn t 7))
      (fv := near 5248 (by omega) (arr m c) (cv m c) (bat t) (chn t 7))
      (q := fun d => arr m c (ix3 (bat t) (row t ⟨896 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; exact (r4 m c t _ _).trans (near_next _ _ _ _ (by simp only [chn]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; exact (r7 m c t _ _).trans (near_next _ _ _ _ (by simp only [chn]; omega) rfl))
        , (by intros; pointwise []; exact x1 m c t _ _)⟩
      (fun h => snk m c (ix1 ⟨0 + h.val, by omega⟩)) (arr m c (ix3 (bat t) (row t ⟨896 + r.val, by omega⟩) ⟨2560 + (0 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨896 + r.val, by omega⟩ := congrArg (row t) (Fin.ext hx1)
    refine (close0A (arr m c) (ck m c) (cv m c) (snk m c) (bat t) (chn t 7) r l _ y2 (by simp only [chn, row]; omega) (hx2.trans (Nat.zero_add _).symm)).trans ?_
    exact congrArg (fun i => attnAt (arr m c) (ck m c) (cv m c) (snk m c) (bat t) i y2) ey.symm
  case piece4 =>
    refine (piece4_at (n := chn t 6) (r := r) (fk := near 5120 (by omega) (arr m c) (ck m c) (bat t) (chn t 6))
      (fv := near 5248 (by omega) (arr m c) (cv m c) (bat t) (chn t 6))
      (q := fun d => arr m c (ix3 (bat t) (row t ⟨768 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨768 + r.val, by omega⟩) ⟨2560 + (384 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨768 + r.val, by omega⟩ := congrArg (row t) (Fin.ext hx1)
    refine (close1B (arr m c) (ck m c) (cv m c) (snk m c) (bat t) (chn t 6) r l _ y2 (by simp only [chn, row]; omega) hx2).trans ?_
    exact congrArg (fun i => attnAt (arr m c) (ck m c) (cv m c) (snk m c) (bat t) i y2) ey.symm
  case piece5 =>
    refine (piece5_at (n := chn t 6) (r := r) (fk := near 5120 (by omega) (arr m c) (ck m c) (bat t) (chn t 6))
      (fv := near 5248 (by omega) (arr m c) (cv m c) (bat t) (chn t 6))
      (q := fun d => arr m c (ix3 (bat t) (row t ⟨768 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨768 + r.val, by omega⟩) ⟨2560 + (256 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨768 + r.val, by omega⟩ := congrArg (row t) (Fin.ext hx1)
    refine (close1A (arr m c) (ck m c) (cv m c) (snk m c) (bat t) (chn t 6) r l _ y2 (by simp only [chn, row]; omega) hx2).trans ?_
    exact congrArg (fun i => attnAt (arr m c) (ck m c) (cv m c) (snk m c) (bat t) i y2) ey.symm
  case piece6 =>
    refine (piece6_at (n := chn t 6) (r := r) (fk := near 5120 (by omega) (arr m c) (ck m c) (bat t) (chn t 6))
      (fv := near 5248 (by omega) (arr m c) (cv m c) (bat t) (chn t 6))
      (q := fun d => arr m c (ix3 (bat t) (row t ⟨768 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨768 + r.val, by omega⟩) ⟨2560 + (128 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨768 + r.val, by omega⟩ := congrArg (row t) (Fin.ext hx1)
    refine (close0B (arr m c) (ck m c) (cv m c) (snk m c) (bat t) (chn t 6) r l _ y2 (by simp only [chn, row]; omega) hx2).trans ?_
    exact congrArg (fun i => attnAt (arr m c) (ck m c) (cv m c) (snk m c) (bat t) i y2) ey.symm
  case piece7 =>
    refine (piece7_at (n := chn t 6) (r := r) (fk := near 5120 (by omega) (arr m c) (ck m c) (bat t) (chn t 6))
      (fv := near 5248 (by omega) (arr m c) (cv m c) (bat t) (chn t 6))
      (q := fun d => arr m c (ix3 (bat t) (row t ⟨768 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨768 + r.val, by omega⟩) ⟨2560 + (0 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨768 + r.val, by omega⟩ := congrArg (row t) (Fin.ext hx1)
    refine (close0A (arr m c) (ck m c) (cv m c) (snk m c) (bat t) (chn t 6) r l _ y2 (by simp only [chn, row]; omega) (hx2.trans (Nat.zero_add _).symm)).trans ?_
    exact congrArg (fun i => attnAt (arr m c) (ck m c) (cv m c) (snk m c) (bat t) i y2) ey.symm
  case piece8 =>
    refine (piece8_at (n := chn t 5) (r := r) (fk := near 5120 (by omega) (arr m c) (ck m c) (bat t) (chn t 5))
      (fv := near 5248 (by omega) (arr m c) (cv m c) (bat t) (chn t 5))
      (q := fun d => arr m c (ix3 (bat t) (row t ⟨640 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨640 + r.val, by omega⟩) ⟨2560 + (384 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨640 + r.val, by omega⟩ := congrArg (row t) (Fin.ext hx1)
    refine (close1B (arr m c) (ck m c) (cv m c) (snk m c) (bat t) (chn t 5) r l _ y2 (by simp only [chn, row]; omega) hx2).trans ?_
    exact congrArg (fun i => attnAt (arr m c) (ck m c) (cv m c) (snk m c) (bat t) i y2) ey.symm
  case piece9 =>
    refine (piece9_at (n := chn t 5) (r := r) (fk := near 5120 (by omega) (arr m c) (ck m c) (bat t) (chn t 5))
      (fv := near 5248 (by omega) (arr m c) (cv m c) (bat t) (chn t 5))
      (q := fun d => arr m c (ix3 (bat t) (row t ⟨640 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨640 + r.val, by omega⟩) ⟨2560 + (256 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨640 + r.val, by omega⟩ := congrArg (row t) (Fin.ext hx1)
    refine (close1A (arr m c) (ck m c) (cv m c) (snk m c) (bat t) (chn t 5) r l _ y2 (by simp only [chn, row]; omega) hx2).trans ?_
    exact congrArg (fun i => attnAt (arr m c) (ck m c) (cv m c) (snk m c) (bat t) i y2) ey.symm
  case piece10 =>
    refine (piece10_at (n := chn t 5) (r := r) (fk := near 5120 (by omega) (arr m c) (ck m c) (bat t) (chn t 5))
      (fv := near 5248 (by omega) (arr m c) (cv m c) (bat t) (chn t 5))
      (q := fun d => arr m c (ix3 (bat t) (row t ⟨640 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨640 + r.val, by omega⟩) ⟨2560 + (128 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨640 + r.val, by omega⟩ := congrArg (row t) (Fin.ext hx1)
    refine (close0B (arr m c) (ck m c) (cv m c) (snk m c) (bat t) (chn t 5) r l _ y2 (by simp only [chn, row]; omega) hx2).trans ?_
    exact congrArg (fun i => attnAt (arr m c) (ck m c) (cv m c) (snk m c) (bat t) i y2) ey.symm
  case piece11 =>
    refine (piece11_at (n := chn t 5) (r := r) (fk := near 5120 (by omega) (arr m c) (ck m c) (bat t) (chn t 5))
      (fv := near 5248 (by omega) (arr m c) (cv m c) (bat t) (chn t 5))
      (q := fun d => arr m c (ix3 (bat t) (row t ⟨640 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨640 + r.val, by omega⟩) ⟨2560 + (0 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨640 + r.val, by omega⟩ := congrArg (row t) (Fin.ext hx1)
    refine (close0A (arr m c) (ck m c) (cv m c) (snk m c) (bat t) (chn t 5) r l _ y2 (by simp only [chn, row]; omega) (hx2.trans (Nat.zero_add _).symm)).trans ?_
    exact congrArg (fun i => attnAt (arr m c) (ck m c) (cv m c) (snk m c) (bat t) i y2) ey.symm
  case piece12 =>
    refine (piece12_at (n := chn t 4) (r := r) (fk := near 5120 (by omega) (arr m c) (ck m c) (bat t) (chn t 4))
      (fv := near 5248 (by omega) (arr m c) (cv m c) (bat t) (chn t 4))
      (q := fun d => arr m c (ix3 (bat t) (row t ⟨512 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨512 + r.val, by omega⟩) ⟨2560 + (384 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨512 + r.val, by omega⟩ := congrArg (row t) (Fin.ext hx1)
    refine (close1B (arr m c) (ck m c) (cv m c) (snk m c) (bat t) (chn t 4) r l _ y2 (by simp only [chn, row]; omega) hx2).trans ?_
    exact congrArg (fun i => attnAt (arr m c) (ck m c) (cv m c) (snk m c) (bat t) i y2) ey.symm
  case piece13 =>
    refine (piece13_at (n := chn t 4) (r := r) (fk := near 5120 (by omega) (arr m c) (ck m c) (bat t) (chn t 4))
      (fv := near 5248 (by omega) (arr m c) (cv m c) (bat t) (chn t 4))
      (q := fun d => arr m c (ix3 (bat t) (row t ⟨512 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨512 + r.val, by omega⟩) ⟨2560 + (256 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨512 + r.val, by omega⟩ := congrArg (row t) (Fin.ext hx1)
    refine (close1A (arr m c) (ck m c) (cv m c) (snk m c) (bat t) (chn t 4) r l _ y2 (by simp only [chn, row]; omega) hx2).trans ?_
    exact congrArg (fun i => attnAt (arr m c) (ck m c) (cv m c) (snk m c) (bat t) i y2) ey.symm
  case piece14 =>
    refine (piece14_at (n := chn t 4) (r := r) (fk := near 5120 (by omega) (arr m c) (ck m c) (bat t) (chn t 4))
      (fv := near 5248 (by omega) (arr m c) (cv m c) (bat t) (chn t 4))
      (q := fun d => arr m c (ix3 (bat t) (row t ⟨512 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨512 + r.val, by omega⟩) ⟨2560 + (128 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨512 + r.val, by omega⟩ := congrArg (row t) (Fin.ext hx1)
    refine (close0B (arr m c) (ck m c) (cv m c) (snk m c) (bat t) (chn t 4) r l _ y2 (by simp only [chn, row]; omega) hx2).trans ?_
    exact congrArg (fun i => attnAt (arr m c) (ck m c) (cv m c) (snk m c) (bat t) i y2) ey.symm
  case piece15 =>
    refine (piece15_at (n := chn t 4) (r := r) (fk := near 5120 (by omega) (arr m c) (ck m c) (bat t) (chn t 4))
      (fv := near 5248 (by omega) (arr m c) (cv m c) (bat t) (chn t 4))
      (q := fun d => arr m c (ix3 (bat t) (row t ⟨512 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨512 + r.val, by omega⟩) ⟨2560 + (0 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨512 + r.val, by omega⟩ := congrArg (row t) (Fin.ext hx1)
    refine (close0A (arr m c) (ck m c) (cv m c) (snk m c) (bat t) (chn t 4) r l _ y2 (by simp only [chn, row]; omega) (hx2.trans (Nat.zero_add _).symm)).trans ?_
    exact congrArg (fun i => attnAt (arr m c) (ck m c) (cv m c) (snk m c) (bat t) i y2) ey.symm
  case piece16 =>
    refine (piece16_at (n := chn t 3) (r := r) (fk := near 5120 (by omega) (arr m c) (ck m c) (bat t) (chn t 3))
      (fv := near 5248 (by omega) (arr m c) (cv m c) (bat t) (chn t 3))
      (q := fun d => arr m c (ix3 (bat t) (row t ⟨384 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨384 + r.val, by omega⟩) ⟨2560 + (384 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨384 + r.val, by omega⟩ := congrArg (row t) (Fin.ext hx1)
    refine (close1B (arr m c) (ck m c) (cv m c) (snk m c) (bat t) (chn t 3) r l _ y2 (by simp only [chn, row]; omega) hx2).trans ?_
    exact congrArg (fun i => attnAt (arr m c) (ck m c) (cv m c) (snk m c) (bat t) i y2) ey.symm
  case piece17 =>
    refine (piece17_at (n := chn t 3) (r := r) (fk := near 5120 (by omega) (arr m c) (ck m c) (bat t) (chn t 3))
      (fv := near 5248 (by omega) (arr m c) (cv m c) (bat t) (chn t 3))
      (q := fun d => arr m c (ix3 (bat t) (row t ⟨384 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨384 + r.val, by omega⟩) ⟨2560 + (256 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨384 + r.val, by omega⟩ := congrArg (row t) (Fin.ext hx1)
    refine (close1A (arr m c) (ck m c) (cv m c) (snk m c) (bat t) (chn t 3) r l _ y2 (by simp only [chn, row]; omega) hx2).trans ?_
    exact congrArg (fun i => attnAt (arr m c) (ck m c) (cv m c) (snk m c) (bat t) i y2) ey.symm
  case piece18 =>
    refine (piece18_at (n := chn t 3) (r := r) (fk := near 5120 (by omega) (arr m c) (ck m c) (bat t) (chn t 3))
      (fv := near 5248 (by omega) (arr m c) (cv m c) (bat t) (chn t 3))
      (q := fun d => arr m c (ix3 (bat t) (row t ⟨384 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨384 + r.val, by omega⟩) ⟨2560 + (128 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨384 + r.val, by omega⟩ := congrArg (row t) (Fin.ext hx1)
    refine (close0B (arr m c) (ck m c) (cv m c) (snk m c) (bat t) (chn t 3) r l _ y2 (by simp only [chn, row]; omega) hx2).trans ?_
    exact congrArg (fun i => attnAt (arr m c) (ck m c) (cv m c) (snk m c) (bat t) i y2) ey.symm
  case piece19 =>
    refine (piece19_at (n := chn t 3) (r := r) (fk := near 5120 (by omega) (arr m c) (ck m c) (bat t) (chn t 3))
      (fv := near 5248 (by omega) (arr m c) (cv m c) (bat t) (chn t 3))
      (q := fun d => arr m c (ix3 (bat t) (row t ⟨384 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨384 + r.val, by omega⟩) ⟨2560 + (0 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨384 + r.val, by omega⟩ := congrArg (row t) (Fin.ext hx1)
    refine (close0A (arr m c) (ck m c) (cv m c) (snk m c) (bat t) (chn t 3) r l _ y2 (by simp only [chn, row]; omega) (hx2.trans (Nat.zero_add _).symm)).trans ?_
    exact congrArg (fun i => attnAt (arr m c) (ck m c) (cv m c) (snk m c) (bat t) i y2) ey.symm
  case piece20 =>
    refine (piece20_at (n := chn t 2) (r := r) (fk := near 5120 (by omega) (arr m c) (ck m c) (bat t) (chn t 2))
      (fv := near 5248 (by omega) (arr m c) (cv m c) (bat t) (chn t 2))
      (q := fun d => arr m c (ix3 (bat t) (row t ⟨256 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨256 + r.val, by omega⟩) ⟨2560 + (384 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨256 + r.val, by omega⟩ := congrArg (row t) (Fin.ext hx1)
    refine (close1B (arr m c) (ck m c) (cv m c) (snk m c) (bat t) (chn t 2) r l _ y2 (by simp only [chn, row]; omega) hx2).trans ?_
    exact congrArg (fun i => attnAt (arr m c) (ck m c) (cv m c) (snk m c) (bat t) i y2) ey.symm
  case piece21 =>
    refine (piece21_at (n := chn t 2) (r := r) (fk := near 5120 (by omega) (arr m c) (ck m c) (bat t) (chn t 2))
      (fv := near 5248 (by omega) (arr m c) (cv m c) (bat t) (chn t 2))
      (q := fun d => arr m c (ix3 (bat t) (row t ⟨256 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨256 + r.val, by omega⟩) ⟨2560 + (256 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨256 + r.val, by omega⟩ := congrArg (row t) (Fin.ext hx1)
    refine (close1A (arr m c) (ck m c) (cv m c) (snk m c) (bat t) (chn t 2) r l _ y2 (by simp only [chn, row]; omega) hx2).trans ?_
    exact congrArg (fun i => attnAt (arr m c) (ck m c) (cv m c) (snk m c) (bat t) i y2) ey.symm
  case piece22 =>
    refine (piece22_at (n := chn t 2) (r := r) (fk := near 5120 (by omega) (arr m c) (ck m c) (bat t) (chn t 2))
      (fv := near 5248 (by omega) (arr m c) (cv m c) (bat t) (chn t 2))
      (q := fun d => arr m c (ix3 (bat t) (row t ⟨256 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨256 + r.val, by omega⟩) ⟨2560 + (128 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨256 + r.val, by omega⟩ := congrArg (row t) (Fin.ext hx1)
    refine (close0B (arr m c) (ck m c) (cv m c) (snk m c) (bat t) (chn t 2) r l _ y2 (by simp only [chn, row]; omega) hx2).trans ?_
    exact congrArg (fun i => attnAt (arr m c) (ck m c) (cv m c) (snk m c) (bat t) i y2) ey.symm
  case piece23 =>
    refine (piece23_at (n := chn t 2) (r := r) (fk := near 5120 (by omega) (arr m c) (ck m c) (bat t) (chn t 2))
      (fv := near 5248 (by omega) (arr m c) (cv m c) (bat t) (chn t 2))
      (q := fun d => arr m c (ix3 (bat t) (row t ⟨256 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨256 + r.val, by omega⟩) ⟨2560 + (0 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨256 + r.val, by omega⟩ := congrArg (row t) (Fin.ext hx1)
    refine (close0A (arr m c) (ck m c) (cv m c) (snk m c) (bat t) (chn t 2) r l _ y2 (by simp only [chn, row]; omega) (hx2.trans (Nat.zero_add _).symm)).trans ?_
    exact congrArg (fun i => attnAt (arr m c) (ck m c) (cv m c) (snk m c) (bat t) i y2) ey.symm
  case piece24 =>
    refine (piece24_at (n := chn t 1) (r := r) (fk := near 5120 (by omega) (arr m c) (ck m c) (bat t) (chn t 1))
      (fv := near 5248 (by omega) (arr m c) (cv m c) (bat t) (chn t 1))
      (q := fun d => arr m c (ix3 (bat t) (row t ⟨128 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨128 + r.val, by omega⟩) ⟨2560 + (384 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨128 + r.val, by omega⟩ := congrArg (row t) (Fin.ext hx1)
    refine (close1B (arr m c) (ck m c) (cv m c) (snk m c) (bat t) (chn t 1) r l _ y2 (by simp only [chn, row]; omega) hx2).trans ?_
    exact congrArg (fun i => attnAt (arr m c) (ck m c) (cv m c) (snk m c) (bat t) i y2) ey.symm
  case piece25 =>
    refine (piece25_at (n := chn t 1) (r := r) (fk := near 5120 (by omega) (arr m c) (ck m c) (bat t) (chn t 1))
      (fv := near 5248 (by omega) (arr m c) (cv m c) (bat t) (chn t 1))
      (q := fun d => arr m c (ix3 (bat t) (row t ⟨128 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨128 + r.val, by omega⟩) ⟨2560 + (256 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨128 + r.val, by omega⟩ := congrArg (row t) (Fin.ext hx1)
    refine (close1A (arr m c) (ck m c) (cv m c) (snk m c) (bat t) (chn t 1) r l _ y2 (by simp only [chn, row]; omega) hx2).trans ?_
    exact congrArg (fun i => attnAt (arr m c) (ck m c) (cv m c) (snk m c) (bat t) i y2) ey.symm
  case piece26 =>
    refine (piece26_at (n := chn t 1) (r := r) (fk := near 5120 (by omega) (arr m c) (ck m c) (bat t) (chn t 1))
      (fv := near 5248 (by omega) (arr m c) (cv m c) (bat t) (chn t 1))
      (q := fun d => arr m c (ix3 (bat t) (row t ⟨128 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨128 + r.val, by omega⟩) ⟨2560 + (128 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨128 + r.val, by omega⟩ := congrArg (row t) (Fin.ext hx1)
    refine (close0B (arr m c) (ck m c) (cv m c) (snk m c) (bat t) (chn t 1) r l _ y2 (by simp only [chn, row]; omega) hx2).trans ?_
    exact congrArg (fun i => attnAt (arr m c) (ck m c) (cv m c) (snk m c) (bat t) i y2) ey.symm
  case piece27 =>
    refine (piece27_at (n := chn t 1) (r := r) (fk := near 5120 (by omega) (arr m c) (ck m c) (bat t) (chn t 1))
      (fv := near 5248 (by omega) (arr m c) (cv m c) (bat t) (chn t 1))
      (q := fun d => arr m c (ix3 (bat t) (row t ⟨128 + r.val, by omega⟩) ⟨2048 + d.val, by omega⟩))
      ⟨(by intros; exact (r8 m c t _ _).trans (near_ctx _ _))
        , (by intros; exact (r9 m c t _ _).trans (near_ctx _ _))
        , (by intros; pointwise []; exact (r3 m c t _ _).trans (near_prev _ _ _ _ (by simp only [chn, row]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; pointwise []; exact (r6 m c t _ _).trans (near_prev _ _ _ _ (by simp only [chn, row]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨128 + r.val, by omega⟩) ⟨2560 + (0 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨128 + r.val, by omega⟩ := congrArg (row t) (Fin.ext hx1)
    refine (close0A (arr m c) (ck m c) (cv m c) (snk m c) (bat t) (chn t 1) r l _ y2 (by simp only [chn, row]; omega) (hx2.trans (Nat.zero_add _).symm)).trans ?_
    exact congrArg (fun i => attnAt (arr m c) (ck m c) (cv m c) (snk m c) (bat t) i y2) ey.symm
  case piece28 =>
    refine (piece28_at (n := chn t 0) (r := r) (fk := near 5120 (by omega) (arr m c) (ck m c) (bat t) (chn t 0))
      (fv := near 5248 (by omega) (arr m c) (cv m c) (bat t) (chn t 0))
      (q := fun d => arr m c (ix3 (bat t) (row t ⟨r.val, by omega⟩) ⟨2048 + d.val, by omega⟩))
      ⟨(by intros; exact (r8 m c t _ _).trans (near_ctx _ _))
        , (by intros; exact (r9 m c t _ _).trans (near_ctx _ _))
        , (by intros; exact (r2 m c t _ _).trans (near_prev _ _ _ _ (by simp only [chn]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; exact (r5 m c t _ _).trans (near_prev _ _ _ _ (by simp only [chn]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨r.val, by omega⟩) ⟨2560 + (384 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨r.val, by omega⟩ := congrArg (row t) (Fin.ext hx1)
    refine (close1B (arr m c) (ck m c) (cv m c) (snk m c) (bat t) (chn t 0) r l _ y2 (by simp only [chn, row]; omega) hx2).trans ?_
    exact congrArg (fun i => attnAt (arr m c) (ck m c) (cv m c) (snk m c) (bat t) i y2) ey.symm
  case piece29 =>
    refine (piece29_at (n := chn t 0) (r := r) (fk := near 5120 (by omega) (arr m c) (ck m c) (bat t) (chn t 0))
      (fv := near 5248 (by omega) (arr m c) (cv m c) (bat t) (chn t 0))
      (q := fun d => arr m c (ix3 (bat t) (row t ⟨r.val, by omega⟩) ⟨2048 + d.val, by omega⟩))
      ⟨(by intros; exact (r8 m c t _ _).trans (near_ctx _ _))
        , (by intros; exact (r9 m c t _ _).trans (near_ctx _ _))
        , (by intros; exact (r2 m c t _ _).trans (near_prev _ _ _ _ (by simp only [chn]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; exact (r5 m c t _ _).trans (near_prev _ _ _ _ (by simp only [chn]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨4 + h.val, by omega⟩)) (arr m c (ix3 (bat t) (row t ⟨r.val, by omega⟩) ⟨2560 + (256 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨r.val, by omega⟩ := congrArg (row t) (Fin.ext hx1)
    refine (close1A (arr m c) (ck m c) (cv m c) (snk m c) (bat t) (chn t 0) r l _ y2 (by simp only [chn, row]; omega) hx2).trans ?_
    exact congrArg (fun i => attnAt (arr m c) (ck m c) (cv m c) (snk m c) (bat t) i y2) ey.symm
  case piece30 =>
    refine (piece30_at (n := chn t 0) (r := r) (fk := near 5120 (by omega) (arr m c) (ck m c) (bat t) (chn t 0))
      (fv := near 5248 (by omega) (arr m c) (cv m c) (bat t) (chn t 0))
      (q := fun d => arr m c (ix3 (bat t) (row t ⟨r.val, by omega⟩) ⟨2048 + d.val, by omega⟩))
      ⟨(by intros; exact (r8 m c t _ _).trans (near_ctx _ _))
        , (by intros; exact (r9 m c t _ _).trans (near_ctx _ _))
        , (by intros; exact (r2 m c t _ _).trans (near_prev _ _ _ _ (by simp only [chn]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; exact (r5 m c t _ _).trans (near_prev _ _ _ _ (by simp only [chn]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨r.val, by omega⟩) ⟨2560 + (128 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨r.val, by omega⟩ := congrArg (row t) (Fin.ext hx1)
    refine (close0B (arr m c) (ck m c) (cv m c) (snk m c) (bat t) (chn t 0) r l _ y2 (by simp only [chn, row]; omega) hx2).trans ?_
    exact congrArg (fun i => attnAt (arr m c) (ck m c) (cv m c) (snk m c) (bat t) i y2) ey.symm
  case piece31 =>
    refine (piece31_at (n := chn t 0) (r := r) (fk := near 5120 (by omega) (arr m c) (ck m c) (bat t) (chn t 0))
      (fv := near 5248 (by omega) (arr m c) (cv m c) (bat t) (chn t 0))
      (q := fun d => arr m c (ix3 (bat t) (row t ⟨r.val, by omega⟩) ⟨2048 + d.val, by omega⟩))
      ⟨(by intros; exact (r8 m c t _ _).trans (near_ctx _ _))
        , (by intros; exact (r9 m c t _ _).trans (near_ctx _ _))
        , (by intros; exact (r2 m c t _ _).trans (near_prev _ _ _ _ (by simp only [chn]; omega) rfl))
        , (by intros; pointwise []; exact (r3 m c t _ _).trans (near_own _ _ _ _ (by simp only [chn, row]; omega) rfl))
        , (by intros; pointwise []; exact (r3 m c t _ _).trans (near_next _ _ _ _ (by simp only [chn, row]; omega) rfl))
        , (by intros; exact (r5 m c t _ _).trans (near_prev _ _ _ _ (by simp only [chn]; omega) rfl))
        , (by intros; pointwise []; exact (r6 m c t _ _).trans (near_own _ _ _ _ (by simp only [chn, row]; omega) rfl))
        , (by intros; pointwise []; exact (r6 m c t _ _).trans (near_next _ _ _ _ (by simp only [chn, row]; omega) rfl))
        , (by intros; pointwise []; exact x1 m c t _ _)⟩
      (fun h => snk m c (ix1 ⟨0 + h.val, by omega⟩)) (arr m c (ix3 (bat t) (row t ⟨r.val, by omega⟩) ⟨2560 + (0 + l.val), by omega⟩)) _ l _ _ _ _
      (stp t) rfl (by pointwise []; exact r0 m c t _) (by pointwise []; exact r0 m c t _) (by pointwise []; exact r0 m c t _)
      (by pointwise []; exact r0 m c t _) (by pointwise []; exact x10 m c t _ _)).trans ?_
    have ey : row t y1 = row t ⟨r.val, by omega⟩ := congrArg (row t) (Fin.ext hx1)
    refine (close0A (arr m c) (ck m c) (cv m c) (snk m c) (bat t) (chn t 0) r l _ y2 (by simp only [chn, row]; omega) (hx2.trans (Nat.zero_add _).symm)).trans ?_
    exact congrArg (fun i => attnAt (arr m c) (ck m c) (cv m c) (snk m c) (bat t) i y2) ey.symm

end Cert.KernelIdeal.Hand

end
-- ==== Proof.AttnParts.lean ====
/- The parts that the attention's reference is made of: the banded keys and values, the mask, the masked scores, the softmax
   with the sink and its product with the values. -/
module

public import proofs.«01_k».proof.Proof.Gen.ReferenceIdeal.Run

public import proofs.«01_k».proof.Proof.Consts
public import Idealize.ShloMosaic.Lib.Pointwise

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Value

/-- The key (or value) columns of the tokens, with a block of zeros before the first and after the last, in heads. -/
def padded (P : FVec Ideal S8x4096x128 .f32) : FVec Ideal S8x34x128x2x64 .f32 :=
  (shapeCast S8x34x128x2x64 (pad S8x4352x128 ![0, 128, 0] ![0, 128, 0] ![0, 0, 0] P (sitofp .f32 (constantI S_ 32 0#32)) pads_S8x4096x128_S8x4352x128_000_1281280_000 h_S_) shapeCasts_S8x4352x128_S8x34x128x2x64)

/-- The rows a block sees: of the block before, of its own, of the block after, then of the cached context. -/
def rows (P : FVec Ideal S8x4096x128 .f32) (C : FVec Ideal S8x4x512x2x64 .f32) : FVec Ideal S8x32x896x2x64 .f32 :=
  ((concatenate S8x32x896x2x64 2 [⟨S8x32x128x2x64, ((extractStridedSlice S8x32x128x2x64 ![0, 0, 0, 0, 0] (padded P) slices_S8x34x128x2x64_S8x32x128x2x64_0_0_0_0_0) : (⟨S8x32x128x2x64, .f32⟩ : BufTy).Contents (Elt Ideal))⟩, ⟨S8x32x128x2x64, ((extractStridedSlice S8x32x128x2x64 ![0, 1, 0, 0, 0] (padded P) slices_S8x34x128x2x64_S8x32x128x2x64_0_1_0_0_0) : (⟨S8x32x128x2x64, .f32⟩ : BufTy).Contents (Elt Ideal))⟩, ⟨S8x32x128x2x64, ((extractStridedSlice S8x32x128x2x64 ![0, 2, 0, 0, 0] (padded P) slices_S8x34x128x2x64_S8x32x128x2x64_0_2_0_0_0) : (⟨S8x32x128x2x64, .f32⟩ : BufTy).Contents (Elt Ideal))⟩, ⟨S8x32x512x2x64, ((broadcastInDim S8x32x512x2x64 ![0, 1, 2, 3, 4] bcast_S8x1x512x2x64_S8x32x512x2x64_0_1_2_3_4 (broadcastInDim S8x1x512x2x64 ![0, 2, 3, 4] bcast_S8x512x2x64_S8x1x512x2x64_0_2_3_4 (shapeCast _ (extractStridedSlice S8x1x512x2x64 ![0, 0, 0, 0, 0] C slices_S8x4x512x2x64_S8x1x512x2x64_0_0_0_0_0) shapeCasts_S8x1x512x2x64_S8x512x2x64))) : (⟨S8x32x512x2x64, .f32⟩ : BufTy).Contents (Elt Ideal))⟩] concatenates_S8x32x128x2x64_S8x32x128x2x64_S8x32x128x2x64_S8x32x512x2x64_S8x32x896x2x64_d2 : (⟨S8x32x896x2x64, .f32⟩ : BufTy).Contents (Elt Ideal)))

/-- Which keys of the three blocks a block's queries see. -/
def seen : IVec S32x128x384 1 :=
  (andi (broadcastInDim S32x128x384 ![0, 1, 2] bcast_S1x128x384_S32x128x384_0_1_2 (broadcastInDim S1x128x384 ![1, 2] bcast_S128x384_S1x128x384_1_2 (cmpi .sle (absi (subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0))))) (broadcastInDim S128x384 ![] bcast_S_S128x384 (constantI S_ 32 128#32))))) (broadcastInDim S32x128x384 ![0, 1, 2] bcast_S32x1x384_S32x128x384_0_1_2 (broadcastInDim S32x1x384 ![0, 2] bcast_S32x384_S32x1x384_0_2 (andi (cmpi .sge (addi (broadcastInDim S32x384 ![0, 1] bcast_S32x1_S32x384_0_1 (subi (muli (broadcastInDim S32x1 ![0] bcast_S32_S32x1_0 (iotaInDim S32 32 0)) (broadcastInDim S32x1 ![] bcast_S_S32x1 (constantI S_ 32 128#32))) (broadcastInDim S32x1 ![] bcast_S_S32x1 (constantI S_ 32 128#32)))) (broadcastInDim S32x384 ![0, 1] bcast_S1x384_S32x384_0_1 (broadcastInDim S1x384 ![1] bcast_S384_S1x384_1 (iotaInDim S384 32 0)))) (broadcastInDim S32x384 ![] bcast_S_S32x384 (constantI S_ 32 0#32))) (cmpi .slt (addi (broadcastInDim S32x384 ![0, 1] bcast_S32x1_S32x384_0_1 (subi (muli (broadcastInDim S32x1 ![0] bcast_S32_S32x1_0 (iotaInDim S32 32 0)) (broadcastInDim S32x1 ![] bcast_S_S32x1 (constantI S_ 32 128#32))) (broadcastInDim S32x1 ![] bcast_S_S32x1 (constantI S_ 32 128#32)))) (broadcastInDim S32x384 ![0, 1] bcast_S1x384_S32x384_0_1 (broadcastInDim S1x384 ![1] bcast_S384_S1x384_1 (iotaInDim S384 32 0)))) (broadcastInDim S32x384 ![] bcast_S_S32x384 (constantI S_ 32 4096#32)))))))

/-- The mask over the three blocks. -/
def mask : FVec Ideal S32x128x384 .f32 :=
  (select seen (broadcastInDim S32x128x384 ![] bcast_S_S32x128x384 (constant S_ .f32 0x00000000#32)) (broadcastInDim S32x128x384 ![] bcast_S_S32x128x384 (constant S_ .f32 0xFF800000#32)))

/-- The mask, as what is added to the scores. -/
def bias : FVec Ideal S32x128x896 .f32 :=
  (concatenate S32x128x896 2 [⟨S32x128x384, (id mask)⟩, ⟨S32x128x512, (broadcastInDim S32x128x512 ![] bcast_S_S32x128x512 (constant S_ .f32 0x00000000#32))⟩] concatenates_S32x128x384_S32x128x512_S32x128x896_d2)

/-- The masked scores. -/
def scores (K : FVec Ideal S8x32x896x2x64 .f32) (Q : FVec Ideal S8x32x128x2x4x64 .f32) (B : FVec Ideal S32x128x896 .f32) :
    FVec Ideal S8x32x2x4x128x896 .f32 :=
  (addf (mulf (transpose S8x32x2x4x128x896 [0, 1, 2, 5, 4, 3] (Host.dotGeneral dot_S8x32x896x2x64_S8x32x128x2x4x64_S8x32x2x896x128x4_4_5_2_24_013_013 none K Q) transposes_S8x32x2x896x128x4_S8x32x2x4x128x896_0_1_2_5_4_3) (broadcastInDim S8x32x2x4x128x896 ![] bcast_S_S8x32x2x4x128x896 (constant S_ .f32 0x3E000000#32))) (broadcastInDim S8x32x2x4x128x896 ![0, 1, 2, 3, 4, 5] bcast_S1x32x1x1x128x896_S8x32x2x4x128x896_0_1_2_3_4_5 (broadcastInDim S1x32x1x1x128x896 ![1, 4, 5] bcast_S32x128x896_S1x32x1x1x128x896_1_4_5 B)))

/-- The sinks, by key head and query head. -/
def sinks (S : FVec Ideal S8 .f32) : FVec Ideal S1x1x2x4x1x1 .f32 :=
  (broadcastInDim S1x1x2x4x1x1 ![2, 3] bcast_S2x4_S1x1x2x4x1x1_2_3 (shapeCast _ S shapeCasts_S8_S2x4))

/-- The greatest score of each query. -/
def greatest (SC : FVec Ideal S8x32x2x4x128x896 .f32) : FVec Ideal S8x32x2x4x128 .f32 :=
  Host.reduce FloatOps.maximumf SC (constant S_ .f32 0xFF800000#32) reducesTo_S8x32x2x4x128x896_S8x32x2x4x128_d5 h_S_

/-- The sum of each query's weights. -/
def total (PP : FVec Ideal S8x32x2x4x128x896 .f32) : FVec Ideal S8x32x2x4x128 .f32 :=
  Host.reduceAdd PP (constant S_ .f32 0x00000000#32) reducesTo_S8x32x2x4x128x896_S8x32x2x4x128_d5 h_S_

/-- The greatest of the scores and the sink. -/
def tops (SC : FVec Ideal S8x32x2x4x128x896 .f32) (SK : FVec Ideal S1x1x2x4x1x1 .f32) : FVec Ideal S8x32x2x4x128x1 .f32 :=
  (maximumf (broadcastInDim S8x32x2x4x128x1 ![0, 1, 2, 3, 4] bcast_S8x32x2x4x128_S8x32x2x4x128x1_0_1_2_3_4 (greatest SC)) (broadcastInDim S8x32x2x4x128x1 ![0, 1, 2, 3, 4, 5] bcast_S1x1x2x4x1x1_S8x32x2x4x128x1_0_1_2_3_4_5 SK))

/-- The weights before they are normalized. -/
def weights (SC : FVec Ideal S8x32x2x4x128x896 .f32) (MX : FVec Ideal S8x32x2x4x128x1 .f32) : FVec Ideal S8x32x2x4x128x896 .f32 :=
  (Host.exp (subf SC (broadcastInDim S8x32x2x4x128x896 ![0, 1, 2, 3, 4, 5] bcast_S8x32x2x4x128x1_S8x32x2x4x128x896_0_1_2_3_4_5 MX)))

/-- The gated result. -/
def result (VV : FVec Ideal S8x32x896x2x64 .f32) (SK : FVec Ideal S1x1x2x4x1x1 .f32) (MX : FVec Ideal S8x32x2x4x128x1 .f32)
    (PP : FVec Ideal S8x32x2x4x128x896 .f32) (A : FVec Ideal S8x4096x5376 .f32) : FVec Ideal S8x4096x512 .f32 :=
  mulf (shapeCast S8x4096x512 (transpose S8x32x128x2x4x64 [0, 1, 5, 2, 4, 3] (Host.dotGeneral dot_S8x32x896x2x64_S8x32x2x4x128x896_S8x32x2x64x4x128_2_5_4_34_013_012 none VV (Host.divf PP (broadcastInDim S8x32x2x4x128x896 ![0, 1, 2, 3, 4, 5] bcast_S8x32x2x4x128x1_S8x32x2x4x128x896_0_1_2_3_4_5 (addf (broadcastInDim S8x32x2x4x128x1 ![0, 1, 2, 3, 4] bcast_S8x32x2x4x128_S8x32x2x4x128x1_0_1_2_3_4 (total PP)) (Host.exp (subf (broadcastInDim S8x32x2x4x128x1 ![0, 1, 2, 3, 4, 5] bcast_S1x1x2x4x1x1_S8x32x2x4x128x1_0_1_2_3_4_5 SK) MX)))))) transposes_S8x32x2x64x4x128_S8x32x128x2x4x64_0_1_5_2_4_3) shapeCasts_S8x32x128x2x4x64_S8x4096x512) (extractStridedSlice S8x4096x512 ![0, 0, 2560] A slices_S8x4096x5376_S8x4096x512_0_0_2560)

/-- The queries by block, key head and query head. -/
def queries (A : FVec Ideal S8x4096x5376 .f32) : FVec Ideal S8x32x128x2x4x64 .f32 :=
  (shapeCast S8x32x128x2x4x64 (extractStridedSlice S8x4096x512 ![0, 0, 2048] A slices_S8x4096x5376_S8x4096x512_0_0_2048) shapeCasts_S8x4096x512_S8x32x128x2x4x64)

/-- The reference's result is made of these. -/
theorem res_eq (m : (ℓ : Loc nD τ sig) → Buf (Elt Ideal) ℓ) (c : Dev nD) (A : FVec Ideal S8x4096x5376 .f32)
    (Ck Cv : FVec Ideal S8x4x512x2x64 .f32) (S : FVec Ideal S8 .f32)
    (hA : m ((c.tc : Thread nD τ).loc main_arg0) = A) (hk : m ((c.tc : Thread nD τ).loc main_arg1) = Ck)
    (hv : m ((c.tc : Thread nD τ).loc main_arg2) = Cv) (hS : m ((c.tc : Thread nD τ).loc main_arg3) = S)
    (sc : FVec Ideal S8x32x2x4x128x896 .f32)
    (hsc : sc = scores (rows (extractStridedSlice S8x4096x128 ![0, 0, 5120] A slices_S8x4096x5376_S8x4096x128_0_0_5120) Ck) (queries A) bias)
    (mx : FVec Ideal S8x32x2x4x128x1 .f32) (hmx : mx = tops sc (sinks S)) :
    res_main_v89 m c = result (rows (extractStridedSlice S8x4096x128 ![0, 0, 5248] A slices_S8x4096x5376_S8x4096x128_0_0_5248) Cv)
      (sinks S) mx (weights sc mx) A := by
  subst hA hk hv hS hmx hsc
  rfl

end Cert.ReferenceIdeal.Hand

end
-- ==== Proof.AttnMath.lean ====
/- The kernel's softmax, with its base two and its masked scores, is the exponential softmax of the masked scores. -/
module

public import proofs.«01_k».proof.Proof.AttnBlock

@[expose] public section

set_option maxRecDepth 16384

noncomputable section

open Idealize.ShloMosaic Idealize.ShloMosaic.TcCoe Idealize.SL.Sem

namespace Cert.KernelIdeal.Block

open Cert.KernelIdeal Cert.KernelIdeal.Gen

/-- A sum of reals, read as extended reals, is the real sum. -/
theorem coe_sum {ι : Type} (S : Finset ι) (f : ι → ℝ) : ∑ i ∈ S, (f i : EReal) = ((∑ i ∈ S, f i : ℝ) : EReal) := by
  classical
  induction S using Finset.induction_on with
  | empty => simp
  | insert i S hi ih => rw [Finset.sum_insert hi, Finset.sum_insert hi, ih, EReal.coe_add]

/-- A nonnegative real factor goes under a sum of extended reals. -/
theorem sum_mul_coe {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert i S hi ih =>
    rw [Finset.sum_insert hi, Finset.sum_insert hi, ← ih]
    exact EReal.right_distrib_of_nonneg_of_ne_top (EReal.coe_nonneg.2 hc) (EReal.coe_ne_top _) _ _

/-- The greatest of masked scores and a sink is real, and scales with them. -/
theorem top_scale (S : Finset (Fin 896)) (B : Fin 896 → Prop) [DecidablePred B] (σ : Fin 896 → ℝ) (α c : ℝ) (hc : 0 ≤ c) :
    ∃ μ : ℝ, max (S.fold max ⊥ fun k => if B k then (σ k : EReal) else ⊥) (α : EReal) = (μ : EReal)
      ∧ max (S.fold max ⊥ fun k => if B k then ((σ k * c : ℝ) : EReal) else ⊥) ((α * c : ℝ) : EReal) = ((μ * c : ℝ) : EReal) := by
  classical
  induction S using Finset.induction_on with
  | empty => exact ⟨α, by simp, by simp⟩
  | insert k S hk ih =>
    obtain ⟨μ, h1, h2⟩ := ih
    rw [Finset.fold_insert hk, Finset.fold_insert hk, max_assoc, max_assoc, h1, h2]
    by_cases hB : B k
    · refine ⟨max (σ k) μ, ?_, ?_⟩
      · rw [if_pos hB, EReal.coe_strictMono.monotone.map_max]
      · rw [if_pos hB, max_mul_of_nonneg _ _ hc, EReal.coe_strictMono.monotone.map_max]
    · refine ⟨μ, ?_, ?_⟩
      · rw [if_neg hB]
        exact bot_sup_eq _
      · rw [if_neg hB]
        exact bot_sup_eq _

/-- A power of two with a rescaled exponent is the exponential. -/
theorem two_pow (x μ : ℝ) : Ideal.exp2 (((x * (Real.log 2)⁻¹ : ℝ) : EReal) - ((μ * (Real.log 2)⁻¹ : ℝ) : EReal)) = ((Real.exp (x - μ) : ℝ) : EReal) := by
  rw [← EReal.coe_sub, Ideal.exp2_coe]
  congr 1
  have h2 : Real.log 2 ≠ 0 := (Real.log_pos (by norm_num)).ne'
  have : Real.rpow 2 (x * (Real.log 2)⁻¹ - μ * (Real.log 2)⁻¹) = Real.exp (Real.log 2 * (x * (Real.log 2)⁻¹ - μ * (Real.log 2)⁻¹)) :=
    Real.rpow_def_of_pos (by norm_num) _
  rw [this]
  congr 1
  field_simp

/-- A query's attention is the exponential softmax of its masked scores, with the sink, applied to the values. -/
theorem attend_eq (n : Fin 32) (r : Fin 128) (K V : Fin 896 → Fin 64 → EReal) (q : Fin 64 → EReal) (a : EReal) (d : Fin 64)
    (hK : ∀ k d, ∃ x : ℝ, K k d = (x : EReal)) (hq : ∀ d, ∃ x : ℝ, q d = (x : EReal))
    (ha : ∃ x : ℝ, a = (x : EReal)) (s' V' : Fin 896 → EReal)
    (hs : ∀ k, s' k = if Band n r k then (∑ d, q d * K k d) * ((1 / 8 : ℝ) : EReal) else ⊥)
    (hVB : ∀ k, Band n r k → V' k = V k d) :
    attend n r K V q a d
      = ∑ k, V' k * Ideal.div (Ideal.exp (s' k - max (Finset.univ.fold max ⊥ s') a))
          (∑ k, Ideal.exp (s' k - max (Finset.univ.fold max ⊥ s') a) + Ideal.exp (a - max (Finset.univ.fold max ⊥ s') a)) := by
  choose K0 hK0 using hK
  choose q0 hq0 using hq
  obtain ⟨α, rfl⟩ := ha
  set c : ℝ := (Real.log 2)⁻¹ with hcdef
  have hc : 0 ≤ c := inv_nonneg.2 (Real.log_nonneg (by norm_num))
  let σ : Fin 896 → ℝ := fun k => (∑ d, q0 d * K0 k d) * (1 / 8)
  have hs1 : s' = fun k => if Band n r k then (σ k : EReal) else ⊥ := by
    funext k
    rw [hs]
    refine if_congr Iff.rfl ?_ rfl
    simp only [hq0, hK0, ← EReal.coe_mul, coe_sum, σ]
  have hs2 : score n r K q = fun k => if Band n r k then ((σ k * c : ℝ) : EReal) else ⊥ := by
    funext k
    unfold score
    refine if_congr Iff.rfl ?_ rfl
    rw [qs_eq]
    simp only [hq0, hK0, ← EReal.coe_mul, coe_sum, σ]
    congr 1
    rw [Finset.sum_mul, Finset.sum_mul]
    refine Finset.sum_congr rfl fun i _ => ?_
    rw [hcdef]
    ring
  obtain ⟨μ, h1, h2⟩ := top_scale Finset.univ (Band n r) σ α c hc
  have ht : top (score n r K q) (α : EReal) = ((μ * c : ℝ) : EReal) := by
    unfold top
    rw [l2e_eq, hs2, ← EReal.coe_mul]
    exact h2
  have ht' : max (Finset.univ.fold max ⊥ s') (α : EReal) = (μ : EReal) := by
    rw [hs1]
    exact h1
  let e : Fin 896 → ℝ := fun k => if Band n r k then Real.exp (σ k - μ) else 0
  have he1 : ∀ k, Ideal.exp (s' k - (μ : EReal)) = (e k : EReal) := by
    intro k
    rw [hs1]
    by_cases hB : Band n r k
    · simp only [if_pos hB, e]
      rw [← EReal.coe_sub, Ideal.exp_coe]
    · simp only [if_neg hB, e]
      rw [EReal.bot_sub, Ideal.exp_bot]
      rfl
  have he2 : ∀ k, Ideal.exp2 (score n r K q k - ((μ * c : ℝ) : EReal)) = (e k : EReal) := by
    intro k
    rw [hs2]
    by_cases hB : Band n r k
    · simp only [if_pos hB, e]
      exact two_pow _ _
    · simp only [if_neg hB, e]
      rw [EReal.bot_sub, Ideal.exp2_bot]
      rfl
  have hz2 : Ideal.exp2 ((α : EReal) * l2e - ((μ * c : ℝ) : EReal)) = ((Real.exp (α - μ) : ℝ) : EReal) := by
    rw [l2e_eq, ← EReal.coe_mul]
    exact two_pow _ _
  have hz1 : Ideal.exp ((α : EReal) - (μ : EReal)) = ((Real.exp (α - μ) : ℝ) : EReal) := by
    rw [← EReal.coe_sub, Ideal.exp_coe]
  have hD : (∑ k, e k) + Real.exp (α - μ) ≠ 0 := by
    have h0 : 0 ≤ ∑ k, e k := Finset.sum_nonneg fun k _ => by
      simp only [e]
      split_ifs
      · exact (Real.exp_pos _).le
      · exact le_rfl
    have := Real.exp_pos (α - μ)
    linarith
  have he0 : ∀ k, V' k * (e k : EReal) = V k d * (e k : EReal) := fun k => by
    by_cases hB : Band n r k
    · rw [hVB k hB]
    · simp only [e, if_neg hB, EReal.coe_zero, mul_zero]
  have hD0 : 0 ≤ 1 / ((∑ k, e k) + Real.exp (α - μ)) := one_div_nonneg.2 (add_nonneg (Finset.sum_nonneg fun k _ => by
    simp only [e]
    split_ifs
    · exact (Real.exp_pos _).le
    · exact le_rfl) (Real.exp_pos _).le)
  unfold attend
  rw [ht, ht', hz1, hz2]
  simp only [he1, he2, coe_sum, ← EReal.coe_add, Ideal.div_coe hD]
  rw [sum_mul_coe _ _ _ hD0]
  refine Finset.sum_congr rfl fun k _ => ?_
  rw [← mul_assoc, he0]

end Cert.KernelIdeal.Block

end
-- ==== Proof.AttnRef.lean ====
/- The parts of the attention's reference, each at an index. -/
module

public import proofs.«01_k».proof.Proof.AttnParts
public import proofs.«01_k».proof.Proof.AttnValue
public import proofs.«01_k».proof.Proof.AttnMath

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Value

section last
variable {n0 n1 n2 n3 n4 n5 : Nat}

/-- The indices that lose their last axis to a given index are those that add a coordinate to it. -/
theorem last_fiber (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- A sum along the last of six axes. -/
theorem last_sum (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal)
    (a : Fin n0) (b : Fin n1) (c : Fin n2) (d : Fin n3) (e : Fin n4) :
    Ideal.hostReduceAdd h v z (ix5 a b c d e) = z + ∑ k : Fin n5, v (ix6 a b c d e k) :=
  congrArg (z + ·) (Finset.sum_filter_eq_sum_of_fiber _ (fun k : Fin n5 => ix6 a b c d e k) (fun _ _ q => congrFun q 5)
    (last_fiber h a b c d e) v)

/-- The greatest along the last of six axes. -/
theorem last_max (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal)
    (a : Fin n0) (b : Fin n1) (c : Fin n2) (d : Fin n3) (e : Fin n4) :
    (Finset.univ.filter (fun i => h.drop i = ix5 a b c d e)).fold max z v
      = (Finset.univ : Finset (Fin n5)).fold max z (fun k => v (ix6 a b c d e k)) :=
  Finset.fold_filter_eq_fold_of_fiber max _ (fun k : Fin n5 => ix6 a b c d e k) (fun _ _ q => congrFun q 5)
    (last_fiber h a b c d e) z v

end last

/-- The padded array: the tokens 128 on. -/
theorem padded_at (P : FVec Ideal S8x4096x128 .f32) (b : Fin 8) (j : Fin 34) (k : Fin 128) (h : Fin 2) (d : Fin 64)
    (x : Fin 4096) (y : Fin 128) (hx : x.val + 128 = j.val * 128 + k.val) (hy : y.val = h.val * 64 + d.val) :
    padded P (ix5 b j k h d) = P (ix3 b x y) := by
  pointwise [padded]
  rw [dif_pos (by omega)]
  refine congrArg P ((ix3_inj ..).2 ⟨rfl, Fin.ext (by simp only; omega), Fin.ext (by simp only; omega)⟩)

theorem near_word : ∀ D : Fin 511, IntOp.cmpi .sle (IntOp.absi (IntOp.subi (BitVec.ofNat 32 D.val) 255#32)) 128#32 = 1#1
    ↔ 127 ≤ D.val ∧ D.val ≤ 383 := by decide +kernel

theorem inside_word : ∀ T : Fin 4352, IntOp.andi (IntOp.cmpi .sge (IntOp.subi (BitVec.ofNat 32 T.val) 128#32) 0#32)
    (IntOp.cmpi .slt (IntOp.subi (BitVec.ofNat 32 T.val) 128#32) 4096#32) = 1#1 ↔ 128 ≤ T.val ∧ T.val < 4224 := by decide +kernel

theorem near_eq (k r : ℕ) (hk : k < 384) (hr : r < 128) :
    IntOp.subi (IntOp.subi (BitVec.ofNat 32 k) 128#32) (BitVec.ofNat 32 r) = IntOp.subi (BitVec.ofNat 32 (k + 127 - r)) 255#32 := by
  apply BitVec.eq_of_toNat_eq
  simp only [IntOp.subi, BitVec.toNat_sub, BitVec.toNat_ofNat]
  omega

theorem inside_eq (n k : ℕ) (hn : n < 32) (hk : k < 384) :
    IntOp.addi (IntOp.subi (IntOp.muli (BitVec.ofNat 32 n) 128#32) 128#32) (BitVec.ofNat 32 k) = IntOp.subi (BitVec.ofNat 32 (n * 128 + k)) 128#32 := by
  apply BitVec.eq_of_toNat_eq
  simp only [IntOp.subi, IntOp.addi, IntOp.muli, BitVec.toNat_sub, BitVec.toNat_add, BitVec.toNat_mul, BitVec.toNat_ofNat]
  omega

theorem and_word (x y : BitVec 1) : IntOp.andi x y = 1#1 ↔ x = 1#1 ∧ y = 1#1 := by revert x y; decide

/-- Which keys are seen. -/
theorem seen_at (n : Fin 32) (r : Fin 128) (k : Fin 384) :
    seen (ix3 n r k) = 1#1 ↔ Cert.KernelIdeal.Block.Band n r ⟨k.val, by omega⟩ := by
  pointwise [seen]
  rw [near_eq _ _ k.isLt r.isLt, inside_eq _ _ n.isLt k.isLt, and_word]
  have h1 := near_word ⟨k.val + 127 - r.val, by omega⟩
  have h2 := inside_word ⟨n.val * 128 + k.val, by omega⟩
  simp only at h1 h2
  rw [h1, h2]
  unfold Cert.KernelIdeal.Block.Band
  simp only
  omega

/-- The mask is zero where a key is seen, and minus infinity elsewhere. -/
theorem mask_at (n : Fin 32) (r : Fin 128) (k : Fin 384) :
    mask (ix3 n r k) = if seen (ix3 n r k) = 1#1 then 0 else ⊥ := by
  pointwise [mask]
  rw [Consts.bits_bot]
  rfl

/-- The mask over all keys. -/
theorem bias_at (n : Fin 32) (r : Fin 128) (k : Fin 896) :
    bias (ix3 n r k) = if Cert.KernelIdeal.Block.Band n r k then 0 else ⊥ := by
  pointwise [bias]
  by_cases h : k.val < 384
  · rw [dif_pos h]
    exact (mask_at n r _).trans (if_congr (seen_at n r _) rfl rfl)
  · rw [dif_neg h, if_pos (by unfold Cert.KernelIdeal.Block.Band; omega)]

/-- The masked scores. -/
theorem scores_at (K : FVec Ideal S8x32x896x2x64 .f32) (Q : FVec Ideal S8x32x128x2x4x64 .f32) (B : FVec Ideal S32x128x896 .f32)
    (b : Fin 8) (n : Fin 32) (h : Fin 2) (g : Fin 4) (r : Fin 128) (k : Fin 896) :
    scores K Q B (ix6 b n h g r k)
      = (∑ d, K (ix5 b n k h d) * Q (ix6 b n r h g d)) * ((1 / 8 : ℝ) : EReal) + B (ix3 n r k) := by
  pointwise [scores]
  rw [Consts.bits_8th]

/-- The queries. -/
theorem queries_at (A : FVec Ideal S8x4096x5376 .f32) (b : Fin 8) (n : Fin 32) (r : Fin 128) (h : Fin 2) (g : Fin 4) (d : Fin 64)
    (x : Fin 4096) (y : Fin 5376) (hx : x.val = n.val * 128 + r.val) (hy : y.val = 2048 + ((h.val * 4 + g.val) * 64 + d.val)) :
    queries A (ix6 b n r h g d) = A (ix3 b x y) := by
  pointwise [queries]
  refine congrArg A ((ix3_inj ..).2 ⟨rfl, Fin.ext (by simp only; omega), Fin.ext (by simp only; omega)⟩)

/-- The sinks. -/
theorem sinks_at (S : FVec Ideal S8 .f32) (h : Fin 2) (g : Fin 4) (x : Fin 8) (hx : x.val = h.val * 4 + g.val) :
    sinks S (ix6 0 0 h g 0 0) = S (ix1 x) := by
  pointwise [sinks]
  refine congrArg S ((ix1_inj ..).2 (Fin.ext (by simp only; omega)))

/-- The greatest score. -/
theorem greatest_at (SC : FVec Ideal S8x32x2x4x128x896 .f32) (b : Fin 8) (n : Fin 32) (h : Fin 2) (g : Fin 4) (r : Fin 128) :
    greatest SC (ix5 b n h g r) = Finset.univ.fold max ⊥ fun k => SC (ix6 b n h g r k) := by
  refine (Host.reduce_eq_fold (max : EReal → EReal → EReal) SC (constant (F := Ideal) S_ .f32 0xFF800000#32) _ h_S_ _).trans ?_
  refine (last_max reducesTo_S8x32x2x4x128x896_S8x32x2x4x128_d5 SC _ b n h g r).trans ?_
  exact congrArg (fun z => Finset.univ.fold max z fun k => SC (ix6 b n h g r k)) Consts.bits_bot

/-- The sum of the weights. -/
theorem total_at (PP : FVec Ideal S8x32x2x4x128x896 .f32) (b : Fin 8) (n : Fin 32) (h : Fin 2) (g : Fin 4) (r : Fin 128) :
    total PP (ix5 b n h g r) = ∑ k, PP (ix6 b n h g r k) := by
  refine (last_sum reducesTo_S8x32x2x4x128x896_S8x32x2x4x128_d5 PP (Ideal.ofBits FTy.f32 0#32) b n h g r).trans ?_
  rw [Consts.bits_zero, zero_add]

/-- An array of the queries, with an axis of one added. -/
theorem widen_at (G : FVec Ideal S8x32x2x4x128 .f32) (b : Fin 8) (n : Fin 32) (h : Fin 2) (g : Fin 4) (r : Fin 128) (z : Fin 1) :
    broadcastInDim S8x32x2x4x128x1 ![0, 1, 2, 3, 4] bcast_S8x32x2x4x128_S8x32x2x4x128x1_0_1_2_3_4 G (ix6 b n h g r z) = G (ix5 b n h g r) := by
  pointwise []

/-- The sinks, laid out over the queries. -/
theorem spread_at (K : FVec Ideal S1x1x2x4x1x1 .f32) (b : Fin 8) (n : Fin 32) (h : Fin 2) (g : Fin 4) (r : Fin 128) (z : Fin 1) :
    broadcastInDim S8x32x2x4x128x1 ![0, 1, 2, 3, 4, 5] bcast_S1x1x2x4x1x1_S8x32x2x4x128x1_0_1_2_3_4_5 K (ix6 b n h g r z)
      = K (ix6 0 0 h g 0 0) := by
  pointwise []

/-- The greater of two arrays, at an entry. -/
theorem max_entry {s : Shape} (x y : FVec Ideal s .f32) (i : s.Idx) : maximumf x y i = max (x i) (y i) := rfl

/-- The greatest score, the sink among them. -/
theorem tops_at (SC : FVec Ideal S8x32x2x4x128x896 .f32) (SK : FVec Ideal S1x1x2x4x1x1 .f32) (b : Fin 8) (n : Fin 32) (h : Fin 2)
    (g : Fin 4) (r : Fin 128) (z : Fin 1) :
    tops SC SK (ix6 b n h g r z) = max (Finset.univ.fold max ⊥ fun k => SC (ix6 b n h g r k)) (SK (ix6 0 0 h g 0 0)) := by
  unfold tops
  rw [max_entry, widen_at, spread_at, greatest_at]

/-- The weights. -/
theorem weights_at (SC : FVec Ideal S8x32x2x4x128x896 .f32) (MX : FVec Ideal S8x32x2x4x128x1 .f32) (b : Fin 8) (n : Fin 32) (h : Fin 2) (g : Fin 4) (r : Fin 128) (k : Fin 896) :
    weights SC MX (ix6 b n h g r k) = Ideal.exp (SC (ix6 b n h g r k) - MX (ix6 b n h g r 0)) := by
  pointwise [weights]

/-- The gated result, from the weights. -/
theorem result_at (VV : FVec Ideal S8x32x896x2x64 .f32) (SK : FVec Ideal S1x1x2x4x1x1 .f32) (MX : FVec Ideal S8x32x2x4x128x1 .f32)
    (PP : FVec Ideal S8x32x2x4x128x896 .f32) (A : FVec Ideal S8x4096x5376 .f32) (b : Fin 8) (t : Fin 4096) (c : Fin 512) :
    result VV SK MX PP A (ix3 b t c)
      = (∑ k, VV (ix5 b ⟨t.val / 128, by omega⟩ k ⟨c.val / 256, by omega⟩ ⟨c.val % 64, by omega⟩)
          * Ideal.div (PP (ix6 b ⟨t.val / 128, by omega⟩ ⟨c.val / 256, by omega⟩ ⟨c.val / 64 % 4, by omega⟩ ⟨t.val % 128, by omega⟩ k))
            (∑ k, PP (ix6 b ⟨t.val / 128, by omega⟩ ⟨c.val / 256, by omega⟩ ⟨c.val / 64 % 4, by omega⟩ ⟨t.val % 128, by omega⟩ k)
              + Ideal.exp (SK (ix6 0 0 ⟨c.val / 256, by omega⟩ ⟨c.val / 64 % 4, by omega⟩ 0 0)
                - MX (ix6 b ⟨t.val / 128, by omega⟩ ⟨c.val / 256, by omega⟩ ⟨c.val / 64 % 4, by omega⟩ ⟨t.val % 128, by omega⟩ 0))))
        * A (ix3 b t ⟨2560 + c.val, by omega⟩) := by
  pointwise [result]
  simp only [total_at]

/-- The rows that a block's queries see. -/
theorem rows_at (off : ℕ) (ho : off + 128 ≤ 5376) (A : FVec Ideal S8x4096x5376 .f32) (P : FVec Ideal S8x4096x128 .f32)
    (hP : ∀ b t (l : Fin 128), P (ix3 b t l) = A (ix3 b t ⟨off + l.val, by omega⟩)) (C : FVec Ideal S8x4x512x2x64 .f32) (b : Fin 8) (n : Fin 32)
    (r : Fin 128) (k : Fin 896) (h : Fin 2) (d : Fin 64) (hB : Cert.KernelIdeal.Block.Band n r k) (l : Fin 128) (hl : l.val = h.val * 64 + d.val) :
    rows P C (ix5 b n k h d) = Cert.KernelIdeal.Hand.near off ho A C b n k l := by
  unfold Cert.KernelIdeal.Block.Band at hB
  pointwise [rows]
  unfold Cert.KernelIdeal.Hand.near
  by_cases c1 : k.val < 128
  · rw [dif_pos c1, dif_pos c1]
    exact (padded_at P b _ _ h d ⟨(n.val - 1) * 128 + k.val, by omega⟩ l (by simp only; omega) hl).trans (hP _ _ _)
  rw [dif_neg c1, dif_neg c1]
  by_cases c2 : k.val < 256
  · rw [dif_pos (by omega), dif_pos c2]
    exact (padded_at P b _ _ h d ⟨n.val * 128 + (k.val - 128), by omega⟩ l (by simp only; omega) hl).trans (hP _ _ _)
  rw [dif_neg (by omega), dif_neg c2]
  by_cases c3 : k.val < 384
  · rw [dif_pos (by omega), dif_pos c3]
    exact (padded_at P b _ _ h d ⟨min (n.val + 1) 31 * 128 + (k.val - 256), by omega⟩ l (by simp only; omega) hl).trans (hP _ _ _)
  rw [dif_neg (by omega), dif_neg c3]
  refine congrArg C ((ix5_inj ..).2 ⟨rfl, rfl, Fin.ext (by simp only; omega), Fin.ext (by simp only; omega), Fin.ext (by simp only; omega)⟩)

end Cert.ReferenceIdeal.Hand

end
-- ==== Proof.AttnEquation.lean ====
/- The attention's equation: what the reference computes at an index is what the kernel's array holds there, when the
   queries, the keys and the sinks are real. -/
module

public import proofs.«01_k».proof.Proof.AttnRef

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.Value
open Cert.KernelIdeal.Hand (near attnAt)
open Cert.KernelIdeal.Block (Band)
open Cert.KernelIdeal.Block (attend_eq)

/-- The keys a block's queries see are real when the arrays' are. -/
theorem near_real (A : FVec Ideal S8x4096x5376 .f32) (C : FVec Ideal S8x4x512x2x64 .f32)
    (hA : ∀ (b : Fin 8) (t : Fin 4096) (l : Fin 128), ∃ r : ℝ, A (ix3 b t ⟨5120 + l.val, by omega⟩) = (r : EReal))
    (hC : ∀ (b : Fin 8) (k : Fin 512) (g : Fin 2) (d : Fin 64), ∃ r : ℝ, C (ix5 b 0 k g d) = (r : EReal))
    (b : Fin 8) (n : Fin 32) (k : Fin 896) (l : Fin 128) : ∃ r : ℝ, near 5120 (by omega) A C b n k l = (r : EReal) := by
  unfold near
  by_cases h1 : k.val < 128
  · rw [dif_pos h1]; exact hA ..
  rw [dif_neg h1]
  by_cases h2 : k.val < 256
  · rw [dif_pos h2]; exact hA ..
  rw [dif_neg h2]
  by_cases h3 : k.val < 384
  · rw [dif_pos h3]; exact hA ..
  rw [dif_neg h3]
  exact hC ..

/-- The keys' columns. -/
theorem keys_at (A : FVec Ideal S8x4096x5376 .f32) (b : Fin 8) (t : Fin 4096) (l : Fin 128) :
    extractStridedSlice S8x4096x128 ![0, 0, 5120] A slices_S8x4096x5376_S8x4096x128_0_0_5120 (ix3 b t l)
      = A (ix3 b t ⟨5120 + l.val, by omega⟩) := by
  pointwise []

/-- The values' columns. -/
theorem values_at (A : FVec Ideal S8x4096x5376 .f32) (b : Fin 8) (t : Fin 4096) (l : Fin 128) :
    extractStridedSlice S8x4096x128 ![0, 0, 5248] A slices_S8x4096x5376_S8x4096x128_0_0_5248 (ix3 b t l)
      = A (ix3 b t ⟨5248 + l.val, by omega⟩) := by
  pointwise []

/-- A masked score: the product of the query and the key over eight within the band, and minus infinity outside. -/
theorem score_at (A : FVec Ideal S8x4096x5376 .f32) (Ck : FVec Ideal S8x4x512x2x64 .f32) (PK : FVec Ideal S8x4096x128 .f32)
    (hPK : ∀ b t (l : Fin 128), PK (ix3 b t l) = A (ix3 b t ⟨5120 + l.val, by omega⟩))
    (b : Fin 8) (t : Fin 4096) (c : Fin 512) (k : Fin 896) :
    scores (rows PK Ck) (queries A) bias
        (ix6 b ⟨t.val / 128, by omega⟩ ⟨c.val / 256, by omega⟩ ⟨c.val / 64 % 4, by omega⟩ ⟨t.val % 128, by omega⟩ k)
      = if Band ⟨t.val / 128, by omega⟩ ⟨t.val % 128, by omega⟩ k then
          (∑ d : Fin 64, A (ix3 b t ⟨2048 + (c.val / 64 * 64 + d.val), by omega⟩)
            * near 5120 (by omega) A Ck b ⟨t.val / 128, by omega⟩ k ⟨c.val / 256 * 64 + d.val, by omega⟩) * ((1 / 8 : ℝ) : EReal)
        else ⊥ := by
  rw [scores_at, bias_at]
  by_cases hB : Band ⟨t.val / 128, by omega⟩ ⟨t.val % 128, by omega⟩ k
  · rw [if_pos hB, if_pos hB, add_zero]
    refine congrArg (· * ((1 / 8 : ℝ) : EReal)) (Finset.sum_congr rfl fun d _ => ?_)
    rw [mul_comm]
    exact congrArg₂ (· * ·)
      (queries_at A b _ _ _ _ d t ⟨2048 + (c.val / 64 * 64 + d.val), by omega⟩ (by simp only; omega) (by simp only; omega))
      (rows_at 5120 (by omega) A PK hPK Ck b _ _ k _ d hB ⟨c.val / 256 * 64 + d.val, by omega⟩ rfl)
  · rw [if_neg hB, if_neg hB, EReal.add_bot]

/-- The reference's result at an index. -/
theorem ref_at (A : FVec Ideal S8x4096x5376 .f32) (Ck Cv : FVec Ideal S8x4x512x2x64 .f32) (S : FVec Ideal S8 .f32)
    (hq : ∀ (b : Fin 8) (t : Fin 4096) (l : Fin 512), ∃ r : ℝ, A (ix3 b t ⟨2048 + l.val, by omega⟩) = (r : EReal))
    (hA : ∀ (b : Fin 8) (t : Fin 4096) (l : Fin 128), ∃ r : ℝ, A (ix3 b t ⟨5120 + l.val, by omega⟩) = (r : EReal))
    (hC : ∀ (b : Fin 8) (k : Fin 512) (g : Fin 2) (d : Fin 64), ∃ r : ℝ, Ck (ix5 b 0 k g d) = (r : EReal))
    (hS : ∀ a : Fin 8, ∃ r : ℝ, S (ix1 a) = (r : EReal))
    (PK PV : FVec Ideal S8x4096x128 .f32)
    (hPK : ∀ b t (l : Fin 128), PK (ix3 b t l) = A (ix3 b t ⟨5120 + l.val, by omega⟩))
    (hPV : ∀ b t (l : Fin 128), PV (ix3 b t l) = A (ix3 b t ⟨5248 + l.val, by omega⟩))
    (sc : FVec Ideal S8x32x2x4x128x896 .f32) (hsc : sc = scores (rows PK Ck) (queries A) bias)
    (mx : FVec Ideal S8x32x2x4x128x1 .f32) (hmx : mx = tops sc (sinks S)) (b : Fin 8) (t : Fin 4096) (c : Fin 512) :
    result (rows PV Cv) (sinks S) mx (weights sc mx) A (ix3 b t c) = attnAt A Ck Cv S b t c := by
  rw [result_at]
  unfold attnAt
  refine congrArg (· * A (ix3 b t ⟨2560 + c.val, by omega⟩)) ?_
  rw [attend_eq _ _ _ _ _ _ _ (fun k d => near_real A Ck hA hC b _ k _) (fun d => hq b t ⟨c.val / 64 * 64 + d.val, by omega⟩) (hS _)
    (fun k => sc (ix6 b ⟨t.val / 128, by omega⟩ ⟨c.val / 256, by omega⟩ ⟨c.val / 64 % 4, by omega⟩ ⟨t.val % 128, by omega⟩ k))
    (fun k => rows PV Cv (ix5 b ⟨t.val / 128, by omega⟩ k ⟨c.val / 256, by omega⟩ ⟨c.val % 64, by omega⟩))
    (fun k => by rw [hsc]; exact score_at A Ck PK hPK b t c k)
    (fun k hB => rows_at 5248 (by omega) A PV hPV Cv b ⟨t.val / 128, by omega⟩ ⟨t.val % 128, by omega⟩ k ⟨c.val / 256, by omega⟩
      ⟨c.val % 64, by omega⟩ hB ⟨c.val / 256 * 64 + c.val % 64, by omega⟩ (by simp only))]
  have hm : mx (ix6 b ⟨t.val / 128, by omega⟩ ⟨c.val / 256, by omega⟩ ⟨c.val / 64 % 4, by omega⟩ ⟨t.val % 128, by omega⟩ 0)
      = max (Finset.univ.fold max ⊥ fun k => sc (ix6 b ⟨t.val / 128, by omega⟩ ⟨c.val / 256, by omega⟩ ⟨c.val / 64 % 4, by omega⟩
          ⟨t.val % 128, by omega⟩ k)) (S (ix1 ⟨c.val / 64, by omega⟩)) := by
    rw [hmx, tops_at, sinks_at S _ _ ⟨c.val / 64, by omega⟩ (by simp only; omega)]
  simp only [weights_at, hm]
  rw [sinks_at S _ _ ⟨c.val / 64, by omega⟩ (by simp only; omega)]

/-- The reference's result array. -/
theorem ref (m : (ℓ : Loc nD τ sig) → Buf (Elt Ideal) ℓ) (c : Dev nD) (A : FVec Ideal S8x4096x5376 .f32)
    (Ck Cv : FVec Ideal S8x4x512x2x64 .f32) (S : FVec Ideal S8 .f32)
    (h0 : m ((c.tc : Thread nD τ).loc main_arg0) = A) (h1 : m ((c.tc : Thread nD τ).loc main_arg1) = Ck)
    (h2 : m ((c.tc : Thread nD τ).loc main_arg2) = Cv) (h3 : m ((c.tc : Thread nD τ).loc main_arg3) = S)
    (hq : ∀ (b : Fin 8) (t : Fin 4096) (l : Fin 512), ∃ r : ℝ, A (ix3 b t ⟨2048 + l.val, by omega⟩) = (r : EReal))
    (hA : ∀ (b : Fin 8) (t : Fin 4096) (l : Fin 128), ∃ r : ℝ, A (ix3 b t ⟨5120 + l.val, by omega⟩) = (r : EReal))
    (hC : ∀ (b : Fin 8) (k : Fin 512) (g : Fin 2) (d : Fin 64), ∃ r : ℝ, Ck (ix5 b 0 k g d) = (r : EReal))
    (hS : ∀ a : Fin 8, ∃ r : ℝ, S (ix1 a) = (r : EReal)) :
    res_main_v89 m c = fun i => attnAt A Ck Cv S (i 0) (i 1) (i 2) := by
  rw [res_eq m c A Ck Cv S h0 h1 h2 h3 _ rfl _ rfl]
  funext i
  obtain ⟨b, t, l, rfl⟩ : ∃ b t l, i = ix3 b t l := ⟨i 0, i 1, i 2, eq_ix3 i⟩
  simp only [ix3_0, ix3_1, ix3_2]
  exact ref_at A Ck Cv S hq hA hC hS _ _ (keys_at A) (values_at A) _ rfl _ rfl b t l

end Cert.ReferenceIdeal.Hand

end
-- ==== Proof.AttnFinite.lean ====
/- What the attention's precondition says: the queries, the keys and the sinks are real. -/
module

public import proofs.«01_k».proof.Pre_finite
public import proofs.«01_k».proof.Proof.Gen.Pre_finite
public import proofs.«01_k».proof.Proof.Consts
public import Idealize.ShloMosaic.Lib.Pointwise

@[expose] public section

set_option maxRecDepth 16384

noncomputable section

open Idealize.ShloMosaic Idealize.ShloMosaic.TcCoe Idealize.SL.Sem

namespace Cert.Pre_finite.Hand

open Cert.Pre_finite Cert.Pre_finite.Gen Cert.Pre_finite.Facts

theorem and_word (x y : BitVec 1) : IntOp.andi x y = 1#1 ↔ x = 1#1 ∧ y = 1#1 := by revert x y; decide

/-- If the conjunction of many bits is set, each is. -/
theorem fold_and {ι : Type} (T : Finset ι) (x : ι → BitVec 1) (h : T.fold IntOp.andi 1#1 x = 1#1) : ∀ i ∈ T, x i = 1#1 := by
  classical
  induction T using Finset.induction_on with
  | empty => intro i hi; exact absurd hi (Finset.notMem_empty i)
  | insert i T hi ih =>
    rw [Finset.fold_insert hi, and_word] at h
    intro j hj
    rcases Finset.mem_insert.1 hj with rfl | hj
    · exact h.1
    · exact ih h.2 j hj

/-- If the conjunction over a whole array is set, each entry is. -/
theorem all_and {s : Shape} {axes : List (Fin s.rank)} (h : s.ReducesTo axes S_) (hu : 0 < S_.numel) (x : IVec s 1) (j : S_.Idx)
    (e : Host.reduce IntOp.andi x (constantI S_ 1 1#1) h hu j = 1#1) (i : s.Idx) : x i = 1#1 := by
  rw [Host.reduce_eq_fold] at e
  exact fold_and _ x e i (Finset.mem_filter.2 ⟨Finset.mem_univ _, funext fun a => a.elim0⟩)

/-- An extended real whose absolute value is below the top element is real. -/
theorem real_of_abs (x : EReal) (h : FloatOps.cmpf (F := Ideal) (φ := .f32) .olt (FloatOps.hostAbsf x) (Ideal.ofBits FTy.f32 2139095040#32) = 1#1) :
    ∃ r : ℝ, x = (r : EReal) := by
  rw [Consts.bits_top] at h
  have e : ¬ Ideal.cmp .olt (⊤ : EReal) ⊤ = 1#1 := by
    unfold Ideal.cmp
    simp
  induction x with
  | bot => exact absurd h (by simpa [FloatOps.cmpf, FloatOps.hostAbsf] using e)
  | top => exact absurd h (by simpa [FloatOps.cmpf, FloatOps.hostAbsf] using e)
  | coe r => exact ⟨r, rfl⟩

/-- The finiteness test of an array: each entry is real. -/
theorem all_real {s : Shape} {axes : List (Fin s.rank)} (h : s.ReducesTo axes S_) (hu : 0 < S_.numel) (hb : S_.BroadcastsInDim s ![])
    (x : FVec Ideal s .f32) (j : S_.Idx)
    (e : Host.reduce IntOp.andi (cmpf .olt (Host.absf x) (broadcastInDim s ![] hb (constant S_ .f32 0x7F800000#32))) (constantI S_ 1 1#1) h hu j = 1#1)
    (i : s.Idx) : ∃ r : ℝ, x i = (r : EReal) :=
  real_of_abs _ (all_and h hu _ j e i)

/-- The precondition gives real queries, keys and sinks. -/
theorem reals (A : FVec Ideal S8x4096x5376 .f32) (Ck Cv : FVec Ideal S8x4x512x2x64 .f32) (S : FVec Ideal S8 .f32)
    (h : fn (F := Ideal) A Ck Cv S = fun _ => 1#1) :
    (∀ (b : Fin 8) (t : Fin 4096) (l : Fin 512), ∃ r : ℝ, A (ix3 b t ⟨2048 + l.val, by omega⟩) = (r : EReal))
      ∧ (∀ (b : Fin 8) (t : Fin 4096) (l : Fin 128), ∃ r : ℝ, A (ix3 b t ⟨5120 + l.val, by omega⟩) = (r : EReal))
      ∧ (∀ (b : Fin 8) (k : Fin 512) (g : Fin 2) (d : Fin 64), ∃ r : ℝ, Ck (ix5 b 0 k g d) = (r : EReal))
      ∧ (∀ a : Fin 8, ∃ r : ℝ, S (ix1 a) = (r : EReal)) := by
  have e : fn (F := Ideal) A Ck Cv S ix0 = 1#1 := congrFun h ix0
  obtain ⟨e1, e4⟩ := (and_word _ _).1 e
  obtain ⟨e2, e3⟩ := (and_word _ _).1 e1
  obtain ⟨e1, e2⟩ := (and_word _ _).1 e2
  refine ⟨fun b t l => ?_, fun b t l => ?_, fun b k g d => ?_, fun a => ?_⟩
  · obtain ⟨r, hr⟩ := all_real _ _ _ _ _ e1 (ix3 b t l)
    refine ⟨r, hr ▸ ?_⟩
    pointwise []
  · obtain ⟨r, hr⟩ := all_real _ _ _ _ _ e2 (ix3 b t l)
    refine ⟨r, hr ▸ ?_⟩
    pointwise []
  · obtain ⟨r, hr⟩ := all_real _ _ _ _ _ e3 (ix4 b k g d)
    refine ⟨r, hr ▸ ?_⟩
    pointwise []
  · exact all_real _ _ _ _ _ e4 (ix1 a)

end Cert.Pre_finite.Hand

end
-- ==== Proof.AttnClaims.lean ====
/- The claims about the windowed attention under its precondition: the frames, and the equation of the kernel's result with
   the reference's. -/
module

public import proofs.«01_k».proof.Defs
public import proofs.«01_k».proof.Proof.AttnFrames
public import proofs.«01_k».proof.Proof.AttnValue
public import proofs.«01_k».proof.Proof.AttnEquation
public import proofs.«01_k».proof.Proof.AttnFinite
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Attn

/-- The kernel's idealization runs to the end, under the precondition too. -/
theorem frame_ideal_finite : Cert.quiescent_KernelIdeal_pre_finite := fun m ρ _ => frame_ideal m ρ trivial

/-- The reference's idealization runs to the end, under the precondition too. -/
theorem frame_reference_finite : Cert.quiescent_ReferenceIdeal_pre_finite := fun m ρ _ => frame_reference m ρ trivial

/-- The kernel's result is the reference's: every query's attention, times its gate. -/
theorem algebraic : Cert.algebraic_KernelIdeal_ReferenceIdeal_pre_finite := by
  intro m ρ m' ρ' hpre hagree
  refine ⟨_, (θ_run Cert.KernelIdeal.defs _ _).mono
      (fun r h c => ⟨(h c).1.trans (Cert.KernelIdeal.Hand.final m c), (h c).2⟩)
      (Cert.KernelIdeal.Value.run_blocks m ρ), ?_⟩
  refine (θ_run Cert.ReferenceIdeal.defs _ _).mono
    (fun r h c => ⟨(h c).1.trans ?_, (h c).2⟩)
    (Cert.ReferenceIdeal.Value.run m' ρ')
  obtain ⟨h0, h1, h2, h3⟩ := hagree c
  obtain ⟨hq, hA, hC, hS⟩ := Cert.Pre_finite.Hand.reals _ _ _ _ (hpre c)
  exact Cert.ReferenceIdeal.Hand.ref m' c _ _ _ _ h0 h1 h2 h3 hq hA hC hS

end Cert.Proof.Attn

end
-- ==== Proof.Rows.lean ====
/- The layer's mathematics of ONE token row, on the extended reals: what both the kernels' blocks and the reference's
   arrays are compared with. Nothing here mentions a program. -/
module

public import Idealize.ShloMosaic.Lib.Pointwise

@[expose] public section

noncomputable section

open Idealize.ShloMosaic

namespace Rows

/-- The small number added under every root of the layer. -/
def eps : EReal := Ideal.ofBits FTy.f32 897988541#32

/-- One entry of the modulated row: the row `x` divided by its root mean square (over 1024 columns), times the norm's
    weight, times one plus the scale, plus the shift. -/
def modulated (x nw sc sh : Fin 1024 → EReal) (l : Fin 1024) : EReal :=
  x l * Ideal.rsqrt (Ideal.div (∑ k, x k * x k) (Ideal.ofBits FTy.f32 1149239296#32) + eps) * nw l * (1 + sc l) + sh l

/-- One entry of the row `x` divided by its root mean square, times the norm's weight. -/
def normed (x nw : Fin 1024 → EReal) (l : Fin 1024) : EReal :=
  x l * Ideal.rsqrt (Ideal.div (∑ k, x k * x k) (Ideal.ofBits FTy.f32 1149239296#32) + eps) * nw l

/-- Column `k` of head `l / 64` in a row of eight heads of 64 columns. -/
def headCol (l : Fin 512) (k : Fin 64) : Fin 512 := ⟨l.val / 64 * 64 + k.val, by omega⟩

/-- One entry of the retention's output row: each head of 64 columns divided by its root mean square, times the group
    norm's weight, times the gate. -/
def headNormed (o gn g : Fin 512 → EReal) (l : Fin 512) : EReal :=
  o l * Ideal.rsqrt (Ideal.div (∑ k, o (headCol l k) * o (headCol l k)) (Ideal.ofBits FTy.f32 1115684864#32) + eps)
    * gn l * g l

/-- One row times another, column by column. -/
def gated (y g : Fin 512 → EReal) (l : Fin 512) : EReal := y l * g l

/-- One branch's term of the merge at column `k`: the logistic gate of the modulated row times the branch's projection. -/
def branch (h : Fin 1024 → EReal) (wm : Fin 1024 → EReal) (bm : EReal) (y w : Fin 512 → EReal) : EReal :=
  Ideal.logistic (∑ l, h l * wm l + bm) * ∑ l, y l * w l

/-- The merged row: the three branches' gated projections added. -/
def merged (h : Fin 1024 → EReal) (wm : Fin 1024 → Fin 3072 → EReal) (bm : Fin 3072 → EReal) (ya yb yc : Fin 512 → EReal)
    (wa wb wc : Fin 512 → Fin 1024 → EReal) (k : Fin 1024) : EReal :=
  branch h (fun l => wm l ⟨k.val, by omega⟩) (bm ⟨k.val, by omega⟩) ya (fun l => wa l k)
    + branch h (fun l => wm l ⟨1024 + k.val, by omega⟩) (bm ⟨1024 + k.val, by omega⟩) yb (fun l => wb l k)
    + branch h (fun l => wm l ⟨2048 + k.val, by omega⟩) (bm ⟨2048 + k.val, by omega⟩) yc (fun l => wc l k)

/-- The new residual row: the row plus the gate times the merged row's output projection. -/
def residual (x gate : Fin 1024 → EReal) (mg : Fin 1024 → EReal) (wo : Fin 1024 → Fin 1024 → EReal) (j : Fin 1024) : EReal :=
  x j + gate j * ∑ k, mg k * wo k j

end Rows

end
-- ==== Proof.RowsIn.lean ====
/- The input projection's mathematics of ONE token row, on the extended reals: the projected row, the rotation of a pair
   of columns, and the order in which the kernel's output row holds them. Nothing here mentions a program. -/
module

public import proofs.«01_k».proof.Proof.Rows

@[expose] public section

noncomputable section

open Idealize.ShloMosaic

namespace Rows

/-- One column of the projected row: the row `h` times the weight's column. -/
def proj (h : Fin 1024 → EReal) (w : Fin 1024 → Fin 5376 → EReal) (q : Fin 5376) : EReal := ∑ k, h k * w k q

/-- A value times its logistic. -/
def silu (a : EReal) : EReal := a * Ideal.logistic a

/-- The table entry that rotates column `q`: the first 32 columns of a head of 64 use the table's first 16 entries, the
    other 32 its last 16. -/
def angle (q : Fin 5376) : Fin 32 := ⟨q.val / 32 % 2 * 16 + q.val % 16, by omega⟩

/-- One column of the row rotated in pairs sixteen columns apart. -/
def rotated (p : Fin 5376 → EReal) (cs sn : Fin 32 → EReal) (q : Fin 5376) : EReal :=
  if q.val % 32 < 16 then p q * cs (angle q) - p ⟨(q.val + 16) % 5376, by omega⟩ * sn (angle q)
  else p ⟨q.val - 16, by omega⟩ * sn (angle q) + p q * cs (angle q)

/-- The output row: the projected columns in the output's order, gates through `silu`, queries and keys rotated, and
    the retention's keys times an eighth (`e`). -/
def inRow (e : EReal) (p : Fin 5376 → EReal) (cs sn : Fin 32 → EReal) (j : Fin 5376) : EReal :=
  if h1 : j.val < 1536 then p j
  else if h2 : j.val < 2048 then silu (p j)
  else if h3 : j.val < 2560 then rotated p cs sn j
  else if h4 : j.val < 3072 then silu (p ⟨j.val + 256, by omega⟩)
  else if h5 : j.val < 3584 then rotated p cs sn ⟨j.val + 256, by omega⟩
  else if h6 : j.val < 4096 then rotated p cs sn ⟨j.val + 256, by omega⟩ * e
  else if h7 : j.val < 4608 then p ⟨j.val + 256, by omega⟩
  else if h8 : j.val < 5120 then silu (p ⟨j.val + 256, by omega⟩)
  else if h9 : j.val < 5248 then rotated p cs sn ⟨j.val - 2560, by omega⟩
  else p ⟨j.val - 2560, by omega⟩

end Rows

end
-- ==== Proof.InBlock.lean ====
/- What one block of the input-projection kernel computes, row by row: every tile the kernel stores is, at an index, a
   column of the row mathematics of `Rows`. -/
module

public import proofs.«01_k».proof.Proof.Gen.KernelInIdeal.Value
public import proofs.«01_k».proof.Proof.RowsIn
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelInIdeal.Block

open Cert.KernelInIdeal Cert.KernelInIdeal.Gen

/-- The upper half of the modulated block at row `r` is the modulated row. -/
theorem upper_at (x : Vec Ideal S1x512x1024 .f32) (nw : Vec Ideal S1x1024 .f32) (sc sh : Vec Ideal S1x1x1024 .f32)
    (r : Fin 256) (k : Fin 1024) :
    k0_pay2 x nw sc sh (ix2 r k)
      = Rows.modulated (fun k => x (ix3 0 ⟨r.val, by omega⟩ k)) (fun k => nw (ix2 0 k)) (fun k => sc (ix3 0 0 k))
          (fun k => sh (ix3 0 0 k)) k := by
  pointwise [k0_pay2, k0_pay1, Rows.modulated, Rows.eps]

/-- The lower half of the modulated block at row `r` is the modulated row 256 further down. -/
theorem lower_at (x : Vec Ideal S1x512x1024 .f32) (nw : Vec Ideal S1x1024 .f32) (sc sh : Vec Ideal S1x1x1024 .f32)
    (r : Fin 256) (k : Fin 1024) :
    k0_pay7 (k0_pay3 x) (k0_pay4 nw) (k0_pay5 sc) (k0_pay6 sh) (ix2 r k)
      = Rows.modulated (fun k => x (ix3 0 ⟨256 + r.val, by omega⟩ k)) (fun k => nw (ix2 0 k)) (fun k => sc (ix3 0 0 k))
          (fun k => sh (ix3 0 0 k)) k := by
  pointwise [k0_pay7, k0_pay3, k0_pay4, k0_pay5, k0_pay6, k0_pay1, Rows.modulated, Rows.eps]

/-- The lane mask is set on the lanes that lead a pair of sixteen. -/
theorem mask_at (r : Fin 512) (l : Fin 128) : k0_pay10 (ix2 r l) = if l.val % 32 < 16 then 1#1 else 0#1 := by
  pointwise [k0_pay10]
  revert l
  decide +kernel

/-- The two halves' products, put one above the other, are the whole block's projection. -/
theorem seg (h : Fin 512 → Fin 1024 → EReal) (g0 g1 : FVec Ideal S256x1024 .bf16)
    (H0 : ∀ (r : Fin 256) (k : Fin 1024), g0 (ix2 r k) = h ⟨r.val, by omega⟩ k)
    (H1 : ∀ (r : Fin 256) (k : Fin 1024), g1 (ix2 r k) = h ⟨256 + r.val, by omega⟩ k)
    (X X' : Fin 1024 → EReal) (w : Fin 1024 → Fin 5376 → EReal) (q : Fin 5376) (hX : ∀ k, X k = w k q) (hX' : ∀ k, X' k = w k q)
    (r : Fin 512) :
    (if hh : r.val < 256 then ∑ x, g0 (ix2 ⟨r.val, hh⟩ x) * X x else ∑ x, g1 (ix2 ⟨r.val - 256, by omega⟩ x) * X' x)
      = Rows.proj (h r) w q := by
  unfold Rows.proj
  split
  · refine Finset.sum_congr rfl fun k _ => ?_
    rw [H0, hX]
  · refine Finset.sum_congr rfl fun k _ => ?_
    rw [H1, hX']
    exact congrArg (fun i => h i k * w k q) (Fin.ext (by simp only; omega))

/-- A lane times the cosine plus its partner's lane times the signed sine is the rotated column. -/
theorem turn (p : Fin 5376 → EReal) (cs sn : Fin 32 → EReal) (q : Fin 5376) (r : Fin 512) (l : Fin 128) (a b1 b2 c s : EReal)
    (hq : q.val % 32 = l.val % 32) (ha : a = p q) (hb1 : l.val % 32 < 16 → b1 = p ⟨(q.val + 16) % 5376, by omega⟩)
    (hb2 : ¬ l.val % 32 < 16 → b2 = p ⟨q.val - 16, by omega⟩) (hc : c = cs (Rows.angle q))
    (hs : s = if l.val % 32 < 16 then -(sn (Rows.angle q)) else sn (Rows.angle q)) :
    a * c + Scalar.select (k0_pay10 (ix2 r l)) b1 b2 * s = Rows.rotated p cs sn q := by
  rw [mask_at, hs, ha, hc]
  unfold Rows.rotated
  by_cases u : l.val % 32 < 16
  · rw [if_pos u, if_pos u, if_pos (by omega), hb1 u]
    simp [Scalar.select, sub_eq_add_neg, mul_neg]
  · rw [if_neg u, if_neg u, if_neg (by omega), hb2 u, add_comm]
    simp [Scalar.select]

/-- The signed sine's entry does not depend on the tile: a tile's lanes and its columns agree modulo 64. -/
theorem signed (S : Fin 32 → EReal) (l : Fin 128) (q : Fin 5376) (hq : q.val % 64 = l.val % 64) :
    (if l.val % 32 < 16 then -(S ⟨l.val / 32 % 2 * 16 + l.val % 16, by omega⟩) else S ⟨l.val / 32 % 2 * 16 + l.val % 16, by omega⟩)
      = if l.val % 32 < 16 then -(S (Rows.angle q)) else S (Rows.angle q) := by
  rw [show (⟨l.val / 32 % 2 * 16 + l.val % 16, by omega⟩ : Fin 32) = Rows.angle q from Fin.ext (by simp only [Rows.angle]; omega)]

/-- A lane's angle is one of 32. -/
theorem lane_lt (l : Fin 128) : l.val / 32 % 2 * 16 + l.val % 16 < 32 := by omega

section tiles

variable (h : Fin 512 → Fin 1024 → EReal) (w : Fin 1024 → Fin 5376 → EReal) (C S : Fin 512 → Fin 32 → EReal)
  (g0 g1 : FVec Ideal S256x1024 .bf16) (cs sn : Vec Ideal S512x128 .f32)
  (H0 : ∀ (r : Fin 256) (k : Fin 1024), g0 (ix2 r k) = h ⟨r.val, by omega⟩ k)
  (H1 : ∀ (r : Fin 256) (k : Fin 1024), g1 (ix2 r k) = h ⟨256 + r.val, by omega⟩ k)
  (hC : ∀ (r : Fin 512) (l : Fin 128), cs (ix2 r l) = C r ⟨l.val / 32 % 2 * 16 + l.val % 16, lane_lt l⟩)
  (hS : ∀ (r : Fin 512) (l : Fin 128), sn (ix2 r l) = if l.val % 32 < 16 then -(S r ⟨l.val / 32 % 2 * 16 + l.val % 16, lane_lt l⟩)
    else S r ⟨l.val / 32 % 2 * 16 + l.val % 16, lane_lt l⟩)

/-- The output row at row `r` of the block, column `j`. -/
def want (r : Fin 512) (j : Fin 5376) : EReal :=
  Rows.inRow (Ideal.ofBits FTy.f32 1040187392#32) (Rows.proj (h r) w) (C r) (S r) j

include H0 H1

/-- The first Hyena columns. -/
theorem hy0 (W W' : Vec Ideal S1024x512 .bf16)
    (hW : ∀ (k : Fin 1024) (l : Fin 512), W (ix2 k l) = w k ⟨0 + l.val, by omega⟩)
    (hW' : ∀ (k : Fin 1024) (l : Fin 512), W' (ix2 k l) = w k ⟨0 + l.val, by omega⟩)
    (r : Fin 512) (l : Fin 512) (j : Fin 5376) (hj : j.val = 0 + l.val) :
    k0_pay11 g0 g1 W W' (ix3 0 r l) = want h w C S r j := by
  unfold want Rows.inRow
  rw [dif_pos (by omega)]
  rw [← seg h g0 g1 H0 H1 (fun k => W (ix2 k l)) (fun k => W' (ix2 k l)) w _
    (fun k => (hW k l).trans (congrArg (w k) (Fin.ext (by simp only; omega))))
    (fun k => (hW' k l).trans (congrArg (w k) (Fin.ext (by simp only; omega)))) r]
  pointwise [k0_pay11]

/-- The second Hyena columns. -/
theorem hy1 (W W' : Vec Ideal S1024x512 .bf16)
    (hW : ∀ (k : Fin 1024) (l : Fin 512), W (ix2 k l) = w k ⟨512 + l.val, by omega⟩)
    (hW' : ∀ (k : Fin 1024) (l : Fin 512), W' (ix2 k l) = w k ⟨512 + l.val, by omega⟩)
    (r : Fin 512) (l : Fin 512) (j : Fin 5376) (hj : j.val = 512 + l.val) :
    k0_pay12 g0 g1 W W' (ix3 0 r l) = want h w C S r j := by
  unfold want Rows.inRow
  rw [dif_pos (by omega)]
  rw [← seg h g0 g1 H0 H1 (fun k => W (ix2 k l)) (fun k => W' (ix2 k l)) w _
    (fun k => (hW k l).trans (congrArg (w k) (Fin.ext (by simp only; omega))))
    (fun k => (hW' k l).trans (congrArg (w k) (Fin.ext (by simp only; omega)))) r]
  pointwise [k0_pay12]

/-- The third Hyena columns. -/
theorem hy2 (W W' : Vec Ideal S1024x512 .bf16)
    (hW : ∀ (k : Fin 1024) (l : Fin 512), W (ix2 k l) = w k ⟨1024 + l.val, by omega⟩)
    (hW' : ∀ (k : Fin 1024) (l : Fin 512), W' (ix2 k l) = w k ⟨1024 + l.val, by omega⟩)
    (r : Fin 512) (l : Fin 512) (j : Fin 5376) (hj : j.val = 1024 + l.val) :
    k0_pay13 g0 g1 W W' (ix3 0 r l) = want h w C S r j := by
  unfold want Rows.inRow
  rw [dif_pos (by omega)]
  rw [← seg h g0 g1 H0 H1 (fun k => W (ix2 k l)) (fun k => W' (ix2 k l)) w _
    (fun k => (hW k l).trans (congrArg (w k) (Fin.ext (by simp only; omega))))
    (fun k => (hW' k l).trans (congrArg (w k) (Fin.ext (by simp only; omega)))) r]
  pointwise [k0_pay13]

/-- The Hyena gate. -/
theorem gh (W W' : Vec Ideal S1024x512 .bf16)
    (hW : ∀ (k : Fin 1024) (l : Fin 512), W (ix2 k l) = w k ⟨1536 + l.val, by omega⟩)
    (hW' : ∀ (k : Fin 1024) (l : Fin 512), W' (ix2 k l) = w k ⟨1536 + l.val, by omega⟩)
    (r : Fin 512) (l : Fin 512) (j : Fin 5376) (hj : j.val = 1536 + l.val) :
    k0_pay15 g1 (k0_pay14 g0 W) W' (ix3 0 r l) = want h w C S r j := by
  unfold want Rows.inRow
  rw [dif_neg (by omega), dif_pos (by omega)]
  unfold Rows.silu
  rw [← seg h g0 g1 H0 H1 (fun k => W (ix2 k l)) (fun k => W' (ix2 k l)) w _
    (fun k => (hW k l).trans (congrArg (w k) (Fin.ext (by simp only; omega))))
    (fun k => (hW' k l).trans (congrArg (w k) (Fin.ext (by simp only; omega)))) r]
  pointwise [k0_pay15, k0_pay14, Ideal.logistic]

/-- The attention gate. -/
theorem ga (W W' : Vec Ideal S1024x512 .bf16)
    (hW : ∀ (k : Fin 1024) (l : Fin 512), W (ix2 k l) = w k ⟨2816 + l.val, by omega⟩)
    (hW' : ∀ (k : Fin 1024) (l : Fin 512), W' (ix2 k l) = w k ⟨2816 + l.val, by omega⟩)
    (r : Fin 512) (l : Fin 512) (j : Fin 5376) (hj : j.val = 2560 + l.val) :
    k0_pay22 g0 g1 W W' (ix3 0 r l) = want h w C S r j := by
  unfold want Rows.inRow
  rw [dif_neg (by omega), dif_neg (by omega), dif_neg (by omega), dif_pos (by omega)]
  unfold Rows.silu
  rw [← seg h g0 g1 H0 H1 (fun k => W (ix2 k l)) (fun k => W' (ix2 k l)) w _
    (fun k => (hW k l).trans (congrArg (w k) (Fin.ext (by simp only; omega))))
    (fun k => (hW' k l).trans (congrArg (w k) (Fin.ext (by simp only; omega)))) r]
  pointwise [k0_pay22, Ideal.logistic]

/-- The retention's values. -/
theorem vr (W W' : Vec Ideal S1024x512 .bf16)
    (hW : ∀ (k : Fin 1024) (l : Fin 512), W (ix2 k l) = w k ⟨4352 + l.val, by omega⟩)
    (hW' : ∀ (k : Fin 1024) (l : Fin 512), W' (ix2 k l) = w k ⟨4352 + l.val, by omega⟩)
    (r : Fin 512) (l : Fin 512) (j : Fin 5376) (hj : j.val = 4096 + l.val) :
    k0_pay36 g0 g1 W W' (ix3 0 r l) = want h w C S r j := by
  unfold want Rows.inRow
  rw [dif_neg (by omega), dif_neg (by omega), dif_neg (by omega), dif_neg (by omega), dif_neg (by omega), dif_neg (by omega), dif_pos (by omega)]
  rw [← seg h g0 g1 H0 H1 (fun k => W (ix2 k l)) (fun k => W' (ix2 k l)) w _
    (fun k => (hW k l).trans (congrArg (w k) (Fin.ext (by simp only; omega))))
    (fun k => (hW' k l).trans (congrArg (w k) (Fin.ext (by simp only; omega)))) r]
  pointwise [k0_pay36]

/-- The retention gate. -/
theorem gr (W W' : Vec Ideal S1024x512 .bf16)
    (hW : ∀ (k : Fin 1024) (l : Fin 512), W (ix2 k l) = w k ⟨4864 + l.val, by omega⟩)
    (hW' : ∀ (k : Fin 1024) (l : Fin 512), W' (ix2 k l) = w k ⟨4864 + l.val, by omega⟩)
    (r : Fin 512) (l : Fin 512) (j : Fin 5376) (hj : j.val = 4608 + l.val) :
    k0_pay39 (k0_pay37 g0 g1 W W') (k0_pay38 g0 g1 W W') (ix3 0 r l) = want h w C S r j := by
  unfold want Rows.inRow
  rw [dif_neg (by omega), dif_neg (by omega), dif_neg (by omega), dif_neg (by omega), dif_neg (by omega), dif_neg (by omega), dif_neg (by omega), dif_pos (by omega)]
  unfold Rows.silu
  rw [← seg h g0 g1 H0 H1 (fun k => W (ix2 k l)) (fun k => W' (ix2 k l)) w _
    (fun k => (hW k l).trans (congrArg (w k) (Fin.ext (by simp only; omega))))
    (fun k => (hW' k l).trans (congrArg (w k) (Fin.ext (by simp only; omega)))) r]
  pointwise [k0_pay39, k0_pay38, k0_pay37, Ideal.logistic]

/-- The attention's values. -/
theorem va (W W' : Vec Ideal S1024x128 .bf16)
    (hW : ∀ (k : Fin 1024) (l : Fin 128), W (ix2 k l) = w k ⟨2688 + l.val, by omega⟩)
    (hW' : ∀ (k : Fin 1024) (l : Fin 128), W' (ix2 k l) = w k ⟨2688 + l.val, by omega⟩)
    (r : Fin 512) (l : Fin 128) (j : Fin 5376) (hj : j.val = 5248 + l.val) :
    k0_pay41 g0 g1 W W' (ix3 0 r l) = want h w C S r j := by
  unfold want Rows.inRow
  rw [dif_neg (by omega), dif_neg (by omega), dif_neg (by omega), dif_neg (by omega), dif_neg (by omega), dif_neg (by omega), dif_neg (by omega), dif_neg (by omega), dif_neg (by omega)]
  rw [← seg h g0 g1 H0 H1 (fun k => W (ix2 k l)) (fun k => W' (ix2 k l)) w _
    (fun k => (hW k l).trans (congrArg (w k) (Fin.ext (by simp only; omega))))
    (fun k => (hW' k l).trans (congrArg (w k) (Fin.ext (by simp only; omega)))) r]
  pointwise [k0_pay41]

/-- The attention's queries before they are rotated. -/
theorem qa_seg (W W' : Vec Ideal S1024x512 .bf16)
    (hW : ∀ (k : Fin 1024) (l : Fin 512), W (ix2 k l) = w k ⟨2048 + l.val, by omega⟩)
    (hW' : ∀ (k : Fin 1024) (l : Fin 512), W' (ix2 k l) = w k ⟨2048 + l.val, by omega⟩)
    (r l : Fin 512) (q : Fin 5376) (hq : q.val = 2048 + l.val) :
    k0_pay16 g0 g1 W W' (ix2 r l) = Rows.proj (h r) w q := by
  rw [← seg h g0 g1 H0 H1 (fun k => W (ix2 k l)) (fun k => W' (ix2 k l)) w _
    (fun k => (hW k l).trans (congrArg (w k) (Fin.ext (by simp only; omega))))
    (fun k => (hW' k l).trans (congrArg (w k) (Fin.ext (by simp only; omega)))) r]
  pointwise [k0_pay16]

/-- The retention's queries before they are rotated. -/
theorem qr_seg (W W' : Vec Ideal S1024x512 .bf16)
    (hW : ∀ (k : Fin 1024) (l : Fin 512), W (ix2 k l) = w k ⟨3328 + l.val, by omega⟩)
    (hW' : ∀ (k : Fin 1024) (l : Fin 512), W' (ix2 k l) = w k ⟨3328 + l.val, by omega⟩)
    (r l : Fin 512) (q : Fin 5376) (hq : q.val = 3328 + l.val) :
    k0_pay25 g1 (k0_pay23 g0 W) (k0_pay24 W') (constant S256x512 FTy.f32 0#32) (ix2 r l) = Rows.proj (h r) w q := by
  rw [← seg h g0 g1 H0 H1 (fun k => W (ix2 k l)) (fun k => W' (ix2 k l)) w _
    (fun k => (hW k l).trans (congrArg (w k) (Fin.ext (by simp only; omega))))
    (fun k => (hW' k l).trans (congrArg (w k) (Fin.ext (by simp only; omega)))) r]
  pointwise [k0_pay25, k0_pay23, k0_pay24]

/-- The retention's keys before they are rotated. -/
theorem kr_seg (W W' : Vec Ideal S1024x512 .bf16)
    (hW : ∀ (k : Fin 1024) (l : Fin 512), W (ix2 k l) = w k ⟨3840 + l.val, by omega⟩)
    (hW' : ∀ (k : Fin 1024) (l : Fin 512), W' (ix2 k l) = w k ⟨3840 + l.val, by omega⟩)
    (r l : Fin 512) (q : Fin 5376) (hq : q.val = 3840 + l.val) :
    k0_pay30 g0 g1 W W' (ix2 r l) = Rows.proj (h r) w q := by
  rw [← seg h g0 g1 H0 H1 (fun k => W (ix2 k l)) (fun k => W' (ix2 k l)) w _
    (fun k => (hW k l).trans (congrArg (w k) (Fin.ext (by simp only; omega))))
    (fun k => (hW' k l).trans (congrArg (w k) (Fin.ext (by simp only; omega)))) r]
  pointwise [k0_pay30]

include hC hS

/-- The first two heads of the attention's queries. -/
theorem qa0 (W W' : Vec Ideal S1024x512 .bf16)
    (hW : ∀ (k : Fin 1024) (l : Fin 512), W (ix2 k l) = w k ⟨2048 + l.val, by omega⟩)
    (hW' : ∀ (k : Fin 1024) (l : Fin 512), W' (ix2 k l) = w k ⟨2048 + l.val, by omega⟩)
    (r : Fin 512) (l : Fin 128) (j : Fin 5376) (hj : j.val = 2048 + l.val) :
    k0_pay17 g0 g1 (k0_pay8 cs) (k0_pay9 sn) k0_pay10 W W' (ix3 0 r l) = want h w C S r j := by
  unfold want Rows.inRow
  rw [dif_neg (by omega), dif_neg (by omega), dif_pos (by omega)]
  pointwise [k0_pay8, k0_pay9, k0_pay17]
  refine turn _ _ _ _ r l _ _ _ _ _ ?_ ?_ ?_ ?_ ?_ ?_
  · first | omega | (simp only; omega)
  · exact qa_seg h w g0 g1 H0 H1 W W' hW hW' r _ _ (by simp only; omega)
  · intro u; exact qa_seg h w g0 g1 H0 H1 W W' hW hW' r _ _ (by simp only; omega)
  · intro u; exact qa_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- The next two heads of the attention's queries. -/
theorem qa1 (W W' : Vec Ideal S1024x512 .bf16)
    (hW : ∀ (k : Fin 1024) (l : Fin 512), W (ix2 k l) = w k ⟨2048 + l.val, by omega⟩)
    (hW' : ∀ (k : Fin 1024) (l : Fin 512), W' (ix2 k l) = w k ⟨2048 + l.val, by omega⟩)
    (r : Fin 512) (l : Fin 128) (j : Fin 5376) (hj : j.val = 2176 + l.val) :
    k0_pay18 g0 g1 (k0_pay8 cs) (k0_pay9 sn) k0_pay10 W W' (ix3 0 r l) = want h w C S r j := by
  unfold want Rows.inRow
  rw [dif_neg (by omega), dif_neg (by omega), dif_pos (by omega)]
  pointwise [k0_pay8, k0_pay9, k0_pay18]
  refine turn _ _ _ _ r l _ _ _ _ _ ?_ ?_ ?_ ?_ ?_ ?_
  · first | omega | (simp only; omega)
  · exact qa_seg h w g0 g1 H0 H1 W W' hW hW' r _ _ (by simp only; omega)
  · intro u; exact qa_seg h w g0 g1 H0 H1 W W' hW hW' r _ _ (by simp only; omega)
  · intro u; exact qa_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- The third two heads of the attention's queries. -/
theorem qa2 (W W' : Vec Ideal S1024x512 .bf16)
    (hW : ∀ (k : Fin 1024) (l : Fin 512), W (ix2 k l) = w k ⟨2048 + l.val, by omega⟩)
    (hW' : ∀ (k : Fin 1024) (l : Fin 512), W' (ix2 k l) = w k ⟨2048 + l.val, by omega⟩)
    (r : Fin 512) (l : Fin 128) (j : Fin 5376) (hj : j.val = 2304 + l.val) :
    k0_pay20 (k0_pay8 cs) (k0_pay9 sn) k0_pay10 (k0_pay19 g0 g1 W W') 112#32 (ix3 0 r l) = want h w C S r j := by
  unfold want Rows.inRow
  rw [dif_neg (by omega), dif_neg (by omega), dif_pos (by omega)]
  pointwise [k0_pay8, k0_pay9, k0_pay20, k0_pay19]
  refine turn _ _ _ _ r l _ _ _ _ _ ?_ ?_ ?_ ?_ ?_ ?_
  · first | omega | (simp only; omega)
  · exact qa_seg h w g0 g1 H0 H1 W W' hW hW' r _ _ (by simp only; omega)
  · intro u; exact qa_seg h w g0 g1 H0 H1 W W' hW hW' r _ _ (by simp only; omega)
  · intro u; exact qa_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- The last two heads of the attention's queries. -/
theorem qa3 (W W' : Vec Ideal S1024x512 .bf16)
    (hW : ∀ (k : Fin 1024) (l : Fin 512), W (ix2 k l) = w k ⟨2048 + l.val, by omega⟩)
    (hW' : ∀ (k : Fin 1024) (l : Fin 512), W' (ix2 k l) = w k ⟨2048 + l.val, by omega⟩)
    (r : Fin 512) (l : Fin 128) (j : Fin 5376) (hj : j.val = 2432 + l.val) :
    k0_pay21 (k0_pay8 cs) (k0_pay9 sn) k0_pay10 (k0_pay16 g0 g1 W W') (ix3 0 r l) = want h w C S r j := by
  unfold want Rows.inRow
  rw [dif_neg (by omega), dif_neg (by omega), dif_pos (by omega)]
  pointwise [k0_pay8, k0_pay9, k0_pay21]
  refine turn _ _ _ _ r l _ _ _ _ _ ?_ ?_ ?_ ?_ ?_ ?_
  · first | omega | (simp only; omega)
  · exact qa_seg h w g0 g1 H0 H1 W W' hW hW' r _ _ (by simp only; omega)
  · intro u; exact qa_seg h w g0 g1 H0 H1 W W' hW hW' r _ _ (by simp only; omega)
  · intro u; exact qa_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- Two heads of the retention's queries, from head 0. -/
theorem qr0 (W W' : Vec Ideal S1024x512 .bf16)
    (hW : ∀ (k : Fin 1024) (l : Fin 512), W (ix2 k l) = w k ⟨3328 + l.val, by omega⟩)
    (hW' : ∀ (k : Fin 1024) (l : Fin 512), W' (ix2 k l) = w k ⟨3328 + l.val, by omega⟩)
    (r : Fin 512) (l : Fin 128) (j : Fin 5376) (hj : j.val = 3072 + l.val) :
    k0_pay26 g1 (k0_pay8 cs) (k0_pay9 sn) k0_pay10 (k0_pay23 g0 W) (k0_pay24 W') (constant S256x512 FTy.f32 0#32) (ix3 0 r l) = want h w C S r j := by
  unfold want Rows.inRow
  rw [dif_neg (by omega), dif_neg (by omega), dif_neg (by omega), dif_neg (by omega), dif_pos (by omega)]
  pointwise [k0_pay8, k0_pay9, k0_pay26]
  refine turn _ _ _ _ r l _ _ _ _ _ ?_ ?_ ?_ ?_ ?_ ?_
  · first | omega | (simp only; omega)
  · exact qr_seg h w g0 g1 H0 H1 W W' hW hW' r _ _ (by simp only; omega)
  · intro u; exact qr_seg h w g0 g1 H0 H1 W W' hW hW' r _ _ (by simp only; omega)
  · intro u; exact qr_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- Two heads of the retention's queries, from head 2. -/
theorem qr1 (W W' : Vec Ideal S1024x512 .bf16)
    (hW : ∀ (k : Fin 1024) (l : Fin 512), W (ix2 k l) = w k ⟨3328 + l.val, by omega⟩)
    (hW' : ∀ (k : Fin 1024) (l : Fin 512), W' (ix2 k l) = w k ⟨3328 + l.val, by omega⟩)
    (r : Fin 512) (l : Fin 128) (j : Fin 5376) (hj : j.val = 3200 + l.val) :
    k0_pay27 g1 (k0_pay8 cs) (k0_pay9 sn) k0_pay10 (k0_pay23 g0 W) (k0_pay24 W') (constant S256x512 FTy.f32 0#32) (ix3 0 r l) = want h w C S r j := by
  unfold want Rows.inRow
  rw [dif_neg (by omega), dif_neg (by omega), dif_neg (by omega), dif_neg (by omega), dif_pos (by omega)]
  pointwise [k0_pay8, k0_pay9, k0_pay27]
  refine turn _ _ _ _ r l _ _ _ _ _ ?_ ?_ ?_ ?_ ?_ ?_
  · first | omega | (simp only; omega)
  · exact qr_seg h w g0 g1 H0 H1 W W' hW hW' r _ _ (by simp only; omega)
  · intro u; exact qr_seg h w g0 g1 H0 H1 W W' hW hW' r _ _ (by simp only; omega)
  · intro u; exact qr_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- Two heads of the retention's queries, from head 4. -/
theorem qr2 (W W' : Vec Ideal S1024x512 .bf16)
    (hW : ∀ (k : Fin 1024) (l : Fin 512), W (ix2 k l) = w k ⟨3328 + l.val, by omega⟩)
    (hW' : ∀ (k : Fin 1024) (l : Fin 512), W' (ix2 k l) = w k ⟨3328 + l.val, by omega⟩)
    (r : Fin 512) (l : Fin 128) (j : Fin 5376) (hj : j.val = 3328 + l.val) :
    k0_pay28 g1 (k0_pay8 cs) (k0_pay9 sn) k0_pay10 (k0_pay23 g0 W) (k0_pay24 W') (constant S256x512 FTy.f32 0#32) (ix3 0 r l) = want h w C S r j := by
  unfold want Rows.inRow
  rw [dif_neg (by omega), dif_neg (by omega), dif_neg (by omega), dif_neg (by omega), dif_pos (by omega)]
  pointwise [k0_pay8, k0_pay9, k0_pay28]
  refine turn _ _ _ _ r l _ _ _ _ _ ?_ ?_ ?_ ?_ ?_ ?_
  · first | omega | (simp only; omega)
  · exact qr_seg h w g0 g1 H0 H1 W W' hW hW' r _ _ (by simp only; omega)
  · intro u; exact qr_seg h w g0 g1 H0 H1 W W' hW hW' r _ _ (by simp only; omega)
  · intro u; exact qr_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- Two heads of the retention's queries, from head 6. -/
theorem qr3 (W W' : Vec Ideal S1024x512 .bf16)
    (hW : ∀ (k : Fin 1024) (l : Fin 512), W (ix2 k l) = w k ⟨3328 + l.val, by omega⟩)
    (hW' : ∀ (k : Fin 1024) (l : Fin 512), W' (ix2 k l) = w k ⟨3328 + l.val, by omega⟩)
    (r : Fin 512) (l : Fin 128) (j : Fin 5376) (hj : j.val = 3456 + l.val) :
    k0_pay29 g1 (k0_pay8 cs) (k0_pay9 sn) k0_pay10 (k0_pay23 g0 W) (k0_pay24 W') (constant S256x512 FTy.f32 0#32) (ix3 0 r l) = want h w C S r j := by
  unfold want Rows.inRow
  rw [dif_neg (by omega), dif_neg (by omega), dif_neg (by omega), dif_neg (by omega), dif_pos (by omega)]
  pointwise [k0_pay8, k0_pay9, k0_pay29]
  refine turn _ _ _ _ r l _ _ _ _ _ ?_ ?_ ?_ ?_ ?_ ?_
  · first | omega | (simp only; omega)
  · exact qr_seg h w g0 g1 H0 H1 W W' hW hW' r _ _ (by simp only; omega)
  · intro u; exact qr_seg h w g0 g1 H0 H1 W W' hW hW' r _ _ (by simp only; omega)
  · intro u; exact qr_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- The first two heads of the retention's keys. -/
theorem kr0 (W W' : Vec Ideal S1024x512 .bf16)
    (hW : ∀ (k : Fin 1024) (l : Fin 512), W (ix2 k l) = w k ⟨3840 + l.val, by omega⟩)
    (hW' : ∀ (k : Fin 1024) (l : Fin 512), W' (ix2 k l) = w k ⟨3840 + l.val, by omega⟩)
    (r : Fin 512) (l : Fin 128) (j : Fin 5376) (hj : j.val = 3584 + l.val) :
    k0_pay31 g0 g1 (k0_pay8 cs) (k0_pay9 sn) k0_pay10 W W' (ix3 0 r l) = want h w C S r j := by
  unfold want Rows.inRow
  rw [dif_neg (by omega), dif_neg (by omega), dif_neg (by omega), dif_neg (by omega), dif_neg (by omega), dif_pos (by omega)]
  pointwise [k0_pay8, k0_pay9, k0_pay31]
  refine congrArg (fun v : EReal => v * Ideal.ofBits FTy.f32 1040187392#32) ?_
  refine turn _ _ _ _ r l _ _ _ _ _ ?_ ?_ ?_ ?_ ?_ ?_
  · first | omega | (simp only; omega)
  · exact kr_seg h w g0 g1 H0 H1 W W' hW hW' r _ _ (by simp only; omega)
  · intro u; exact kr_seg h w g0 g1 H0 H1 W W' hW hW' r _ _ (by simp only; omega)
  · intro u; exact kr_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- The next two heads of the retention's keys. -/
theorem kr1 (W W' : Vec Ideal S1024x512 .bf16)
    (hW : ∀ (k : Fin 1024) (l : Fin 512), W (ix2 k l) = w k ⟨3840 + l.val, by omega⟩)
    (hW' : ∀ (k : Fin 1024) (l : Fin 512), W' (ix2 k l) = w k ⟨3840 + l.val, by omega⟩)
    (r : Fin 512) (l : Fin 128) (j : Fin 5376) (hj : j.val = 3712 + l.val) :
    k0_pay32 g0 g1 (k0_pay8 cs) (k0_pay9 sn) k0_pay10 W W' (ix3 0 r l) = want h w C S r j := by
  unfold want Rows.inRow
  rw [dif_neg (by omega), dif_neg (by omega), dif_neg (by omega), dif_neg (by omega), dif_neg (by omega), dif_pos (by omega)]
  pointwise [k0_pay8, k0_pay9, k0_pay32]
  refine congrArg (fun v : EReal => v * Ideal.ofBits FTy.f32 1040187392#32) ?_
  refine turn _ _ _ _ r l _ _ _ _ _ ?_ ?_ ?_ ?_ ?_ ?_
  · first | omega | (simp only; omega)
  · exact kr_seg h w g0 g1 H0 H1 W W' hW hW' r _ _ (by simp only; omega)
  · intro u; exact kr_seg h w g0 g1 H0 H1 W W' hW hW' r _ _ (by simp only; omega)
  · intro u; exact kr_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- The third two heads of the retention's keys. -/
theorem kr2 (W W' : Vec Ideal S1024x512 .bf16)
    (hW : ∀ (k : Fin 1024) (l : Fin 512), W (ix2 k l) = w k ⟨3840 + l.val, by omega⟩)
    (hW' : ∀ (k : Fin 1024) (l : Fin 512), W' (ix2 k l) = w k ⟨3840 + l.val, by omega⟩)
    (r : Fin 512) (l : Fin 128) (j : Fin 5376) (hj : j.val = 3840 + l.val) :
    k0_pay34 (k0_pay33 g0 g1 (k0_pay8 cs) (k0_pay9 sn) k0_pay10 W W') (ix3 0 r l) = want h w C S r j := by
  unfold want Rows.inRow
  rw [dif_neg (by omega), dif_neg (by omega), dif_neg (by omega), dif_neg (by omega), dif_neg (by omega), dif_pos (by omega)]
  pointwise [k0_pay8, k0_pay9, k0_pay34, k0_pay33]
  refine congrArg (fun v : EReal => v * Ideal.ofBits FTy.f32 1040187392#32) ?_
  refine turn _ _ _ _ r l _ _ _ _ _ ?_ ?_ ?_ ?_ ?_ ?_
  · first | omega | (simp only; omega)
  · exact kr_seg h w g0 g1 H0 H1 W W' hW hW' r _ _ (by simp only; omega)
  · intro u; exact kr_seg h w g0 g1 H0 H1 W W' hW hW' r _ _ (by simp only; omega)
  · intro u; exact kr_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- The last two heads of the retention's keys. -/
theorem kr3 (W W' : Vec Ideal S1024x512 .bf16)
    (hW : ∀ (k : Fin 1024) (l : Fin 512), W (ix2 k l) = w k ⟨3840 + l.val, by omega⟩)
    (hW' : ∀ (k : Fin 1024) (l : Fin 512), W' (ix2 k l) = w k ⟨3840 + l.val, by omega⟩)
    (r : Fin 512) (l : Fin 128) (j : Fin 5376) (hj : j.val = 3968 + l.val) :
    k0_pay35 (k0_pay8 cs) (k0_pay9 sn) k0_pay10 (k0_pay30 g0 g1 W W') (ix3 0 r l) = want h w C S r j := by
  unfold want Rows.inRow
  rw [dif_neg (by omega), dif_neg (by omega), dif_neg (by omega), dif_neg (by omega), dif_neg (by omega), dif_pos (by omega)]
  pointwise [k0_pay8, k0_pay9, k0_pay35]
  refine congrArg (fun v : EReal => v * Ideal.ofBits FTy.f32 1040187392#32) ?_
  refine turn _ _ _ _ r l _ _ _ _ _ ?_ ?_ ?_ ?_ ?_ ?_
  · first | omega | (simp only; omega)
  · exact kr_seg h w g0 g1 H0 H1 W W' hW hW' r _ _ (by simp only; omega)
  · intro u; exact kr_seg h w g0 g1 H0 H1 W W' hW hW' r _ _ (by simp only; omega)
  · intro u; exact kr_seg h w g0 g1 H0 H1 W W' hW hW' r _ _ (by simp only; omega)
  · rw [hC]; exact congrArg (C r) (Fin.ext (by simp only [Rows.angle]; omega))
  · exact (hS r l).trans (signed (S r) l _ (by first | omega | (simp only; omega)))

/-- The attention's keys. -/
theorem ka (W W' : Vec Ideal S1024x128 .bf16)
    (hW : ∀ (k : Fin 1024) (l : Fin 128), W (ix2 k l) = w k ⟨2560 + l.val, by omega⟩)
    (hW' : ∀ (k : Fin 1024) (l : Fin 128), W' (ix2 k l) = w k ⟨2560 + l.val, by omega⟩)
    (r : Fin 512) (l : Fin 128) (j : Fin 5376) (hj : j.val = 5120 + l.val) :
    k0_pay40 g0 g1 (k0_pay8 cs) (k0_pay9 sn) k0_pay10 W W' (ix3 0 r l) = want h w C S r j := by
  unfold want Rows.inRow
  rw [dif_neg (by omega), dif_neg (by omega), dif_neg (by omega), dif_neg (by omega), dif_neg (by omega), dif_neg (by omega), dif_neg (by omega), dif_neg (by omega), dif_pos (by omega)]
  pointwise [k0_pay8, k0_pay9, k0_pay40]
  refine turn _ _ _ _ r l _ _ _ _ _ ?_ ?_ ?_ ?_ ?_ ?_
  · first | omega | (simp only; omega)
  · exact seg h g0 g1 H0 H1 (fun k => W (ix2 k l)) (fun k => W' (ix2 k l)) w _
      (fun k => (hW k _).trans (congrArg (w k) (Fin.ext (by simp only; omega))))
      (fun k => (hW' k _).trans (congrArg (w k) (Fin.ext (by simp only; omega)))) r
  · intro u; exact seg h g0 g1 H0 H1 (fun k => W (ix2 k ⟨(l.val + 128 - 112) % 128, by omega⟩)) (fun k => W' (ix2 k ⟨(l.val + 128 - 112) % 128, by omega⟩)) w _
      (fun k => (hW k _).trans (congrArg (w k) (Fin.ext (by simp only; omega))))
      (fun k => (hW' k _).trans (congrArg (w k) (Fin.ext (by simp only; omega)))) r
  · intro u; exact seg h g0 g1 H0 H1 (fun k => W (ix2 k ⟨(l.val + 128 - 16) % 128, by omega⟩)) (fun k => W' (ix2 k ⟨(l.val + 128 - 16) % 128, by omega⟩)) w _
      (fun k => (hW k _).trans (congrArg (w k) (Fin.ext (by simp only; omega))))
      (fun k => (hW' k _).trans (congrArg (w k) (Fin.ext (by simp only; omega)))) r
  · rw [hC]; exact congrArg (C r) (Fin.ext (by simp only [Rows.angle]; omega))
  · exact (hS r l).trans (signed (S r) l _ (by first | omega | (simp only; omega)))

end tiles

end Cert.KernelInIdeal.Block

end
-- ==== Proof.InValue.lean ====
/- What the input-projection kernel's result array holds after the run: at every token, the row mathematics of `Rows` over
   the argument arrays. -/
module

public import proofs.«01_k».proof.Proof.InBlock

@[expose] public section

set_option maxRecDepth 16384

noncomputable section

open Idealize.ShloMosaic Idealize.ShloMosaic.TcCoe Idealize.SL.Sem
open Idealize.ShloMosaic.Pipeline (Dat)

namespace Cert.KernelInIdeal.Hand

open Cert.KernelInIdeal Cert.KernelInIdeal.Gen Cert.KernelInIdeal.Block

variable (m : (ℓ : Loc nD τ sig) → Buf (Elt Ideal) ℓ)

/-- The windows' block indices at every grid point. -/
theorem idx : ∀ t : Fin cfg0.N,
    win0_0.index t = ![(grid0.coords t 0).val, (grid0.coords t 1).val, 0]
    ∧ win0_1.index t = ![(grid0.coords t 0).val, 0, 0] ∧ win0_2.index t = ![(grid0.coords t 0).val, 0, 0]
    ∧ win0_3.index t = ![0, 0] ∧ win0_4.index t = ![0, 0]
    ∧ win0_5.index t = ![(grid0.coords t 1).val, 0] ∧ win0_6.index t = ![(grid0.coords t 1).val, 0]
    ∧ win0_7.index t = ![(grid0.coords t 0).val, (grid0.coords t 1).val, 0] :=
  (by decide +kernel : ∀ t : Fin grid0.N, _)

/-- The grid has eight batch steps and eight row steps. -/
theorem coords_lt : ∀ t : Fin cfg0.N, (grid0.coords t 0).val < 8 ∧ (grid0.coords t 1).val < 8 :=
  (by decide +kernel : ∀ t : Fin grid0.N, _)

/-- The batch a grid point works on. -/
def bat (t : Fin cfg0.N) : Fin 8 := ⟨(grid0.coords t 0).val, (coords_lt t).1⟩

/-- The token row that sits at row `r` of a grid point's block. -/
def row (t : Fin cfg0.N) (r : Fin 512) : Fin 4096 :=
  ⟨(grid0.coords t 1).val * 512 + r.val, by have := (coords_lt t).2; omega⟩

/-- The token block. -/
theorem r0 (c : Dev nD) (t : Fin cfg0.N) (r : Fin 512) (l : Fin 1024) :
    iblk m c 0 t (ix3 0 r l) = m ((c : Thread nD τ).loc main_arg0) (ix3 (bat t) (row t r) l) := by
  blk_ext [iblk, V, idx t, bat, row]

/-- The shift's block. -/
theorem r1 (c : Dev nD) (t : Fin cfg0.N) (l : Fin 1024) :
    iblk m c 1 t (ix3 0 0 l) = m ((c : Thread nD τ).loc main_arg1) (ix3 (bat t) 0 l) := by
  blk_ext [iblk, V, idx t, bat, row]

/-- The scale's block. -/
theorem r2 (c : Dev nD) (t : Fin cfg0.N) (l : Fin 1024) :
    iblk m c 2 t (ix3 0 0 l) = m ((c : Thread nD τ).loc main_arg2) (ix3 (bat t) 0 l) := by
  blk_ext [iblk, V, idx t, bat, row]

/-- The norm's weight. -/
theorem r3 (c : Dev nD) (t : Fin cfg0.N) (l : Fin 1024) :
    iblk m c 3 t (ix2 0 l) = m ((c : Thread nD τ).loc main_arg3) (ix1 l) := by
  have h : iblk m c 3 t (ix2 0 l) = V m c main_v14 (ix2 0 l) := by blk_ext [iblk, idx t]
  rw [h]
  entry_read
  pointwise []

/-- The projection's weights. -/
theorem r4 (c : Dev nD) (t : Fin cfg0.N) (k : Fin 1024) (l : Fin 5376) :
    iblk m c 4 t (ix2 k l) = m ((c : Thread nD τ).loc main_arg4) (ix2 k l) := by
  have h : iblk m c 4 t (ix2 k l) = V m c main_v15 (ix2 k l) := by blk_ext [iblk, idx t]
  rw [h]
  entry_read
  pointwise []

/-- Four pieces of sixteen columns laid twice side by side make 128 columns of an array, if each makes its columns of it. -/
theorem table_at (y0 y1 y2 y3 : FVec Ideal S4096x16 .f32) (r : Fin 4096) (l : Fin 128) (v : EReal)
    (h0 : ∀ k : Fin 16, l.val % 64 = k.val → y0 (ix2 r k) = v) (h1 : ∀ k : Fin 16, l.val % 64 = 16 + k.val → y1 (ix2 r k) = v)
    (h2 : ∀ k : Fin 16, l.val % 64 = 32 + k.val → y2 (ix2 r k) = v) (h3 : ∀ k : Fin 16, l.val % 64 = 48 + k.val → y3 (ix2 r k) = v) :
    concatenate S4096x128 1
        [⟨S4096x64, concatenate S4096x64 1 [⟨S4096x16, y0⟩, ⟨S4096x16, y1⟩, ⟨S4096x16, y2⟩, ⟨S4096x16, y3⟩]
            concatenates_S4096x16_S4096x16_S4096x16_S4096x16_S4096x64_d1⟩,
          ⟨S4096x64, concatenate S4096x64 1 [⟨S4096x16, y0⟩, ⟨S4096x16, y1⟩, ⟨S4096x16, y2⟩, ⟨S4096x16, y3⟩]
            concatenates_S4096x16_S4096x16_S4096x16_S4096x16_S4096x64_d1⟩]
        concatenates_S4096x64_S4096x64_S4096x128_d1 (ix2 r l) = v := by
  pointwise []
  split_ifs <;> first
    | exact h0 _ (by first | omega | (simp only; omega))
    | exact h1 _ (by first | omega | (simp only; omega))
    | exact h2 _ (by first | omega | (simp only; omega))
    | exact h3 _ (by first | omega | (simp only; omega))

/-- The cosine table is one head's table twice. -/
theorem v12 (c : Dev nD) : V m c main_v12
    = concatenate S4096x128 1 [⟨S4096x64, V m c main_v4⟩, ⟨S4096x64, V m c main_v4⟩] concatenates_S4096x64_S4096x64_S4096x128_d1 := by
  unfold V
  rfl

/-- One head's cosine table is four pieces of sixteen columns. -/
theorem v4 (c : Dev nD) : V m c main_v4
    = concatenate S4096x64 1 [⟨S4096x16, V m c main_v0⟩, ⟨S4096x16, V m c main_v1⟩, ⟨S4096x16, V m c main_v2⟩,
        ⟨S4096x16, V m c main_v3⟩] concatenates_S4096x16_S4096x16_S4096x16_S4096x16_S4096x64_d1 := by
  unfold V
  rfl

/-- The sine table is one head's table twice. -/
theorem v13 (c : Dev nD) : V m c main_v13
    = concatenate S4096x128 1 [⟨S4096x64, V m c main_v11⟩, ⟨S4096x64, V m c main_v11⟩] concatenates_S4096x64_S4096x64_S4096x128_d1 := by
  unfold V
  rfl

/-- One head's sine table is four pieces of sixteen columns. -/
theorem v11 (c : Dev nD) : V m c main_v11
    = concatenate S4096x64 1 [⟨S4096x16, V m c main_v6⟩, ⟨S4096x16, V m c main_v7⟩, ⟨S4096x16, V m c main_v9⟩,
        ⟨S4096x16, V m c main_v10⟩] concatenates_S4096x16_S4096x16_S4096x16_S4096x16_S4096x64_d1 := by
  unfold V
  rfl

/-- A piece of the cosine table. -/
theorem p0 (c : Dev nD) (r : Fin 4096) (k : Fin 16) : V m c main_v0 (ix2 r k) = m ((c : Thread nD τ).loc main_arg5) (ix2 r ⟨0 + k.val, by omega⟩) := by
  have h : V m c main_v0 = extractStridedSlice S4096x16 ![0, 0] (m ((c : Thread nD τ).loc main_arg5)) slices_S4096x32_S4096x16_0_0 := by
    unfold V
    rfl
  rw [h]
  pointwise []

/-- A piece of the cosine table. -/
theorem p1 (c : Dev nD) (r : Fin 4096) (k : Fin 16) : V m c main_v1 (ix2 r k) = m ((c : Thread nD τ).loc main_arg5) (ix2 r ⟨0 + k.val, by omega⟩) := by
  have h : V m c main_v1 = extractStridedSlice S4096x16 ![0, 0] (m ((c : Thread nD τ).loc main_arg5)) slices_S4096x32_S4096x16_0_0 := by
    unfold V
    rfl
  rw [h]
  pointwise []

/-- A piece of the cosine table. -/
theorem p2 (c : Dev nD) (r : Fin 4096) (k : Fin 16) : V m c main_v2 (ix2 r k) = m ((c : Thread nD τ).loc main_arg5) (ix2 r ⟨16 + k.val, by omega⟩) := by
  have h : V m c main_v2 = extractStridedSlice S4096x16 ![0, 16] (m ((c : Thread nD τ).loc main_arg5)) slices_S4096x32_S4096x16_0_16 := by
    unfold V
    rfl
  rw [h]
  pointwise []

/-- A piece of the cosine table. -/
theorem p3 (c : Dev nD) (r : Fin 4096) (k : Fin 16) : V m c main_v3 (ix2 r k) = m ((c : Thread nD τ).loc main_arg5) (ix2 r ⟨16 + k.val, by omega⟩) := by
  have h : V m c main_v3 = extractStridedSlice S4096x16 ![0, 16] (m ((c : Thread nD τ).loc main_arg5)) slices_S4096x32_S4096x16_0_16 := by
    unfold V
    rfl
  rw [h]
  pointwise []

/-- A piece of the sine table. -/
theorem p6 (c : Dev nD) (r : Fin 4096) (k : Fin 16) : V m c main_v6 (ix2 r k) = -(show EReal from m ((c : Thread nD τ).loc main_arg6) (ix2 r ⟨0 + k.val, by omega⟩)) := by
  have h : V m c main_v6 = (Host.negf (extractStridedSlice S4096x16 ![0, 0]
      (show FVec Ideal S4096x32 .f32 from (m ((c : Thread nD τ).loc main_arg6))) slices_S4096x32_S4096x16_0_0 : FVec Ideal S4096x16 .f32) : FVec Ideal S4096x16 .f32) := by
    unfold V
    rfl
  rw [h]
  pointwise []

/-- A piece of the sine table. -/
theorem p7 (c : Dev nD) (r : Fin 4096) (k : Fin 16) : V m c main_v7 (ix2 r k) = m ((c : Thread nD τ).loc main_arg6) (ix2 r ⟨0 + k.val, by omega⟩) := by
  have h : V m c main_v7 = extractStridedSlice S4096x16 ![0, 0] (m ((c : Thread nD τ).loc main_arg6)) slices_S4096x32_S4096x16_0_0 := by
    unfold V
    rfl
  rw [h]
  pointwise []

/-- A piece of the sine table. -/
theorem p9 (c : Dev nD) (r : Fin 4096) (k : Fin 16) : V m c main_v9 (ix2 r k) = -(show EReal from m ((c : Thread nD τ).loc main_arg6) (ix2 r ⟨16 + k.val, by omega⟩)) := by
  have h : V m c main_v9 = (Host.negf (extractStridedSlice S4096x16 ![0, 16]
      (show FVec Ideal S4096x32 .f32 from (m ((c : Thread nD τ).loc main_arg6))) slices_S4096x32_S4096x16_0_16 : FVec Ideal S4096x16 .f32) : FVec Ideal S4096x16 .f32) := by
    unfold V
    rfl
  rw [h]
  pointwise []

/-- A piece of the sine table. -/
theorem p10 (c : Dev nD) (r : Fin 4096) (k : Fin 16) : V m c main_v10 (ix2 r k) = m ((c : Thread nD τ).loc main_arg6) (ix2 r ⟨16 + k.val, by omega⟩) := by
  have h : V m c main_v10 = extractStridedSlice S4096x16 ![0, 16] (m ((c : Thread nD τ).loc main_arg6)) slices_S4096x32_S4096x16_0_16 := by
    unfold V
    rfl
  rw [h]
  pointwise []

/-- The cosine block: at a lane, the table's entry of the lane's angle. -/
theorem r5 (c : Dev nD) (t : Fin cfg0.N) (r : Fin 512) (l : Fin 128) :
    iblk m c 5 t (ix2 r l)
      = m ((c : Thread nD τ).loc main_arg5) (ix2 (row t r) ⟨l.val / 32 % 2 * 16 + l.val % 16, by omega⟩) := by
  have h : iblk m c 5 t (ix2 r l) = V m c main_v12 (ix2 (row t r) l) := by blk_ext [iblk, idx t, row]
  have e : ∀ k k' : Fin 32, k.val = k'.val → m ((c : Thread nD τ).loc main_arg5) (ix2 (row t r) k)
      = m ((c : Thread nD τ).loc main_arg5) (ix2 (row t r) k') := fun k k' hk =>
    congrArg (fun k => m ((c : Thread nD τ).loc main_arg5) (ix2 (row t r) k)) (Fin.ext hk)
  rw [h, v12, v4]
  refine table_at _ _ _ _ _ _ _ (fun k hk => ?_) (fun k hk => ?_) (fun k hk => ?_) (fun k hk => ?_)
  · exact (p0 m c _ k).trans (e _ _ (by simp only; omega))
  · exact (p1 m c _ k).trans (e _ _ (by simp only; omega))
  · exact (p2 m c _ k).trans (e _ _ (by simp only; omega))
  · exact (p3 m c _ k).trans (e _ _ (by simp only; omega))

/-- The sine block: at a lane, the table's entry of the lane's angle, negated on the lanes that lead a pair. -/
theorem r6 (c : Dev nD) (t : Fin cfg0.N) (r : Fin 512) (l : Fin 128) :
    iblk m c 6 t (ix2 r l)
      = if l.val % 32 < 16 then
          -(show EReal from m ((c : Thread nD τ).loc main_arg6) (ix2 (row t r) ⟨l.val / 32 % 2 * 16 + l.val % 16, by omega⟩))
        else m ((c : Thread nD τ).loc main_arg6) (ix2 (row t r) ⟨l.val / 32 % 2 * 16 + l.val % 16, by omega⟩) := by
  have h : iblk m c 6 t (ix2 r l) = V m c main_v13 (ix2 (row t r) l) := by blk_ext [iblk, idx t, row]
  have e : ∀ k k' : Fin 32, k.val = k'.val → m ((c : Thread nD τ).loc main_arg6) (ix2 (row t r) k)
      = m ((c : Thread nD τ).loc main_arg6) (ix2 (row t r) k') := fun k k' hk =>
    congrArg (fun k => m ((c : Thread nD τ).loc main_arg6) (ix2 (row t r) k)) (Fin.ext hk)
  rw [h, v13, v11]
  refine table_at _ _ _ _ _ _ _ (fun k hk => ?_) (fun k hk => ?_) (fun k hk => ?_) (fun k hk => ?_)
  · rw [if_pos (by omega)]
    exact (p6 m c _ k).trans (congrArg (fun v : EReal => -v) (e _ _ (by simp only; omega)))
  · rw [if_neg (by omega)]
    exact (p7 m c _ k).trans (e _ _ (by simp only; omega))
  · rw [if_pos (by omega)]
    exact (p9 m c _ k).trans (congrArg (fun v : EReal => -v) (e _ _ (by simp only; omega)))
  · rw [if_neg (by omega)]
    exact (p10 m c _ k).trans (e _ _ (by simp only; omega))

/-- Where an entry of the output block sits in the array. -/
theorem emb7 (t : Fin cfg0.N) (r : Fin 512) (l : Fin 5376) :
    ((View.whole main_v16).slice (win0_7.rect t)).emb (ix3 0 r l) = ix3 (bat t) (row t r) l := by
  blk_ext [idx t, bat, row]

/-- The modulated row of a grid point's block, over the argument arrays. -/
def hrow (c : Dev nD) (b : Fin 8) (r : Fin 4096) : Fin 1024 → EReal :=
  Rows.modulated (fun k => m ((c : Thread nD τ).loc main_arg0) (ix3 b r k)) (fun k => m ((c : Thread nD τ).loc main_arg3) (ix1 k))
    (fun k => m ((c : Thread nD τ).loc main_arg2) (ix3 b 0 k)) (fun k => m ((c : Thread nD τ).loc main_arg1) (ix3 b 0 k))

/-- The output row at token `(b, r)`, over the argument arrays. -/
def inSpec (c : Dev nD) (b : Fin 8) (r : Fin 4096) (j : Fin 5376) : EReal :=
  Rows.inRow (Ideal.ofBits FTy.f32 1040187392#32)
    (Rows.proj (hrow m c b r) (fun k l => m ((c : Thread nD τ).loc main_arg4) (ix2 k l)))
    (fun k => m ((c : Thread nD τ).loc main_arg5) (ix2 r k)) (fun k => m ((c : Thread nD τ).loc main_arg6) (ix2 r k)) j

/-- The upper half of a grid point's modulated block, over the argument arrays. -/
theorem upper_row (c : Dev nD) (t : Fin cfg0.N) (r : Fin 256) (k : Fin 1024) :
    k0_pay2 (iblk m c 0 t) (iblk m c 3 t) (iblk m c 2 t) (iblk m c 1 t) (ix2 r k)
      = hrow m c (bat t) (row t ⟨r.val, by omega⟩) k := by
  rw [upper_at]
  simp only [r0, r1, r2, r3]
  rfl

/-- The lower half of a grid point's modulated block, over the argument arrays. -/
theorem lower_row (c : Dev nD) (t : Fin cfg0.N) (r : Fin 256) (k : Fin 1024) :
    k0_pay7 (k0_pay3 (iblk m c 0 t)) (k0_pay4 (iblk m c 3 t)) (k0_pay5 (iblk m c 2 t)) (k0_pay6 (iblk m c 1 t)) (ix2 r k)
      = hrow m c (bat t) (row t ⟨256 + r.val, by omega⟩) k := by
  rw [lower_at]
  simp only [r0, r1, r2, r3]
  rfl

set_option maxHeartbeats 2000000 in
/-- The result array: the output row at every token. -/
theorem final (c : Dev nD) : (dats m 0 c).arrAt 7 (cfgs 0).N = fun i => inSpec m c (i 0) (i 1) (i 2) := by
  refine (dats m 0 c).arrAt_eq_of_covers 7 _ (by decide +kernel) fun t _ y => ?_
  blk_simp
  rw [after0_7]
  unfold Gen.outsAt0
  dsimp only
  frame_out
  idx_vars y
  obtain rfl : y0 = 0 := Subsingleton.elim _ _
  rw [emb7 t y1 y2]
  simp only [ix3_0, ix3_1, ix3_2]
  have hU := upper_row m c t
  have hL := lower_row m c t
  have h5 := r5 m c t
  have h6 := r6 m c t
  refine Eq.trans (b := want (fun r => hrow m c (bat t) (row t r)) (fun k l => m ((c : Thread nD τ).loc main_arg4) (ix2 k l))
    (fun r k => m ((c : Thread nD τ).loc main_arg5) (ix2 (row t r) k))
    (fun r k => m ((c : Thread nD τ).loc main_arg6) (ix2 (row t r) k)) y1 y2) ?_ rfl
  canon_tiles x hx using (View.cover_of_tiledBy _ ![1, 512, 128] (by sl_kernel_rfl) _)
  all_goals
    obtain ⟨a, r, l, rfl⟩ : ∃ a r l, x = ix3 a r l := ⟨x 0, x 1, x 2, eq_ix3 x⟩
    obtain rfl : a = 0 := Subsingleton.elim _ _
    obtain rfl : y1 = r := Fin.ext hx1
  · exact va _ _ _ _ _ _ hU hL _ _ (by intro k l; pointwise []; exact r4 m c t _ _) (by intro k l; pointwise []; exact r4 m c t _ _) _ _ _ hx2
  · exact ka _ _ _ _ _ _ _ _ hU hL h5 h6 _ _ (by intro k l; pointwise []; exact r4 m c t _ _) (by intro k l; pointwise []; exact r4 m c t _ _) _ _ _ hx2
  · exact gr _ _ _ _ _ _ hU hL _ _ (by intro k l; pointwise []; exact r4 m c t _ _) (by intro k l; pointwise []; exact r4 m c t _ _) _ _ _ hx2
  · exact vr _ _ _ _ _ _ hU hL _ _ (by intro k l; pointwise []; exact r4 m c t _ _) (by intro k l; pointwise []; exact r4 m c t _ _) _ _ _ hx2
  · exact kr3 _ _ _ _ _ _ _ _ hU hL h5 h6 _ _ (by intro k l; pointwise []; exact r4 m c t _ _) (by intro k l; pointwise []; exact r4 m c t _ _) _ _ _ hx2
  · exact kr2 _ _ _ _ _ _ _ _ hU hL h5 h6 _ _ (by intro k l; pointwise []; exact r4 m c t _ _) (by intro k l; pointwise []; exact r4 m c t _ _) _ _ _ hx2
  · exact kr1 _ _ _ _ _ _ _ _ hU hL h5 h6 _ _ (by intro k l; pointwise []; exact r4 m c t _ _) (by intro k l; pointwise []; exact r4 m c t _ _) _ _ _ hx2
  · exact kr0 _ _ _ _ _ _ _ _ hU hL h5 h6 _ _ (by intro k l; pointwise []; exact r4 m c t _ _) (by intro k l; pointwise []; exact r4 m c t _ _) _ _ _ hx2
  · exact qr3 _ _ _ _ _ _ _ _ hU hL h5 h6 _ _ (by intro k l; pointwise []; exact r4 m c t _ _) (by intro k l; pointwise []; exact r4 m c t _ _) _ _ _ hx2
  · exact qr2 _ _ _ _ _ _ _ _ hU hL h5 h6 _ _ (by intro k l; pointwise []; exact r4 m c t _ _) (by intro k l; pointwise []; exact r4 m c t _ _) _ _ _ hx2
  · exact qr1 _ _ _ _ _ _ _ _ hU hL h5 h6 _ _ (by intro k l; pointwise []; exact r4 m c t _ _) (by intro k l; pointwise []; exact r4 m c t _ _) _ _ _ hx2
  · exact qr0 _ _ _ _ _ _ _ _ hU hL h5 h6 _ _ (by intro k l; pointwise []; exact r4 m c t _ _) (by intro k l; pointwise []; exact r4 m c t _ _) _ _ _ hx2
  · exact ga _ _ _ _ _ _ hU hL _ _ (by intro k l; pointwise []; exact r4 m c t _ _) (by intro k l; pointwise []; exact r4 m c t _ _) _ _ _ hx2
  · exact qa3 _ _ _ _ _ _ _ _ hU hL h5 h6 _ _ (by intro k l; pointwise []; exact r4 m c t _ _) (by intro k l; pointwise []; exact r4 m c t _ _) _ _ _ hx2
  · exact qa2 _ _ _ _ _ _ _ _ hU hL h5 h6 _ _ (by intro k l; pointwise []; exact r4 m c t _ _) (by intro k l; pointwise []; exact r4 m c t _ _) _ _ _ hx2
  · exact qa1 _ _ _ _ _ _ _ _ hU hL h5 h6 _ _ (by intro k l; pointwise []; exact r4 m c t _ _) (by intro k l; pointwise []; exact r4 m c t _ _) _ _ _ hx2
  · exact qa0 _ _ _ _ _ _ _ _ hU hL h5 h6 _ _ (by intro k l; pointwise []; exact r4 m c t _ _) (by intro k l; pointwise []; exact r4 m c t _ _) _ _ _ hx2
  · exact gh _ _ _ _ _ _ hU hL _ _ (by intro k l; pointwise []; exact r4 m c t _ _) (by intro k l; pointwise []; exact r4 m c t _ _) _ _ _ hx2
  · exact hy2 _ _ _ _ _ _ hU hL _ _ (by intro k l; pointwise []; exact r4 m c t _ _) (by intro k l; pointwise []; exact r4 m c t _ _) _ _ _ hx2
  · exact hy1 _ _ _ _ _ _ hU hL _ _ (by intro k l; pointwise []; exact r4 m c t _ _) (by intro k l; pointwise []; exact r4 m c t _ _) _ _ _ hx2
  · exact hy0 _ _ _ _ _ _ hU hL _ _ (by intro k l; pointwise []; exact r4 m c t _ _) (by intro k l; pointwise []; exact r4 m c t _ _) _ _ _ (by simpa using hx2)

end Cert.KernelInIdeal.Hand

end
-- ==== Proof.InRef.lean ====
/- What the input call's reference computes: at every token, the row mathematics of `Rows` over the argument arrays. -/
module

public import proofs.«01_k».proof.Proof.Gen.ReferenceInIdeal.Run
public import proofs.«01_k».proof.Proof.RowsIn
public import Idealize.ShloMosaic.Lib.Pointwise

@[expose] public section

set_option maxRecDepth 16384

noncomputable section

open Idealize.ShloMosaic Idealize.ShloMosaic.TcCoe Idealize.SL.Sem

namespace Cert.ReferenceInIdeal.Hand

open Cert.ReferenceInIdeal Cert.ReferenceInIdeal.Gen Cert.ReferenceInIdeal.Value

variable (V : Valuation τ sig (Elt Ideal))

set_option maxHeartbeats 1000000 in
/-- Ten arrays one behind the other along the columns make the output row, if each makes its columns of it. -/
theorem cat_row (y0 : FVec Ideal S8x4096x1536 .f32) (y1 y2 y3 y4 y5 y6 y7 : FVec Ideal S8x4096x512 .f32)
    (y8 y9 : FVec Ideal S8x4096x128 .f32) (b : Fin 8) (r : Fin 4096) (j : Fin 5376) (e : EReal) (p : Fin 5376 → EReal)
    (cs sn : Fin 32 → EReal)
    (h0 : ∀ l : Fin 1536, ∀ h : j.val = 0 + l.val, y0 (ix3 b r l) = p j)
    (h1 : ∀ l : Fin 512, ∀ h : j.val = 1536 + l.val, y1 (ix3 b r l) = Rows.silu (p j))
    (h2 : ∀ l : Fin 512, ∀ h : j.val = 2048 + l.val, y2 (ix3 b r l) = Rows.rotated p cs sn j)
    (h3 : ∀ l : Fin 512, ∀ h : j.val = 2560 + l.val, y3 (ix3 b r l) = Rows.silu (p ⟨j.val + 256, by omega⟩))
    (h4 : ∀ l : Fin 512, ∀ h : j.val = 3072 + l.val, y4 (ix3 b r l) = Rows.rotated p cs sn ⟨j.val + 256, by omega⟩)
    (h5 : ∀ l : Fin 512, ∀ h : j.val = 3584 + l.val, y5 (ix3 b r l) = Rows.rotated p cs sn ⟨j.val + 256, by omega⟩ * e)
    (h6 : ∀ l : Fin 512, ∀ h : j.val = 4096 + l.val, y6 (ix3 b r l) = p ⟨j.val + 256, by omega⟩)
    (h7 : ∀ l : Fin 512, ∀ h : j.val = 4608 + l.val, y7 (ix3 b r l) = Rows.silu (p ⟨j.val + 256, by omega⟩))
    (h8 : ∀ l : Fin 128, ∀ h : j.val = 5120 + l.val, y8 (ix3 b r l) = Rows.rotated p cs sn ⟨j.val - 2560, by omega⟩)
    (h9 : ∀ l : Fin 128, ∀ h : j.val = 5248 + l.val, y9 (ix3 b r l) = p ⟨j.val - 2560, by omega⟩) :
    concatenate S8x4096x5376 2 [⟨S8x4096x1536, y0⟩, ⟨S8x4096x512, y1⟩, ⟨S8x4096x512, y2⟩, ⟨S8x4096x512, y3⟩, ⟨S8x4096x512, y4⟩,
        ⟨S8x4096x512, y5⟩, ⟨S8x4096x512, y6⟩, ⟨S8x4096x512, y7⟩, ⟨S8x4096x128, y8⟩, ⟨S8x4096x128, y9⟩]
        concatenates_S8x4096x1536_S8x4096x512_S8x4096x512_S8x4096x512_S8x4096x512_S8x4096x512_S8x4096x512_S8x4096x512_S8x4096x128_S8x4096x128_S8x4096x5376_d2
        (ix3 b r j)
      = Rows.inRow e p cs sn j := by
  pointwise []
  unfold Rows.inRow
  by_cases c0 : j.val < 1536
  · rw [dif_pos (by omega), dif_pos c0]; exact h0 _ (by simp only; omega)
  rw [dif_neg (by omega), dif_neg c0]
  by_cases c1 : j.val < 2048
  · rw [dif_pos (by omega), dif_pos c1]; exact h1 _ (by simp only; omega)
  rw [dif_neg (by omega), dif_neg c1]
  by_cases c2 : j.val < 2560
  · rw [dif_pos (by omega), dif_pos c2]; exact h2 _ (by simp only; omega)
  rw [dif_neg (by omega), dif_neg c2]
  by_cases c3 : j.val < 3072
  · rw [dif_pos (by omega), dif_pos c3]; exact h3 _ (by simp only; omega)
  rw [dif_neg (by omega), dif_neg c3]
  by_cases c4 : j.val < 3584
  · rw [dif_pos (by omega), dif_pos c4]; exact h4 _ (by simp only; omega)
  rw [dif_neg (by omega), dif_neg c4]
  by_cases c5 : j.val < 4096
  · rw [dif_pos (by omega), dif_pos c5]; exact h5 _ (by simp only; omega)
  rw [dif_neg (by omega), dif_neg c5]
  by_cases c6 : j.val < 4608
  · rw [dif_pos (by omega), dif_pos c6]; exact h6 _ (by simp only; omega)
  rw [dif_neg (by omega), dif_neg c6]
  by_cases c7 : j.val < 5120
  · rw [dif_pos (by omega), dif_pos c7]; exact h7 _ (by simp only; omega)
  rw [dif_neg (by omega), dif_neg c7]
  by_cases c8 : j.val < 5248
  · rw [dif_pos (by omega), dif_pos c8]; exact h8 _ (by simp only; omega)
  rw [dif_neg (by omega), dif_neg c8]
  exact h9 _ (by simp only; omega)

set_option maxHeartbeats 1000000 in
/-- 8 heads of 64 columns, the halves of 32 of each rotated in pairs sixteen columns apart: the entry at a column. -/
theorem rot8_at (x1 x2 z1 z2 : FVec Ideal S8x4096x8x16 .f32) (c s d e : FVec Ideal S4096x1x16 .f32)
    (p : Fin 5376 → EReal) (cs sn : Fin 32 → EReal) (b : Fin 8) (r : Fin 4096) (l : Fin 512) (q : Fin 5376)
    (hq : q.val % 64 = l.val % 64)
    (hx1 : ∀ k : Fin 16, ∀ q' : Fin 5376, q'.val = q.val / 64 * 64 + k.val → x1 (ix4 b r ⟨l.val / 64, by omega⟩ k) = p q')
    (hx2 : ∀ k : Fin 16, ∀ q' : Fin 5376, q'.val = q.val / 64 * 64 + 16 + k.val → x2 (ix4 b r ⟨l.val / 64, by omega⟩ k) = p q')
    (hz1 : ∀ k : Fin 16, ∀ q' : Fin 5376, q'.val = q.val / 64 * 64 + 32 + k.val → z1 (ix4 b r ⟨l.val / 64, by omega⟩ k) = p q')
    (hz2 : ∀ k : Fin 16, ∀ q' : Fin 5376, q'.val = q.val / 64 * 64 + 48 + k.val → z2 (ix4 b r ⟨l.val / 64, by omega⟩ k) = p q')
    (hc : ∀ k : Fin 16, ∀ a : Fin 32, a.val = k.val → c (ix3 r 0 k) = cs a)
    (hs : ∀ k : Fin 16, ∀ a : Fin 32, a.val = k.val → s (ix3 r 0 k) = sn a)
    (hd : ∀ k : Fin 16, ∀ a : Fin 32, a.val = 16 + k.val → d (ix3 r 0 k) = cs a)
    (he : ∀ k : Fin 16, ∀ a : Fin 32, a.val = 16 + k.val → e (ix3 r 0 k) = sn a) :
    (shapeCast S8x4096x512 (concatenate S8x4096x8x64 3 [⟨S8x4096x8x32, (concatenate S8x4096x8x32 3 [⟨S8x4096x8x16, (subf (mulf x1 (broadcastInDim S8x4096x8x16 ![0, 1, 2, 3] bcast_S1x4096x1x16_S8x4096x8x16_0_1_2_3 (broadcastInDim S1x4096x1x16 ![1, 2, 3] bcast_S4096x1x16_S1x4096x1x16_1_2_3 c))) (mulf x2 (broadcastInDim S8x4096x8x16 ![0, 1, 2, 3] bcast_S1x4096x1x16_S8x4096x8x16_0_1_2_3 (broadcastInDim S1x4096x1x16 ![1, 2, 3] bcast_S4096x1x16_S1x4096x1x16_1_2_3 s))))⟩,
          ⟨S8x4096x8x16, (addf (mulf x1 (broadcastInDim S8x4096x8x16 ![0, 1, 2, 3] bcast_S1x4096x1x16_S8x4096x8x16_0_1_2_3 (broadcastInDim S1x4096x1x16 ![1, 2, 3] bcast_S4096x1x16_S1x4096x1x16_1_2_3 s))) (mulf x2 (broadcastInDim S8x4096x8x16 ![0, 1, 2, 3] bcast_S1x4096x1x16_S8x4096x8x16_0_1_2_3 (broadcastInDim S1x4096x1x16 ![1, 2, 3] bcast_S4096x1x16_S1x4096x1x16_1_2_3 c))))⟩] concatenates_S8x4096x8x16_S8x4096x8x16_S8x4096x8x32_d3)⟩,
        ⟨S8x4096x8x32, (concatenate S8x4096x8x32 3 [⟨S8x4096x8x16, (subf (mulf z1 (broadcastInDim S8x4096x8x16 ![0, 1, 2, 3] bcast_S1x4096x1x16_S8x4096x8x16_0_1_2_3 (broadcastInDim S1x4096x1x16 ![1, 2, 3] bcast_S4096x1x16_S1x4096x1x16_1_2_3 d))) (mulf z2 (broadcastInDim S8x4096x8x16 ![0, 1, 2, 3] bcast_S1x4096x1x16_S8x4096x8x16_0_1_2_3 (broadcastInDim S1x4096x1x16 ![1, 2, 3] bcast_S4096x1x16_S1x4096x1x16_1_2_3 e))))⟩,
          ⟨S8x4096x8x16, (addf (mulf z1 (broadcastInDim S8x4096x8x16 ![0, 1, 2, 3] bcast_S1x4096x1x16_S8x4096x8x16_0_1_2_3 (broadcastInDim S1x4096x1x16 ![1, 2, 3] bcast_S4096x1x16_S1x4096x1x16_1_2_3 e))) (mulf z2 (broadcastInDim S8x4096x8x16 ![0, 1, 2, 3] bcast_S1x4096x1x16_S8x4096x8x16_0_1_2_3 (broadcastInDim S1x4096x1x16 ![1, 2, 3] bcast_S4096x1x16_S1x4096x1x16_1_2_3 d))))⟩] concatenates_S8x4096x8x16_S8x4096x8x16_S8x4096x8x32_d3)⟩] concatenates_S8x4096x8x32_S8x4096x8x32_S8x4096x8x64_d3)
        shapeCasts_S8x4096x8x64_S8x4096x512) (ix3 b r l)
      = Rows.rotated p cs sn q := by
  pointwise []
  unfold Rows.rotated
  by_cases u : l.val % 64 < 32
  · rw [dif_pos u]
    by_cases v : q.val % 32 < 16
    · rw [dif_pos (by omega), if_pos v]
      refine congrArg₂ (· - ·) (congrArg₂ (· * ·) (hx1 _ _ ?_) (hc _ _ ?_)) (congrArg₂ (· * ·) (hx2 _ _ ?_) (hs _ _ ?_)) <;>
        simp only [Rows.angle] <;> omega
    · rw [dif_neg (by omega), if_neg v]
      refine congrArg₂ (· + ·) (congrArg₂ (· * ·) (hx1 _ _ ?_) (hs _ _ ?_)) (congrArg₂ (· * ·) (hx2 _ _ ?_) (hc _ _ ?_)) <;>
        simp only [Rows.angle] <;> omega
  · rw [dif_neg u]
    by_cases v : q.val % 32 < 16
    · rw [dif_pos (by omega), if_pos v]
      refine congrArg₂ (· - ·) (congrArg₂ (· * ·) (hz1 _ _ ?_) (hd _ _ ?_)) (congrArg₂ (· * ·) (hz2 _ _ ?_) (he _ _ ?_)) <;>
        simp only [Rows.angle] <;> omega
    · rw [dif_neg (by omega), if_neg v]
      refine congrArg₂ (· + ·) (congrArg₂ (· * ·) (hz1 _ _ ?_) (he _ _ ?_)) (congrArg₂ (· * ·) (hz2 _ _ ?_) (hd _ _ ?_)) <;>
        simp only [Rows.angle] <;> omega

set_option maxHeartbeats 1000000 in
/-- 2 heads of 64 columns, the halves of 32 of each rotated in pairs sixteen columns apart: the entry at a column. -/
theorem rot2_at (x1 x2 z1 z2 : FVec Ideal S8x4096x2x16 .f32) (c s d e : FVec Ideal S4096x1x16 .f32)
    (p : Fin 5376 → EReal) (cs sn : Fin 32 → EReal) (b : Fin 8) (r : Fin 4096) (l : Fin 128) (q : Fin 5376)
    (hq : q.val % 64 = l.val % 64)
    (hx1 : ∀ k : Fin 16, ∀ q' : Fin 5376, q'.val = q.val / 64 * 64 + k.val → x1 (ix4 b r ⟨l.val / 64, by omega⟩ k) = p q')
    (hx2 : ∀ k : Fin 16, ∀ q' : Fin 5376, q'.val = q.val / 64 * 64 + 16 + k.val → x2 (ix4 b r ⟨l.val / 64, by omega⟩ k) = p q')
    (hz1 : ∀ k : Fin 16, ∀ q' : Fin 5376, q'.val = q.val / 64 * 64 + 32 + k.val → z1 (ix4 b r ⟨l.val / 64, by omega⟩ k) = p q')
    (hz2 : ∀ k : Fin 16, ∀ q' : Fin 5376, q'.val = q.val / 64 * 64 + 48 + k.val → z2 (ix4 b r ⟨l.val / 64, by omega⟩ k) = p q')
    (hc : ∀ k : Fin 16, ∀ a : Fin 32, a.val = k.val → c (ix3 r 0 k) = cs a)
    (hs : ∀ k : Fin 16, ∀ a : Fin 32, a.val = k.val → s (ix3 r 0 k) = sn a)
    (hd : ∀ k : Fin 16, ∀ a : Fin 32, a.val = 16 + k.val → d (ix3 r 0 k) = cs a)
    (he : ∀ k : Fin 16, ∀ a : Fin 32, a.val = 16 + k.val → e (ix3 r 0 k) = sn a) :
    (shapeCast S8x4096x128 (concatenate S8x4096x2x64 3 [⟨S8x4096x2x32, (concatenate S8x4096x2x32 3 [⟨S8x4096x2x16, (subf (mulf x1 (broadcastInDim S8x4096x2x16 ![0, 1, 2, 3] bcast_S1x4096x1x16_S8x4096x2x16_0_1_2_3 (broadcastInDim S1x4096x1x16 ![1, 2, 3] bcast_S4096x1x16_S1x4096x1x16_1_2_3 c))) (mulf x2 (broadcastInDim S8x4096x2x16 ![0, 1, 2, 3] bcast_S1x4096x1x16_S8x4096x2x16_0_1_2_3 (broadcastInDim S1x4096x1x16 ![1, 2, 3] bcast_S4096x1x16_S1x4096x1x16_1_2_3 s))))⟩,
          ⟨S8x4096x2x16, (addf (mulf x1 (broadcastInDim S8x4096x2x16 ![0, 1, 2, 3] bcast_S1x4096x1x16_S8x4096x2x16_0_1_2_3 (broadcastInDim S1x4096x1x16 ![1, 2, 3] bcast_S4096x1x16_S1x4096x1x16_1_2_3 s))) (mulf x2 (broadcastInDim S8x4096x2x16 ![0, 1, 2, 3] bcast_S1x4096x1x16_S8x4096x2x16_0_1_2_3 (broadcastInDim S1x4096x1x16 ![1, 2, 3] bcast_S4096x1x16_S1x4096x1x16_1_2_3 c))))⟩] concatenates_S8x4096x2x16_S8x4096x2x16_S8x4096x2x32_d3)⟩,
        ⟨S8x4096x2x32, (concatenate S8x4096x2x32 3 [⟨S8x4096x2x16, (subf (mulf z1 (broadcastInDim S8x4096x2x16 ![0, 1, 2, 3] bcast_S1x4096x1x16_S8x4096x2x16_0_1_2_3 (broadcastInDim S1x4096x1x16 ![1, 2, 3] bcast_S4096x1x16_S1x4096x1x16_1_2_3 d))) (mulf z2 (broadcastInDim S8x4096x2x16 ![0, 1, 2, 3] bcast_S1x4096x1x16_S8x4096x2x16_0_1_2_3 (broadcastInDim S1x4096x1x16 ![1, 2, 3] bcast_S4096x1x16_S1x4096x1x16_1_2_3 e))))⟩,
          ⟨S8x4096x2x16, (addf (mulf z1 (broadcastInDim S8x4096x2x16 ![0, 1, 2, 3] bcast_S1x4096x1x16_S8x4096x2x16_0_1_2_3 (broadcastInDim S1x4096x1x16 ![1, 2, 3] bcast_S4096x1x16_S1x4096x1x16_1_2_3 e))) (mulf z2 (broadcastInDim S8x4096x2x16 ![0, 1, 2, 3] bcast_S1x4096x1x16_S8x4096x2x16_0_1_2_3 (broadcastInDim S1x4096x1x16 ![1, 2, 3] bcast_S4096x1x16_S1x4096x1x16_1_2_3 d))))⟩] concatenates_S8x4096x2x16_S8x4096x2x16_S8x4096x2x32_d3)⟩] concatenates_S8x4096x2x32_S8x4096x2x32_S8x4096x2x64_d3)
        shapeCasts_S8x4096x2x64_S8x4096x128) (ix3 b r l)
      = Rows.rotated p cs sn q := by
  pointwise []
  unfold Rows.rotated
  by_cases u : l.val % 64 < 32
  · rw [dif_pos u]
    by_cases v : q.val % 32 < 16
    · rw [dif_pos (by omega), if_pos v]
      refine congrArg₂ (· - ·) (congrArg₂ (· * ·) (hx1 _ _ ?_) (hc _ _ ?_)) (congrArg₂ (· * ·) (hx2 _ _ ?_) (hs _ _ ?_)) <;>
        simp only [Rows.angle] <;> omega
    · rw [dif_neg (by omega), if_neg v]
      refine congrArg₂ (· + ·) (congrArg₂ (· * ·) (hx1 _ _ ?_) (hs _ _ ?_)) (congrArg₂ (· * ·) (hx2 _ _ ?_) (hc _ _ ?_)) <;>
        simp only [Rows.angle] <;> omega
  · rw [dif_neg u]
    by_cases v : q.val % 32 < 16
    · rw [dif_pos (by omega), if_pos v]
      refine congrArg₂ (· - ·) (congrArg₂ (· * ·) (hz1 _ _ ?_) (hd _ _ ?_)) (congrArg₂ (· * ·) (hz2 _ _ ?_) (he _ _ ?_)) <;>
        simp only [Rows.angle] <;> omega
    · rw [dif_neg (by omega), if_neg v]
      refine congrArg₂ (· + ·) (congrArg₂ (· * ·) (hz1 _ _ ?_) (he _ _ ?_)) (congrArg₂ (· * ·) (hz2 _ _ ?_) (hd _ _ ?_)) <;>
        simp only [Rows.angle] <;> omega

set_option maxHeartbeats 1000000 in
/-- The reference's projected array at a token: the modulated row times the weight. -/
theorem proj_at (b : Fin 8) (r : Fin 4096) (q : Fin 5376) :
    res_main_v19 V (ix3 b r q)
      = Rows.proj (Rows.modulated (fun k => V (Proc.devRef .tc main_arg0) (ix3 b r k)) (fun k => V (Proc.devRef .tc main_arg3) (ix1 k))
          (fun k => V (Proc.devRef .tc main_arg2) (ix3 b 0 k)) (fun k => V (Proc.devRef .tc main_arg1) (ix3 b 0 k)))
          (fun k l => V (Proc.devRef .tc main_arg4) (ix2 k l)) q := by
  pointwise [res_main_v19, Rows.proj, Rows.modulated, Rows.eps]

/-- The output row at token `(b, r)`, over the argument arrays. -/
def inSpec (b : Fin 8) (r : Fin 4096) (j : Fin 5376) : EReal :=
  Rows.inRow (Ideal.ofBits FTy.f32 1040187392#32)
    (Rows.proj (Rows.modulated (fun k => V (Proc.devRef .tc main_arg0) (ix3 b r k)) (fun k => V (Proc.devRef .tc main_arg3) (ix1 k))
      (fun k => V (Proc.devRef .tc main_arg2) (ix3 b 0 k)) (fun k => V (Proc.devRef .tc main_arg1) (ix3 b 0 k)))
      (fun k l => V (Proc.devRef .tc main_arg4) (ix2 k l)))
    (fun k => V (Proc.devRef .tc main_arg5) (ix2 r k)) (fun k => V (Proc.devRef .tc main_arg6) (ix2 r k)) j

/-- The projected array at two columns of the same number. -/
theorem col_eq (b : Fin 8) (r : Fin 4096) {q q' : Fin 5376} (h : q.val = q'.val) :
    res_main_v19 V (ix3 b r q) = res_main_v19 V (ix3 b r q') := by rw [Fin.ext h]

/-- The cosine table at two columns of the same number. -/
theorem tab5_eq (r : Fin 4096) {q q' : Fin 32} (h : q.val = q'.val) :
    V (Proc.devRef .tc main_arg5) (ix2 r q) = V (Proc.devRef .tc main_arg5) (ix2 r q') := by rw [Fin.ext h]

/-- The sine table at two columns of the same number. -/
theorem tab6_eq (r : Fin 4096) {q q' : Fin 32} (h : q.val = q'.val) :
    V (Proc.devRef .tc main_arg6) (ix2 r q) = V (Proc.devRef .tc main_arg6) (ix2 r q') := by rw [Fin.ext h]

set_option maxHeartbeats 2000000 in
/-- The reference's result at a token: the output row. -/
theorem row_at (b : Fin 8) (r : Fin 4096) (j : Fin 5376) :
    res_main_v241 V (ix3 b r j)
      = Rows.inRow (Ideal.ofBits FTy.f32 1040187392#32) (fun q => res_main_v19 V (ix3 b r q))
          (fun k => V (Proc.devRef .tc main_arg5) (ix2 r k)) (fun k => V (Proc.devRef .tc main_arg6) (ix2 r k)) j := by
  unfold res_main_v241
  refine cat_row _ _ _ _ _ _ _ _ _ _ b r j _ _ _ _ ?_ ?_ ?_ ?_ ?_ ?_ ?_ ?_ ?_ ?_ <;> intro l hl
  · pointwise []; exact col_eq V b r (by simp only; omega)
  · have e : (⟨1536 + l.val, by omega⟩ : Fin 5376) = j := Fin.ext (by simp only; omega)
    pointwise [res_main_v21, Rows.silu, Ideal.logistic]
    rw [e]
  · refine rot8_at _ _ _ _ _ _ _ _ _ _ _ b r _ _ ?_ ?_ ?_ ?_ ?_ ?_ ?_ ?_ ?_
    · first | omega | (simp only; omega)
    · intro k q' h; pointwise [res_main_v43, res_main_v38, res_main_v37]; exact col_eq V b r (by simp only at h ⊢; omega)
    · intro k q' h; pointwise [res_main_v44, res_main_v38, res_main_v37]; exact col_eq V b r (by simp only at h ⊢; omega)
    · intro k q' h; pointwise [res_main_v65, res_main_v60, res_main_v37]; exact col_eq V b r (by simp only at h ⊢; omega)
    · intro k q' h; pointwise [res_main_v66, res_main_v60, res_main_v37]; exact col_eq V b r (by simp only at h ⊢; omega)
    · intro k a h; pointwise [res_main_v40]; exact tab5_eq V r (by simp only at h ⊢; omega)
    · intro k a h; pointwise [res_main_v42]; exact tab6_eq V r (by simp only at h ⊢; omega)
    · intro k a h; pointwise [res_main_v62]; exact tab5_eq V r (by simp only at h ⊢; omega)
    · intro k a h; pointwise [res_main_v64]; exact tab6_eq V r (by simp only at h ⊢; omega)
  · have e : (⟨2816 + l.val, by omega⟩ : Fin 5376) = ⟨j.val + 256, by omega⟩ := Fin.ext (by simp only; omega)
    pointwise [res_main_v25, Rows.silu, Ideal.logistic]
    rw [e]
  · refine rot8_at _ _ _ _ _ _ _ _ _ _ _ b r _ _ ?_ ?_ ?_ ?_ ?_ ?_ ?_ ?_ ?_
    · first | omega | (simp only; omega)
    · intro k q' h; pointwise [res_main_v97, res_main_v92, res_main_v91]; exact col_eq V b r (by simp only at h ⊢; omega)
    · intro k q' h; pointwise [res_main_v98, res_main_v92, res_main_v91]; exact col_eq V b r (by simp only at h ⊢; omega)
    · intro k q' h; pointwise [res_main_v119, res_main_v114, res_main_v91]; exact col_eq V b r (by simp only at h ⊢; omega)
    · intro k q' h; pointwise [res_main_v120, res_main_v114, res_main_v91]; exact col_eq V b r (by simp only at h ⊢; omega)
    · intro k a h; pointwise [res_main_v94]; exact tab5_eq V r (by simp only at h ⊢; omega)
    · intro k a h; pointwise [res_main_v96]; exact tab6_eq V r (by simp only at h ⊢; omega)
    · intro k a h; pointwise [res_main_v116]; exact tab5_eq V r (by simp only at h ⊢; omega)
    · intro k a h; pointwise [res_main_v118]; exact tab6_eq V r (by simp only at h ⊢; omega)
  · refine congrArg₂ (fun u v : EReal => u * v) ?_ rfl
    refine rot8_at _ _ _ _ _ _ _ _ _ _ _ b r _ _ ?_ ?_ ?_ ?_ ?_ ?_ ?_ ?_ ?_
    · first | omega | (simp only; omega)
    · intro k q' h; pointwise [res_main_v144, res_main_v139, res_main_v138]; exact col_eq V b r (by simp only at h ⊢; omega)
    · intro k q' h; pointwise [res_main_v145, res_main_v139, res_main_v138]; exact col_eq V b r (by simp only at h ⊢; omega)
    · intro k q' h; pointwise [res_main_v166, res_main_v161, res_main_v138]; exact col_eq V b r (by simp only at h ⊢; omega)
    · intro k q' h; pointwise [res_main_v167, res_main_v161, res_main_v138]; exact col_eq V b r (by simp only at h ⊢; omega)
    · intro k a h; pointwise [res_main_v141]; exact tab5_eq V r (by simp only at h ⊢; omega)
    · intro k a h; pointwise [res_main_v143]; exact tab6_eq V r (by simp only at h ⊢; omega)
    · intro k a h; pointwise [res_main_v163]; exact tab5_eq V r (by simp only at h ⊢; omega)
    · intro k a h; pointwise [res_main_v165]; exact tab6_eq V r (by simp only at h ⊢; omega)
  · pointwise []; exact col_eq V b r (by simp only; omega)
  · have e : (⟨4864 + l.val, by omega⟩ : Fin 5376) = ⟨j.val + 256, by omega⟩ := Fin.ext (by simp only; omega)
    pointwise [res_main_v29, Rows.silu, Ideal.logistic]
    rw [e]
  · refine rot2_at _ _ _ _ _ _ _ _ _ _ _ b r _ _ ?_ ?_ ?_ ?_ ?_ ?_ ?_ ?_ ?_
    · first | omega | (simp only; omega)
    · intro k q' h; pointwise [res_main_v200, res_main_v195, res_main_v194]; exact col_eq V b r (by simp only at h ⊢; omega)
    · intro k q' h; pointwise [res_main_v201, res_main_v195, res_main_v194]; exact col_eq V b r (by simp only at h ⊢; omega)
    · intro k q' h; pointwise [res_main_v222, res_main_v217, res_main_v194]; exact col_eq V b r (by simp only at h ⊢; omega)
    · intro k q' h; pointwise [res_main_v223, res_main_v217, res_main_v194]; exact col_eq V b r (by simp only at h ⊢; omega)
    · intro k a h; pointwise [res_main_v197]; exact tab5_eq V r (by simp only at h ⊢; omega)
    · intro k a h; pointwise [res_main_v199]; exact tab6_eq V r (by simp only at h ⊢; omega)
    · intro k a h; pointwise [res_main_v219]; exact tab5_eq V r (by simp only at h ⊢; omega)
    · intro k a h; pointwise [res_main_v221]; exact tab6_eq V r (by simp only at h ⊢; omega)
  · pointwise []; exact col_eq V b r (by simp only; omega)

/-- The reference's result: the output row at every token. -/
theorem ref (i : S8x4096x5376.Idx) : res_main_v241 V i = inSpec V (i 0) (i 1) (i 2) := by
  obtain ⟨b, r, l, rfl⟩ : ∃ b r l, i = ix3 b r l := ⟨i 0, i 1, i 2, eq_ix3 i⟩
  simp only [ix3_0, ix3_1, ix3_2]
  rw [row_at, inSpec]
  exact congrArg (fun p => Rows.inRow _ p _ _ l) (funext fun q => proj_at V b r q)

end Cert.ReferenceInIdeal.Hand

end
-- ==== Proof.InClaims.lean ====
/- The claims about the input call: the frames, and the equation of the kernel's result with the reference's. -/
module

public import proofs.«01_k».proof.Defs
public import proofs.«01_k».proof.Proof.Gen.KernelIn.Frame
public import proofs.«01_k».proof.Proof.InValue
public import proofs.«01_k».proof.Proof.InRef
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.In

/-- The kernel as printed runs to the end. -/
theorem frame_kernel : Cert.quiescent_KernelIn := fun m ρ _ => Cert.KernelIn.Gen.frame m ρ

/-- The kernel's idealization runs to the end. -/
theorem frame_ideal : Cert.quiescent_KernelInIdeal := fun m ρ _ => Cert.KernelInIdeal.Gen.frame m ρ

/-- The reference's idealization runs to the end. -/
theorem frame_reference : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- The kernel's result is the reference's: the projected, gated and rotated columns at every token. -/
theorem algebraic : Cert.algebraic_KernelInIdeal_ReferenceInIdeal := by
  intro m ρ m' ρ' _ hagree
  have e : ∀ (c : Dev Cert.KernelInIdeal.nD) (b : Fin 8) (r : Fin 4096) (j : Fin 5376),
      Cert.ReferenceInIdeal.Hand.inSpec (StableHlo.launchContents m' c) b r j
        = Cert.KernelInIdeal.Hand.inSpec m c b r j := fun c b r j => by
    obtain ⟨h0, h1, h2, h3, h4, h5, h6⟩ := hagree c
    replace h0 : StableHlo.launchContents m' c (Proc.devRef .tc Cert.ReferenceInIdeal.main_arg0)
      = m ((c.tc : Thread _ _).loc Cert.KernelInIdeal.main_arg0) := h0
    replace h1 : StableHlo.launchContents m' c (Proc.devRef .tc Cert.ReferenceInIdeal.main_arg1)
      = m ((c.tc : Thread _ _).loc Cert.KernelInIdeal.main_arg1) := h1
    replace h2 : StableHlo.launchContents m' c (Proc.devRef .tc Cert.ReferenceInIdeal.main_arg2)
      = m ((c.tc : Thread _ _).loc Cert.KernelInIdeal.main_arg2) := h2
    replace h3 : StableHlo.launchContents m' c (Proc.devRef .tc Cert.ReferenceInIdeal.main_arg3)
      = m ((c.tc : Thread _ _).loc Cert.KernelInIdeal.main_arg3) := h3
    replace h4 : StableHlo.launchContents m' c (Proc.devRef .tc Cert.ReferenceInIdeal.main_arg4)
      = m ((c.tc : Thread _ _).loc Cert.KernelInIdeal.main_arg4) := h4
    replace h5 : StableHlo.launchContents m' c (Proc.devRef .tc Cert.ReferenceInIdeal.main_arg5)
      = m ((c.tc : Thread _ _).loc Cert.KernelInIdeal.main_arg5) := h5
    replace h6 : StableHlo.launchContents m' c (Proc.devRef .tc Cert.ReferenceInIdeal.main_arg6)
      = m ((c.tc : Thread _ _).loc Cert.KernelInIdeal.main_arg6) := h6
    unfold Cert.ReferenceInIdeal.Hand.inSpec Cert.KernelInIdeal.Hand.inSpec Cert.KernelInIdeal.Hand.hrow
    rw [h0, h1, h2, h3, h4, h5, h6]
  refine ⟨_, (θ_run Cert.KernelInIdeal.defs _ _).mono
      (fun r h c => ⟨(h c).1.trans (Cert.KernelInIdeal.Hand.final m c), (h c).2⟩)
      (Cert.KernelInIdeal.Value.run_blocks m ρ), ?_⟩
  exact (θ_run Cert.ReferenceInIdeal.defs _ _).mono
    (fun r h c => ⟨(h c).1.trans (funext fun i =>
      (Cert.ReferenceInIdeal.Hand.ref (StableHlo.launchContents m' c) i).trans (e c (i 0) (i 1) (i 2))), (h c).2⟩)
    (Cert.ReferenceInIdeal.Value.run m' ρ')

end Cert.Proof.In

end
-- ==== Proof.OutBlock.lean ====
/- What one block of the output-projection kernel computes, row by row: the kernel's stored payloads at an index are the
   row mathematics of `Rows` over the block's rows. -/
module

public import proofs.«01_k».proof.Proof.Gen.KernelOutIdeal.Value
public import proofs.«01_k».proof.Proof.Rows
public import proofs.«01_k».proof.Proof.Consts
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelOutIdeal.Block

open Cert.KernelOutIdeal Cert.KernelOutIdeal.Gen

/-- The modulated block at row `r` is the modulated row. -/
theorem modulated_at (v0 : Vec Ideal S1x512x1024 .f32) (v2 : Vec Ideal S1x1024 .f32) (v4 v6 : Vec Ideal S1x1x1024 .f32)
    (r : Fin 512) (l : Fin 1024) :
    k0_pay5 v0 v2 v4 v6 (ix2 r l)
      = Rows.modulated (fun k => v0 (ix3 0 r k)) (fun k => v2 (ix2 0 k)) (fun k => v4 (ix3 0 0 k)) (fun k => v6 (ix3 0 0 k)) l := by
  pointwise [k0_pay5, k0_pay4, Rows.modulated, Rows.eps]

/-- The lane mask chooses its first value on the lanes below 64, its second on the others. -/
theorem select_lane (x : Fin 128) (u v : EReal) :
    Scalar.select (IntOp.cmpi CmpIPredicate.slt (BitVec.ofNat 32 x.val) 64#32) u v = if x.val < 64 then u else v := by
  have h : IntOp.cmpi CmpIPredicate.slt (BitVec.ofNat 32 x.val) 64#32 = if x.val < 64 then 1#1 else 0#1 := by
    revert x; decide +kernel
  rw [h]; split <;> simp [Scalar.select]

/-- A sum over 128 lanes that keeps the lanes below 64 is the sum over the first 64. -/
theorem sum_low (f : Fin 128 → EReal) :
    (∑ x : Fin 128, Scalar.select (IntOp.cmpi CmpIPredicate.slt (BitVec.ofNat 32 x.val) 64#32) (f x) 0)
      = ∑ k : Fin 64, f ⟨k.val, by omega⟩ := by
  rw [Finset.sum_congr rfl fun x _ => select_lane x (f x) 0, Fin.sum_univ_two_halves 64 64 rfl]
  simp

/-- A sum over 128 lanes that keeps the lanes from 64 on is the sum over the last 64. -/
theorem sum_high (f : Fin 128 → EReal) :
    (∑ x : Fin 128, Scalar.select (IntOp.cmpi CmpIPredicate.slt (BitVec.ofNat 32 x.val) 64#32) 0 (f x))
      = ∑ k : Fin 64, f ⟨64 + k.val, by omega⟩ := by
  rw [Finset.sum_congr rfl fun x _ => select_lane x 0 (f x), Fin.sum_univ_two_halves 64 64 rfl]
  simp

/-- One lane of a tile of two heads, normed by the masked sums: the row's head norm at the tile's column. -/
theorem tile_norm (o gn g : Fin 512 → EReal) (q : Fin 4) (l : Fin 128) (L : Fin 512) (hL : L.val = 128 * q.val + l.val)
    (f : Fin 128 → EReal) (hf : ∀ x : Fin 128, f x = o ⟨128 * q.val + x.val, by omega⟩ * o ⟨128 * q.val + x.val, by omega⟩) :
    o L * Ideal.rsqrt
        (Scalar.select (IntOp.cmpi CmpIPredicate.slt (BitVec.ofNat 32 l.val) 64#32)
          (∑ x : Fin 128, Scalar.select (IntOp.cmpi CmpIPredicate.slt (BitVec.ofNat 32 x.val) 64#32) (f x) 0)
          (∑ x : Fin 128, Scalar.select (IntOp.cmpi CmpIPredicate.slt (BitVec.ofNat 32 x.val) 64#32) 0 (f x))
          * Ideal.ofBits FTy.f32 1015021568#32 + Ideal.ofBits FTy.f32 897988541#32) * gn L * g L
      = Rows.headNormed o gn g L := by
  rw [sum_low, sum_high, select_lane, ← Consts.div_64]
  unfold Rows.headNormed Rows.eps
  congr 5
  split
  · refine congrArg₂ _ (Finset.sum_congr rfl fun k _ => ?_) rfl
    have hk : (⟨128 * q.val + k.val, by omega⟩ : Fin 512) = Rows.headCol L k := by
      apply Fin.ext; simp only [Rows.headCol]; omega
    rw [hf]; simp only [hk]
  · refine congrArg₂ _ (Finset.sum_congr rfl fun k _ => ?_) rfl
    have hk : (⟨128 * q.val + (64 + k.val), by omega⟩ : Fin 512) = Rows.headCol L k := by
      apply Fin.ext; simp only [Rows.headCol]; omega
    rw [hf]; simp only [hk]

/-- The retention's normed block at row `r`: every column is the row's head norm. -/
theorem retention_at (v34 : Vec Ideal S1x512x512 .f32) (v36 : Vec Ideal S1x512 .f32) (v38 : Vec Ideal S1x512x512 .f32)
    (r l : Fin 512) :
    k0_pay19 (k0_pay8 v34) (k0_pay9 v36) (k0_pay10 v38) k0_pay11 (k0_pay12 v34 v36 v38)
        (k0_pay16 (k0_pay9 v36) (k0_pay10 v38) k0_pay11 (k0_pay13 v34) (k0_pay14 v34) (FloatOps.ofBits FTy.f32 0#32) k0_pay15)
        (k0_pay17 (k0_pay8 v34)) (k0_pay18 (k0_pay8 v34) k0_pay11) (FloatOps.ofBits FTy.f32 1015021568#32) (ix2 r l)
      = Rows.headNormed (fun k => v34 (ix3 0 r k)) (fun k => v36 (ix2 0 k)) (fun k => v38 (ix3 0 r k)) l := by
  pointwise [k0_pay19, k0_pay9, k0_pay10, k0_pay11, k0_pay17, k0_pay18, k0_pay8, k0_pay12, k0_pay16, k0_pay13, k0_pay14,
    k0_pay15]
  split
  · exact tile_norm (fun k => v34 (ix3 0 r k)) (fun k => v36 (ix2 0 k)) (fun k => v38 (ix3 0 r k)) 0 ⟨l.val, by omega⟩ l
      (by simp) _ (fun x => by simp)
  split
  · rename_i h1 h2
    have e : (⟨128 + (l.val - 128), by omega⟩ : Fin 512) = l := Fin.ext (by simp; omega)
    simp only [e]
    exact tile_norm (fun k => v34 (ix3 0 r k)) (fun k => v36 (ix2 0 k)) (fun k => v38 (ix3 0 r k)) 1 ⟨l.val - 128, by omega⟩ l
      (by simp; omega) _ (fun x => by simp)
  split
  · rename_i h1 h2 h3
    have e : (⟨256 + (l.val - 128 - 128), by omega⟩ : Fin 512) = l := Fin.ext (by simp; omega)
    simp only [e]
    exact tile_norm (fun k => v34 (ix3 0 r k)) (fun k => v36 (ix2 0 k)) (fun k => v38 (ix3 0 r k)) 2
      ⟨l.val - 128 - 128, by omega⟩ l (by simp; omega) _ (fun x => by simp)
  · rename_i h1 h2 h3
    have e : (⟨384 + (l.val - 128 - 128 - 128), by omega⟩ : Fin 512) = l := Fin.ext (by simp; omega)
    simp only [e]
    exact tile_norm (fun k => v34 (ix3 0 r k)) (fun k => v36 (ix2 0 k)) (fun k => v38 (ix3 0 r k)) 3
      ⟨l.val - 128 - 128 - 128, by omega⟩ l (by simp; omega) _ (fun x => by simp)

/-- The merged block at row `r`: the three gated branches added, each over its own third of the merge weights. -/
theorem merged_at (h : FVec Ideal S512x1024 .bf16) (ya yb yc : FVec Ideal S512x512 .f32)
    (wm1 wm2 wm3 : Vec Ideal S1024x1024 .bf16) (b1 b2 b3 : Vec Ideal S1x1024 .f32) (wa wb wc : Vec Ideal S512x1024 .bf16)
    (r : Fin 512) (l : Fin 1024) :
    k0_pay21 h ya yb yc (k0_pay20 h wm1) b1 wa wm2 b2 wb wm3 b3 wc (ix2 r l)
      = Rows.branch (fun k => h (ix2 r k)) (fun k => wm1 (ix2 k l)) (b1 (ix2 0 l)) (fun k => ya (ix2 r k)) (fun k => wa (ix2 k l))
        + Rows.branch (fun k => h (ix2 r k)) (fun k => wm2 (ix2 k l)) (b2 (ix2 0 l)) (fun k => yb (ix2 r k)) (fun k => wb (ix2 k l))
        + Rows.branch (fun k => h (ix2 r k)) (fun k => wm3 (ix2 k l)) (b3 (ix2 0 l)) (fun k => yc (ix2 r k)) (fun k => wc (ix2 k l)) := by
  pointwise [k0_pay21, k0_pay20, Rows.branch]

/-- The first stored block at row `r`: the new residual row. -/
theorem residual_at (v1 : FVec Ideal S512x1024 .f32) (v213 : FVec Ideal S512x1024 .bf16) (v214 : Vec Ideal S1024x1024 .bf16)
    (v217 : Vec Ideal S1x1x1024 .f32) (r : Fin 512) (l : Fin 1024) :
    k0_pay2 v1 v213 v214 v217 (ix3 0 r l)
      = Rows.residual (fun k => v1 (ix2 r k)) (fun k => v217 (ix3 0 0 k)) (fun k => v213 (ix2 r k)) (fun k j => v214 (ix2 k j)) l := by
  pointwise [k0_pay2, k0_pay1, Rows.residual]

/-- The second stored block at row `r`: the new residual row, normed. -/
theorem normed_at (v1 : FVec Ideal S512x1024 .f32) (v213 : FVec Ideal S512x1024 .bf16) (v214 : Vec Ideal S1024x1024 .bf16)
    (v217 : Vec Ideal S1x1x1024 .f32) (v234 : Vec Ideal S1x1024 .f32) (r : Fin 512) (l : Fin 1024) :
    k0_pay3 v1 v213 v214 v217 v234 (ix3 0 r l)
      = Rows.normed (Rows.residual (fun k => v1 (ix2 r k)) (fun k => v217 (ix3 0 0 k)) (fun k => v213 (ix2 r k))
          (fun k j => v214 (ix2 k j))) (fun k => v234 (ix2 0 k)) l := by
  pointwise [k0_pay3, k0_pay1, Rows.normed, Rows.residual, Rows.eps]

/-- The block's rows and the gate's columns enter the merge as they are. -/
theorem gated_at (v27 v29 : Vec Ideal S1x512x512 .f32) (r l : Fin 512) :
    k0_pay6 v27 v29 (ix2 r l) = v27 (ix3 0 r l) * v29 (ix3 0 r l) := by
  pointwise [k0_pay6]

end Cert.KernelOutIdeal.Block

end
-- ==== Proof.OutValue.lean ====
/- What the output-projection kernel's two result arrays hold after the run: at every token, the row mathematics of `Rows`
   over the argument arrays. -/
module

public import proofs.«01_k».proof.Proof.OutBlock

@[expose] public section

set_option maxRecDepth 16384

noncomputable section

open Idealize.ShloMosaic Idealize.ShloMosaic.TcCoe Idealize.SL.Sem
open Idealize.ShloMosaic.Pipeline (Dat)

namespace Cert.KernelOutIdeal.Hand

open Cert.KernelOutIdeal Cert.KernelOutIdeal.Gen Cert.KernelOutIdeal.Block

variable (m : (ℓ : Loc nD τ sig) → Buf (Elt Ideal) ℓ)

/-- The windows' block indices at every grid point. -/
theorem idx : ∀ t : Fin cfg0.N,
    win0_0.index t = ![(grid0.coords t 0).val, (grid0.coords t 1).val, 0]
    ∧ win0_1.index t = ![(grid0.coords t 0).val, 0, 0] ∧ win0_2.index t = ![(grid0.coords t 0).val, 0, 0]
    ∧ win0_3.index t = ![(grid0.coords t 0).val, 0, 0] ∧ win0_4.index t = ![0, 0]
    ∧ win0_5.index t = ![(grid0.coords t 0).val, (grid0.coords t 1).val, 0]
    ∧ win0_6.index t = ![(grid0.coords t 0).val, (grid0.coords t 1).val, 3]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 9]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0]
    ∧ win0_18.index t = ![(grid0.coords t 0).val, (grid0.coords t 1).val, 0]
    ∧ win0_19.index t = ![(grid0.coords t 0).val, (grid0.coords t 1).val, 0] :=
  (by decide +kernel : ∀ t : Fin grid0.N, _)

/-- The grid has eight batch steps and eight row steps. -/
theorem coords_lt : ∀ t : Fin cfg0.N, (grid0.coords t 0).val < 8 ∧ (grid0.coords t 1).val < 8 :=
  (by decide +kernel : ∀ t : Fin grid0.N, _)

/-- The batch a grid point works on. -/
def bat (t : Fin cfg0.N) : Fin 8 := ⟨(grid0.coords t 0).val, (coords_lt t).1⟩

/-- The token row that sits at row `r` of a grid point's block. -/
def row (t : Fin cfg0.N) (r : Fin 512) : Fin 4096 :=
  ⟨(grid0.coords t 1).val * 512 + r.val, by have := (coords_lt t).2; omega⟩

/-- The Hyena gate's block: the projected array at columns 1536 on. -/
theorem x6 (c : Dev nD) (t : Fin cfg0.N) (r l : Fin 512) :
    X0_6 m c t (ix3 0 r l) = m ((c : Thread nD τ).loc main_arg6) (ix3 (bat t) (row t r) ⟨1536 + l.val, by omega⟩) := by
  unfold X0_6 Pipeline.Window.fill
  rw [dif_pos (moved0_6 t _)]
  blk_ext [iblk, V, idx t, bat, row]

/-- The retention gate's block: the projected array at columns 4608 on. -/
theorem x9 (c : Dev nD) (t : Fin cfg0.N) (r l : Fin 512) :
    X0_9 m c t (ix3 0 r l) = m ((c : Thread nD τ).loc main_arg6) (ix3 (bat t) (row t r) ⟨4608 + l.val, by omega⟩) := by
  unfold X0_9 Pipeline.Window.fill
  rw [dif_pos (moved0_9 t _)]
  blk_ext [iblk, V, idx t, bat, row]

/-- The token block. -/
theorem r0 (c : Dev nD) (t : Fin cfg0.N) (r : Fin 512) (l : Fin 1024) :
    iblk m c 0 t (ix3 0 r l) = m ((c : Thread nD τ).loc main_arg0) (ix3 (bat t) (row t r) l) := by
  blk_ext [iblk, V, idx t, bat, row]

/-- The shift's block. -/
theorem r1 (c : Dev nD) (t : Fin cfg0.N) (l : Fin 1024) :
    iblk m c 1 t (ix3 0 0 l) = m ((c : Thread nD τ).loc main_arg1) (ix3 (bat t) 0 l) := by
  blk_ext [iblk, V, idx t, bat, row]

/-- The scale's block. -/
theorem r2 (c : Dev nD) (t : Fin cfg0.N) (l : Fin 1024) :
    iblk m c 2 t (ix3 0 0 l) = m ((c : Thread nD τ).loc main_arg2) (ix3 (bat t) 0 l) := by
  blk_ext [iblk, V, idx t, bat, row]

/-- The gate's block. -/
theorem r3 (c : Dev nD) (t : Fin cfg0.N) (l : Fin 1024) :
    iblk m c 3 t (ix3 0 0 l) = m ((c : Thread nD τ).loc main_arg3) (ix3 (bat t) 0 l) := by
  blk_ext [iblk, V, idx t, bat, row]

/-- The norm's weight. -/
theorem r4 (c : Dev nD) (t : Fin cfg0.N) (l : Fin 1024) :
    iblk m c 4 t (ix2 0 l) = m ((c : Thread nD τ).loc main_arg4) (ix1 l) := by
  have h : iblk m c 4 t (ix2 0 l) = V m c main_v0 (ix2 0 l) := by blk_ext [iblk, idx t]
  rw [h]
  entry_read
  pointwise []

/-- The Hyena branch's block. -/
theorem r5 (c : Dev nD) (t : Fin cfg0.N) (r : Fin 512) (l : Fin 512) :
    iblk m c 5 t (ix3 0 r l) = m ((c : Thread nD τ).loc main_arg5) (ix3 (bat t) (row t r) l) := by
  blk_ext [iblk, V, idx t, bat, row]

/-- The attention branch's block. -/
theorem r7 (c : Dev nD) (t : Fin cfg0.N) (r : Fin 512) (l : Fin 512) :
    iblk m c 7 t (ix3 0 r l) = m ((c : Thread nD τ).loc main_arg7) (ix3 (bat t) (row t r) l) := by
  blk_ext [iblk, V, idx t, bat, row]

/-- The retention branch's block. -/
theorem r8 (c : Dev nD) (t : Fin cfg0.N) (r : Fin 512) (l : Fin 512) :
    iblk m c 8 t (ix3 0 r l) = m ((c : Thread nD τ).loc main_arg8) (ix3 (bat t) (row t r) l) := by
  blk_ext [iblk, V, idx t, bat, row]

/-- The group norm's weight. -/
theorem r10 (c : Dev nD) (t : Fin cfg0.N) (l : Fin 512) :
    iblk m c 10 t (ix2 0 l) = m ((c : Thread nD τ).loc main_arg9) (ix1 l) := by
  have h : iblk m c 10 t (ix2 0 l) = V m c main_v1 (ix2 0 l) := by blk_ext [iblk, idx t]
  rw [h]
  entry_read
  pointwise []

/-- The merge weights. -/
theorem r11 (c : Dev nD) (t : Fin cfg0.N) (k : Fin 1024) (l : Fin 3072) :
    iblk m c 11 t (ix2 k l) = m ((c : Thread nD τ).loc main_arg10) (ix2 k l) := by
  have h : iblk m c 11 t (ix2 k l) = V m c main_v2 (ix2 k l) := by blk_ext [iblk, idx t]
  rw [h]
  entry_read
  pointwise []

/-- The merge bias. -/
theorem r12 (c : Dev nD) (t : Fin cfg0.N) (l : Fin 3072) :
    iblk m c 12 t (ix2 0 l) = m ((c : Thread nD τ).loc main_arg11) (ix1 l) := by
  have h : iblk m c 12 t (ix2 0 l) = V m c main_v3 (ix2 0 l) := by blk_ext [iblk, idx t]
  rw [h]
  entry_read
  pointwise []

/-- The Hyena branch's weights. -/
theorem r13 (c : Dev nD) (t : Fin cfg0.N) (k : Fin 512) (l : Fin 1024) :
    iblk m c 13 t (ix2 k l) = m ((c : Thread nD τ).loc main_arg12) (ix2 k l) := by
  have h : iblk m c 13 t (ix2 k l) = V m c main_v4 (ix2 k l) := by blk_ext [iblk, idx t]
  rw [h]
  entry_read
  pointwise []

/-- The attention branch's weights. -/
theorem r14 (c : Dev nD) (t : Fin cfg0.N) (k : Fin 512) (l : Fin 1024) :
    iblk m c 14 t (ix2 k l) = m ((c : Thread nD τ).loc main_arg13) (ix2 k l) := by
  have h : iblk m c 14 t (ix2 k l) = V m c main_v5 (ix2 k l) := by blk_ext [iblk, idx t]
  rw [h]
  entry_read
  pointwise []

/-- The retention branch's weights. -/
theorem r15 (c : Dev nD) (t : Fin cfg0.N) (k : Fin 512) (l : Fin 1024) :
    iblk m c 15 t (ix2 k l) = m ((c : Thread nD τ).loc main_arg14) (ix2 k l) := by
  have h : iblk m c 15 t (ix2 k l) = V m c main_v6 (ix2 k l) := by blk_ext [iblk, idx t]
  rw [h]
  entry_read
  pointwise []

/-- The output weights. -/
theorem r16 (c : Dev nD) (t : Fin cfg0.N) (k : Fin 1024) (l : Fin 1024) :
    iblk m c 16 t (ix2 k l) = m ((c : Thread nD τ).loc main_arg15) (ix2 k l) := by
  have h : iblk m c 16 t (ix2 k l) = V m c main_v7 (ix2 k l) := by blk_ext [iblk, idx t]
  rw [h]
  entry_read
  pointwise []

/-- The final norm's weight. -/
theorem r17 (c : Dev nD) (t : Fin cfg0.N) (l : Fin 1024) :
    iblk m c 17 t (ix2 0 l) = m ((c : Thread nD τ).loc main_arg16) (ix1 l) := by
  have h : iblk m c 17 t (ix2 0 l) = V m c main_v8 (ix2 0 l) := by blk_ext [iblk, idx t]
  rw [h]
  entry_read
  pointwise []

/-- Where index `(0, r, l)` of a grid point's first result block sits in the array. -/
theorem emb18 (t : Fin cfg0.N) (r : Fin 512) (l : Fin 1024) :
    ((View.whole main_v9_0).slice (win0_18.rect t)).emb (ix3 0 r l) = ix3 (bat t) (row t r) l := by
  blk_ext [idx t, bat, row]

/-- Where index `(0, r, l)` of a grid point's second result block sits in the array. -/
theorem emb19 (t : Fin cfg0.N) (r : Fin 512) (l : Fin 1024) :
    ((View.whole main_v9_1).slice (win0_19.rect t)).emb (ix3 0 r l) = ix3 (bat t) (row t r) l := by
  blk_ext [idx t, bat, row]

/-- The merged row at token `(b, r)`, over the argument arrays. -/
def mrow (c : Dev nD) (b : Fin 8) (r : Fin 4096) (j : Fin 1024) : EReal :=
  Rows.merged
    (Rows.modulated (fun k => m ((c : Thread nD τ).loc main_arg0) (ix3 b r k)) (fun k => m ((c : Thread nD τ).loc main_arg4) (ix1 k))
      (fun k => m ((c : Thread nD τ).loc main_arg2) (ix3 b 0 k)) (fun k => m ((c : Thread nD τ).loc main_arg1) (ix3 b 0 k)))
    (fun k l => m ((c : Thread nD τ).loc main_arg10) (ix2 k l)) (fun k => m ((c : Thread nD τ).loc main_arg11) (ix1 k))
    (Rows.gated (fun k => m ((c : Thread nD τ).loc main_arg5) (ix3 b r k))
      (fun k => m ((c : Thread nD τ).loc main_arg6) (ix3 b r ⟨1536 + k.val, by omega⟩)))
    (fun k => m ((c : Thread nD τ).loc main_arg7) (ix3 b r k))
    (Rows.headNormed (fun k => m ((c : Thread nD τ).loc main_arg8) (ix3 b r k)) (fun k => m ((c : Thread nD τ).loc main_arg9) (ix1 k))
      (fun k => m ((c : Thread nD τ).loc main_arg6) (ix3 b r ⟨4608 + k.val, by omega⟩)))
    (fun k l => m ((c : Thread nD τ).loc main_arg12) (ix2 k l)) (fun k l => m ((c : Thread nD τ).loc main_arg13) (ix2 k l))
    (fun k l => m ((c : Thread nD τ).loc main_arg14) (ix2 k l)) j

/-- The new residual at token `(b, r)`, over the argument arrays. -/
def xnew (c : Dev nD) (b : Fin 8) (r : Fin 4096) (j : Fin 1024) : EReal :=
  Rows.residual (fun k => m ((c : Thread nD τ).loc main_arg0) (ix3 b r k)) (fun k => m ((c : Thread nD τ).loc main_arg3) (ix3 b 0 k))
    (mrow m c b r) (fun k l => m ((c : Thread nD τ).loc main_arg15) (ix2 k l)) j

/-- The attention branch enters the merge as it is. -/
theorem branch_at (v32 : Vec Ideal S1x512x512 .f32) (r l : Fin 512) : k0_pay7 v32 (ix2 r l) = v32 (ix3 0 r l) := by
  pointwise [k0_pay7]

/-- The token block enters the residual as it is. -/
theorem token_at (v0 : Vec Ideal S1x512x1024 .f32) (r : Fin 512) (l : Fin 1024) : k0_pay4 v0 (ix2 r l) = v0 (ix3 0 r l) := by
  pointwise [k0_pay4]

/-- The merged block of a grid point at row `r`, over the argument arrays, the thirds of the merge weights and bias read
    where they sit. -/
theorem merged_row (c : Dev nD) (t : Fin cfg0.N) (wm1 wm2 wm3 : Vec Ideal S1024x1024 .bf16) (b1 b2 b3 : Vec Ideal S1x1024 .f32)
    (h1 : ∀ k l, wm1 (ix2 k l) = iblk m c 11 t (ix2 k ⟨l.val, by omega⟩))
    (h2 : ∀ k l, wm2 (ix2 k l) = iblk m c 11 t (ix2 k ⟨1024 + l.val, by omega⟩))
    (h3 : ∀ k l, wm3 (ix2 k l) = iblk m c 11 t (ix2 k ⟨2048 + l.val, by omega⟩))
    (e1 : ∀ l, b1 (ix2 0 l) = iblk m c 12 t (ix2 0 ⟨l.val, by omega⟩))
    (e2 : ∀ l, b2 (ix2 0 l) = iblk m c 12 t (ix2 0 ⟨1024 + l.val, by omega⟩))
    (e3 : ∀ l, b3 (ix2 0 l) = iblk m c 12 t (ix2 0 ⟨2048 + l.val, by omega⟩)) (r : Fin 512) (k : Fin 1024) :
    k0_pay21 (k0_pay5 (iblk m c 0 t) (iblk m c 4 t) (iblk m c 2 t) (iblk m c 1 t))
        (k0_pay6 (iblk m c 5 t) (X0_6 m c t)) (k0_pay7 (iblk m c 7 t))
        (k0_pay19 (k0_pay8 (iblk m c 8 t)) (k0_pay9 (iblk m c 10 t)) (k0_pay10 (X0_9 m c t)) k0_pay11
          (k0_pay12 (iblk m c 8 t) (iblk m c 10 t) (X0_9 m c t))
          (k0_pay16 (k0_pay9 (iblk m c 10 t)) (k0_pay10 (X0_9 m c t)) k0_pay11 (k0_pay13 (iblk m c 8 t))
            (k0_pay14 (iblk m c 8 t)) (FloatOps.ofBits FTy.f32 0#32) k0_pay15)
          (k0_pay17 (k0_pay8 (iblk m c 8 t))) (k0_pay18 (k0_pay8 (iblk m c 8 t)) k0_pay11)
          (FloatOps.ofBits FTy.f32 1015021568#32))
        (k0_pay20 (k0_pay5 (iblk m c 0 t) (iblk m c 4 t) (iblk m c 2 t) (iblk m c 1 t)) wm1)
        b1 (iblk m c 13 t) wm2 b2 (iblk m c 14 t) wm3 b3 (iblk m c 15 t) (ix2 r k)
      = mrow m c (bat t) (row t r) k := by
  rw [merged_at]
  simp only [retention_at, modulated_at, gated_at, branch_at, x6, x9, h1, h2, h3, e1, e2, e3,
    r0, r1, r2, r4, r5, r7, r8, r10, r11, r12, r13, r14, r15]
  simp only [mrow, Rows.merged]
  rfl

/-- The residual row is one function of its rows' entries. -/
theorem residual_congr {x x' g g' a a' : Fin 1024 → EReal} {w w' : Fin 1024 → Fin 1024 → EReal} (hx : ∀ k, x k = x' k)
    (hg : ∀ k, g k = g' k) (ha : ∀ k, a k = a' k) (hw : ∀ k j, w k j = w' k j) :
    Rows.residual x g a w = Rows.residual x' g' a' w' := by
  rw [funext hx, funext hg, funext ha, funext fun k => funext (hw k)]

set_option maxHeartbeats 1000000 in
/-- The first result array: the new residual at every token. -/
theorem final18 (c : Dev nD) : (dats m 0 c).arrAt 18 (cfgs 0).N = fun i => xnew m c (i 0) (i 1) (i 2) := by
  refine (dats m 0 c).arrAt_eq_of_covers 18 _ (by decide +kernel) fun t _ y => ?_
  blk_simp
  rw [after0_18]
  unfold Gen.outsAt0
  dsimp only
  frame_out
  idx_vars y
  obtain rfl : y0 = 0 := Subsingleton.elim _ _
  rw [emb18 t y1 y2, residual_at]
  simp only [token_at, ix3_0, ix3_1, ix3_2, xnew]
  refine congrFun (residual_congr (fun k => r0 m c t _ _) (fun k => r3 m c t _)
    (fun k => merged_row m c t _ _ _ _ _ _ ?_ ?_ ?_ ?_ ?_ ?_ _ _) (fun k j => r16 m c t _ _)) _
  all_goals intros; pointwise []

set_option maxHeartbeats 1000000 in
/-- The second result array: the new residual at every token, normed. -/
theorem final19 (c : Dev nD) : (dats m 0 c).arrAt 19 (cfgs 0).N = fun i =>
    Rows.normed (xnew m c (i 0) (i 1)) (fun k => m ((c : Thread nD τ).loc main_arg16) (ix1 k)) (i 2) := by
  refine (dats m 0 c).arrAt_eq_of_covers 19 _ (by decide +kernel) fun t _ y => ?_
  blk_simp
  rw [after0_19]
  unfold Gen.outsAt0
  dsimp only
  frame_out
  idx_vars y
  obtain rfl : y0 = 0 := Subsingleton.elim _ _
  rw [emb19 t y1 y2, normed_at]
  simp only [token_at, ix3_0, ix3_1, ix3_2, r17]
  refine congrArg (fun x => Rows.normed x _ _) ?_
  refine (residual_congr (fun k => r0 m c t _ _) (fun k => r3 m c t _)
    (fun k => merged_row m c t _ _ _ _ _ _ ?_ ?_ ?_ ?_ ?_ ?_ _ _) (fun k j => r16 m c t _ _)).trans ?_
  case refine_7 => rfl
  all_goals intros; pointwise []

end Cert.KernelOutIdeal.Hand

end
-- ==== Proof.OutRef.lean ====
/- What the output call's reference computes: at every token, the row mathematics of `Rows` over the argument arrays. -/
module

public import proofs.«01_k».proof.Proof.Gen.ReferenceOutIdeal.Run
public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.ReferenceOutIdeal.Hand

open Cert.ReferenceOutIdeal Cert.ReferenceOutIdeal.Gen Cert.ReferenceOutIdeal.Value

variable (m : (ℓ : Loc nD τ sig) → Buf (Elt Ideal) ℓ)

/-- The merged row at token `(b, r)`, over the argument arrays. -/
def mrow (c : Dev nD) (b : Fin 8) (r : Fin 4096) (j : Fin 1024) : EReal :=
  Rows.merged
    (Rows.modulated (fun k => m ((c : Thread nD τ).loc main_arg0) (ix3 b r k)) (fun k => m ((c : Thread nD τ).loc main_arg4) (ix1 k))
      (fun k => m ((c : Thread nD τ).loc main_arg2) (ix3 b 0 k)) (fun k => m ((c : Thread nD τ).loc main_arg1) (ix3 b 0 k)))
    (fun k l => m ((c : Thread nD τ).loc main_arg10) (ix2 k l)) (fun k => m ((c : Thread nD τ).loc main_arg11) (ix1 k))
    (Rows.gated (fun k => m ((c : Thread nD τ).loc main_arg5) (ix3 b r k))
      (fun k => m ((c : Thread nD τ).loc main_arg6) (ix3 b r ⟨1536 + k.val, by omega⟩)))
    (fun k => m ((c : Thread nD τ).loc main_arg7) (ix3 b r k))
    (Rows.headNormed (fun k => m ((c : Thread nD τ).loc main_arg8) (ix3 b r k)) (fun k => m ((c : Thread nD τ).loc main_arg9) (ix1 k))
      (fun k => m ((c : Thread nD τ).loc main_arg6) (ix3 b r ⟨4608 + k.val, by omega⟩)))
    (fun k l => m ((c : Thread nD τ).loc main_arg12) (ix2 k l)) (fun k l => m ((c : Thread nD τ).loc main_arg13) (ix2 k l))
    (fun k l => m ((c : Thread nD τ).loc main_arg14) (ix2 k l)) j

/-- The new residual at token `(b, r)`, over the argument arrays. -/
def xnew (c : Dev nD) (b : Fin 8) (r : Fin 4096) (j : Fin 1024) : EReal :=
  Rows.residual (fun k => m ((c : Thread nD τ).loc main_arg0) (ix3 b r k)) (fun k => m ((c : Thread nD τ).loc main_arg3) (ix3 b 0 k))
    (mrow m c b r) (fun k l => m ((c : Thread nD τ).loc main_arg15) (ix2 k l)) j

set_option maxHeartbeats 2000000 in
/-- The reference's first result: the new residual at every token. -/
theorem ref0 (c : Dev nD) : res_out0 m c = fun i => xnew m c (i 0) (i 1) (i 2) := by
  funext i
  obtain ⟨b, r, l, rfl⟩ : ∃ b r l, i = ix3 b r l := ⟨i 0, i 1, i 2, eq_ix3 i⟩
  simp only [ix3_0, ix3_1, ix3_2, res_out0]
  pointwise [res_main_v62, xnew, mrow, Rows.residual, Rows.merged, Rows.branch, Rows.modulated, Rows.headNormed, Rows.headCol,
    Rows.gated, Rows.eps, Ideal.logistic]

set_option maxHeartbeats 2000000 in
/-- The reference's second result: the new residual at every token, normed. -/
theorem ref1 (c : Dev nD) : res_out1 m c = fun i =>
    Rows.normed (xnew m c (i 0) (i 1)) (fun k => m ((c : Thread nD τ).loc main_arg16) (ix1 k)) (i 2) := by
  funext i
  obtain ⟨b, r, l, rfl⟩ : ∃ b r l, i = ix3 b r l := ⟨i 0, i 1, i 2, eq_ix3 i⟩
  simp only [ix3_0, ix3_1, ix3_2, res_out1]
  pointwise [res_main_v75, Rows.normed, xnew, mrow, Rows.residual, Rows.merged, Rows.branch, Rows.modulated, Rows.headNormed,
    Rows.headCol, Rows.gated, Rows.eps, Ideal.logistic]

end Cert.ReferenceOutIdeal.Hand

end
-- ==== Proof.OutClaims.lean ====
/- The claims about the output call: the frames, and the equation of the kernel's two results with the reference's. -/
module

public import proofs.«01_k».proof.Defs
public import proofs.«01_k».proof.Proof.Gen.KernelOut.Frame
public import proofs.«01_k».proof.Proof.OutValue
public import proofs.«01_k».proof.Proof.OutRef
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Out

/-- The kernel as printed runs to the end. -/
theorem frame_kernel : Cert.quiescent_KernelOut := fun m ρ _ => Cert.KernelOut.Gen.frame m ρ

/-- The kernel's idealization runs to the end. -/
theorem frame_ideal : Cert.quiescent_KernelOutIdeal := fun m ρ _ => Cert.KernelOutIdeal.Gen.frame m ρ

/-- The reference's idealization runs to the end. -/
theorem frame_reference : Cert.quiescent_ReferenceOutIdeal := fun m ρ _ =>
  (θ_run Cert.ReferenceOutIdeal.defs _ _).mono (fun r h => ⟨fun c => (h c).2.2, sem_eq_zero_of_no_sems (by decide) r.2⟩)
    (Cert.ReferenceOutIdeal.Value.run (F := Ideal) m ρ)

/-- The kernel's two results are the reference's: the new residual and its final norm, at every token. -/
theorem algebraic : Cert.algebraic_KernelOutIdeal_ReferenceOutIdeal := by
  intro m ρ m' ρ' _ hagree
  have e : ∀ c b r, Cert.ReferenceOutIdeal.Hand.xnew m' c b r = Cert.KernelOutIdeal.Hand.xnew m c b r := fun c b r => by
    obtain ⟨h0, h1, h2, h3, h4, h5, h6, h7, h8, h9, h10, h11, h12, h13, h14, h15, -⟩ := hagree c
    funext j
    unfold Cert.ReferenceOutIdeal.Hand.xnew Cert.ReferenceOutIdeal.Hand.mrow
    rw [h0, h1, h2, h3, h4, h5, h6, h7, h8, h9, h10, h11, h12, h13, h14, h15]
    rfl
  refine ⟨_, _, (θ_run Cert.KernelOutIdeal.defs _ _).mono
      (fun r h c => ⟨(h c).1.trans (Cert.KernelOutIdeal.Hand.final18 m c),
        (h c).2.1.trans (Cert.KernelOutIdeal.Hand.final19 m c), (h c).2.2⟩)
      (Cert.KernelOutIdeal.Value.run_blocks m ρ), ?_⟩
  refine (θ_run Cert.ReferenceOutIdeal.defs _ _).mono
    (fun r h c => ⟨(h c).1.trans ((Cert.ReferenceOutIdeal.Hand.ref0 m' c).trans ?_),
      (h c).2.1.trans ((Cert.ReferenceOutIdeal.Hand.ref1 m' c).trans ?_), (h c).2.2⟩)
    (Cert.ReferenceOutIdeal.Value.run m' ρ')
  · exact funext fun i => congrFun (e c (i 0) (i 1)) (i 2)
  · rw [(hagree c).2.2.2.2.2.2.2.2.2.2.2.2.2.2.2.2]
    exact funext fun i => congrArg (fun x => Rows.normed x _ (i 2)) (e c (i 0) (i 1))

end Cert.Proof.Out

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.KernelIn
public import proofs.«01_k».proof.Proof.Gen.KernelInIdeal
public import proofs.«01_k».proof.Proof.Gen.ReferenceInIdeal
public import proofs.«01_k».proof.Proof.Gen.KernelOut
public import proofs.«01_k».proof.Proof.Gen.KernelOutIdeal
public import proofs.«01_k».proof.Proof.Gen.ReferenceOutIdeal
public import proofs.«01_k».proof.Proof.Gen.Pre_finite
public import proofs.«01_k».proof.Proof.AttnFrames
public import proofs.«01_k».proof.Proof.AttnClaims
public import proofs.«01_k».proof.Proof.InClaims
public import proofs.«01_k».proof.Proof.OutClaims

@[expose] public section

noncomputable section

namespace Cert.Proof

open Idealize.ShloMosaic Idealize.SL.Sem

/-- Every claim of this certificate. -/
theorem claim : Cert.Claim :=
  ⟨Cert.Kernel.Gen.facts, Cert.KernelIdeal.Gen.facts, Cert.ReferenceIdeal.Gen.facts, Cert.KernelIn.Gen.facts,
    Cert.KernelInIdeal.Gen.facts, Cert.ReferenceInIdeal.Gen.facts, Cert.KernelOut.Gen.facts, Cert.KernelOutIdeal.Gen.facts,
    Cert.ReferenceOutIdeal.Gen.facts, Cert.Pre_finite.Gen.facts,
    Attn.frame_kernel, Attn.frame_ideal, Attn.frame_ideal_finite, Attn.frame_reference, Attn.frame_reference_finite,
    In.frame_kernel, In.frame_ideal, In.frame_reference,
    Out.frame_kernel, Out.frame_ideal, Out.frame_reference, Attn.preserves, Attn.algebraic, trivial, In.algebraic, trivial, Out.algebraic⟩

end Cert.Proof

end
